-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph_of_twelves [hPre_graph_of_twelves : Cert.Pre_graph_of_twelves.Facts] (m : (ℓ : Loc Cert.KernelIdeal.nD Cert.KernelIdeal.τ Cert.KernelIdeal.sig) → Buf (Elt Ideal) ℓ) : Prop :=
  ∀ c : Dev Cert.KernelIdeal.nD,
    (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.1 = (fun _ => 1#1)
    ∧ (Cert.Pre_graph_of_twelves.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_of_twelves [hPre_graph_of_twelves : Cert.Pre_graph_of_twelves.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.1 = (fun _ => 1#1)
    ∧ (Cert.Pre_graph_of_twelves.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))).2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_graph_of_twelves [hKernelIdeal : Cert.KernelIdeal.Facts] [hPre_graph_of_twelves : Cert.Pre_graph_of_twelves.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph_of_twelves m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_graph_of_twelves [hReferenceIdeal : Cert.ReferenceIdeal.Facts] [hPre_graph_of_twelves : Cert.Pre_graph_of_twelves.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_of_twelves m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  IdealRules.named_const.Statement Cert.KernelIdeal.κ "inv62" .f32 0x3C842108#32 ((1 / 62 : ℝ) : EReal)

def algebraic_KernelIdeal_ReferenceIdeal_pre_graph_of_twelves [hKernelIdeal : Cert.KernelIdeal.Facts] [hReferenceIdeal : Cert.ReferenceIdeal.Facts] [hPre_graph_of_twelves : Cert.Pre_graph_of_twelves.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph_of_twelves m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v375) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_graph_of_twelves : Cert.Pre_graph_of_twelves.Facts),
    quiescent_Kernel (hKernel := hKernel)
    ∧ quiescent_KernelIdeal (hKernelIdeal := hKernelIdeal)
    ∧ quiescent_KernelIdeal_pre_graph_of_twelves (hKernelIdeal := hKernelIdeal) (hPre_graph_of_twelves := hPre_graph_of_twelves)
    ∧ quiescent_ReferenceIdeal (hReferenceIdeal := hReferenceIdeal)
    ∧ quiescent_ReferenceIdeal_pre_graph_of_twelves (hReferenceIdeal := hReferenceIdeal) (hPre_graph_of_twelves := hPre_graph_of_twelves)
    ∧ preserves_Kernel_KernelIdeal
    ∧ algebraic_KernelIdeal_ReferenceIdeal_pre_graph_of_twelves (hKernelIdeal := hKernelIdeal) (hReferenceIdeal := hReferenceIdeal) (hPre_graph_of_twelves := hPre_graph_of_twelves)
-- ==== Pre_graph_of_twelves.lean ====
abbrev S3072x1000 : Shape := ⟨2, ![3072, 1000]⟩
abbrev S256x32 : Shape := ⟨2, ![256, 32]⟩
abbrev S3072 : Shape := ⟨1, ![3072]⟩
abbrev S2x33792 : Shape := ⟨2, ![2, 33792]⟩
abbrev S64x1x7 : Shape := ⟨3, ![64, 1, 7]⟩
abbrev S64 : Shape := ⟨1, ![64]⟩
abbrev S64x64x3 : Shape := ⟨3, ![64, 64, 3]⟩
abbrev S64x64 : Shape := ⟨2, ![64, 64]⟩
abbrev S3x64x128 : Shape := ⟨3, ![3, 64, 128]⟩
abbrev S3x128 : Shape := ⟨2, ![3, 128]⟩
abbrev S3x384x128 : Shape := ⟨3, ![3, 384, 128]⟩
abbrev S384 : Shape := ⟨1, ![384]⟩
abbrev S416x128 : Shape := ⟨2, ![416, 128]⟩
abbrev S128 : Shape := ⟨1, ![128]⟩
abbrev S128x5 : Shape := ⟨2, ![128, 5]⟩
abbrev S5 : Shape := ⟨1, ![5]⟩
abbrev S2x256x12x11 : Shape := ⟨4, ![2, 256, 12, 11]⟩
abbrev S256x12x11 : Shape := ⟨3, ![256, 12, 11]⟩
abbrev S256x12 : Shape := ⟨2, ![256, 12]⟩
abbrev S1x256x12x11 : Shape := ⟨4, ![1, 256, 12, 11]⟩
abbrev S_ : Shape := ⟨0, ![]⟩

class Facts : Prop where
  shapeCasts_S2x33792_S2x256x12x11 : S2x33792.ShapeCasts S2x256x12x11
  shapeCasts_S3072_S256x12 : S3072.ShapeCasts S256x12
  slices_S2x256x12x11_S1x256x12x11_0_0_0_0 : S2x256x12x11.Slices ![0, 0, 0, 0] S1x256x12x11
  shapeCasts_S1x256x12x11_S256x12x11 : S1x256x12x11.ShapeCasts S256x12x11
  bcast_S_S256x12x11 : S_.BroadcastsInDim S256x12x11 (![] : Fin 0 → Fin S256x12x11.rank)
  slices_S2x256x12x11_S1x256x12x11_1_0_0_0 : S2x256x12x11.Slices ![1, 0, 0, 0] S1x256x12x11
  bcast_S_S3072x1000 : S_.BroadcastsInDim S3072x1000 (![] : Fin 0 → Fin S3072x1000.rank)
  bcast_S_S64x1x7 : S_.BroadcastsInDim S64x1x7 (![] : Fin 0 → Fin S64x1x7.rank)
  bcast_S_S64 : S_.BroadcastsInDim S64 (![] : Fin 0 → Fin S64.rank)
  bcast_S_S64x64x3 : S_.BroadcastsInDim S64x64x3 (![] : Fin 0 → Fin S64x64x3.rank)
  bcast_S_S64x64 : S_.BroadcastsInDim S64x64 (![] : Fin 0 → Fin S64x64.rank)
  bcast_S_S3x64x128 : S_.BroadcastsInDim S3x64x128 (![] : Fin 0 → Fin S3x64x128.rank)
  bcast_S_S3x128 : S_.BroadcastsInDim S3x128 (![] : Fin 0 → Fin S3x128.rank)
  bcast_S_S3x384x128 : S_.BroadcastsInDim S3x384x128 (![] : Fin 0 → Fin S3x384x128.rank)

variable [Facts]

def fn_where {F : FTy → Type} [FloatOps F] (arg0 : IVec S256x12x11 1) (arg1 : IVec S256x12x11 32) (arg2 : IVec S256x12x11 32) : IVec S256x12x11 32 :=
  let v0 : IVec S256x12x11 32 := select arg0 arg1 arg2
  v0

def fn_part3 {F : FTy → Type} [FloatOps F] (main_arg15 : FVec F S3x128 .f32) (main_v6 : IVec S256x12 1) (main_v12 : IVec S256x12x11 1) (main_v22 : IVec S256x12x11 1) (main_v25 : IVec S3072x1000 1) (main_v28 : IVec S64x1x7 1) (main_v31 : IVec S64 1) (main_v34 : IVec S64x64x3 1) (main_v37 : IVec S64 1) (main_v40 : IVec S64x64x3 1) (main_v43 : IVec S64 1) (main_v46 : IVec S64x64 1) (main_v49 : IVec S64 1) (main_v52 : IVec S3x64x128 1) (main_v55 : IVec S3x128 1) (main_v56 : FVec F S3x384x128 .f32) (main_cst_12 : FVec F S_ .f32) : IVec S256x12 1 × IVec S256x12x11 1 × IVec S256x12x11 1 × IVec S3072x1000 1 × IVec S64x1x7 1 × IVec S64 1 × IVec S64x64x3 1 × IVec S64 1 × IVec S64x64x3 1 × IVec S64 1 × IVec S64x64 1 × IVec S64 1 × IVec S3x64x128 1 × IVec S3x128 1 × IVec S3x384x128 1 × IVec S3x128 1 :=
  let main_v57 : FVec F S3x384x128 .f32 := broadcastInDim S3x384x128 ![] bcast_S_S3x384x128 main_cst_12
  let main_v58 : IVec S3x384x128 1 := cmpf .olt main_v56 main_v57
  let main_v59 : FVec F S3x128 .f32 := Host.absf main_arg15
  let main_cst_13 : FVec F S_ .f32 := constant S_ .f32 0x7F800000#32
  let main_v60 : FVec F S3x128 .f32 := broadcastInDim S3x128 ![] bcast_S_S3x128 main_cst_13
  let main_v61 : IVec S3x128 1 := cmpf .olt main_v59 main_v60
  (main_v6, main_v12, main_v22, main_v25, main_v28, main_v31, main_v34, main_v37, main_v40, main_v43, main_v46, main_v49, main_v52, main_v55, main_v58, main_v61)

def fn_part2 {F : FTy → Type} [FloatOps F] (main_arg9 : FVec F S64 .f32) (main_arg10 : FVec F S64x64 .f32) (main_arg11 : FVec F S64 .f32) (main_arg12 : FVec F S3x64x128 .f32) (main_arg13 : FVec F S3x128 .f32) (main_arg14 : FVec F S3x384x128 .f32) (main_arg15 : FVec F S3x128 .f32) (main_v6 : IVec S256x12 1) (main_v12 : IVec S256x12x11 1) (main_v22 : IVec S256x12x11 1) (main_v25 : IVec S3072x1000 1) (main_v28 : IVec S64x1x7 1) (main_v31 : IVec S64 1) (main_v34 : IVec S64x64x3 1) (main_v37 : IVec S64 1) (main_v38 : FVec F S64x64x3 .f32) (main_cst_6 : FVec F S_ .f32) : IVec S256x12 1 × IVec S256x12x11 1 × IVec S256x12x11 1 × IVec S3072x1000 1 × IVec S64x1x7 1 × IVec S64 1 × IVec S64x64x3 1 × IVec S64 1 × IVec S64x64x3 1 × IVec S64 1 × IVec S64x64 1 × IVec S64 1 × IVec S3x64x128 1 × IVec S3x128 1 × IVec S3x384x128 1 × IVec S3x128 1 :=
  let main_v39 : FVec F S64x64x3 .f32 := broadcastInDim S64x64x3 ![] bcast_S_S64x64x3 main_cst_6
  let main_v40 : IVec S64x64x3 1 := cmpf .olt main_v38 main_v39
  let main_v41 : FVec F S64 .f32 := Host.absf main_arg9
  let main_cst_7 : FVec F S_ .f32 := constant S_ .f32 0x7F800000#32
  let main_v42 : FVec F S64 .f32 := broadcastInDim S64 ![] bcast_S_S64 main_cst_7
  let main_v43 : IVec S64 1 := cmpf .olt main_v41 main_v42
  let main_v44 : FVec F S64x64 .f32 := Host.absf main_arg10
  let main_cst_8 : FVec F S_ .f32 := constant S_ .f32 0x7F800000#32
  let main_v45 : FVec F S64x64 .f32 := broadcastInDim S64x64 ![] bcast_S_S64x64 main_cst_8
  let main_v46 : IVec S64x64 1 := cmpf .olt main_v44 main_v45
  let main_v47 : FVec F S64 .f32 := Host.absf main_arg11
  let main_cst_9 : FVec F S_ .f32 := constant S_ .f32 0x7F800000#32
  let main_v48 : FVec F S64 .f32 := broadcastInDim S64 ![] bcast_S_S64 main_cst_9
  let main_v49 : IVec S64 1 := cmpf .olt main_v47 main_v48
  let main_v50 : FVec F S3x64x128 .f32 := Host.absf main_arg12
  let main_cst_10 : FVec F S_ .f32 := constant S_ .f32 0x7F800000#32
  let main_v51 : FVec F S3x64x128 .f32 := broadcastInDim S3x64x128 ![] bcast_S_S3x64x128 main_cst_10
  let main_v52 : IVec S3x64x128 1 := cmpf .olt main_v50 main_v51
  let main_v53 : FVec F S3x128 .f32 := Host.absf main_arg13
  let main_cst_11 : FVec F S_ .f32 := constant S_ .f32 0x7F800000#32
  let main_v54 : FVec F S3x128 .f32 := broadcastInDim S3x128 ![] bcast_S_S3x128 main_cst_11
  let main_v55 : IVec S3x128 1 := cmpf .olt main_v53 main_v54
  let main_v56 : FVec F S3x384x128 .f32 := Host.absf main_arg14
  let main_cst_12 : FVec F S_ .f32 := constant S_ .f32 0x7F800000#32
  fn_part3 (F := F) main_arg15 main_v6 main_v12 main_v22 main_v25 main_v28 main_v31 main_v34 main_v37 main_v40 main_v43 main_v46 main_v49 main_v52 main_v55 main_v56 main_cst_12

def fn_part1 {F : FTy → Type} [FloatOps F] (main_arg0 : FVec F S3072x1000 .f32) (main_arg4 : FVec F S64x1x7 .f32) (main_arg5 : FVec F S64 .f32) (main_arg6 : FVec F S64x64x3 .f32) (main_arg7 : FVec F S64 .f32) (main_arg8 : FVec F S64x64x3 .f32) (main_arg9 : FVec F S64 .f32) (main_arg10 : FVec F S64x64 .f32) (main_arg11 : FVec F S64 .f32) (main_arg12 : FVec F S3x64x128 .f32) (main_arg13 : FVec F S3x128 .f32) (main_arg14 : FVec F S3x384x128 .f32) (main_arg15 : FVec F S3x128 .f32) (main_v6 : IVec S256x12 1) (main_v12 : IVec S256x12x11 1) (main_v14 : IVec S256x12x11 32) (main_v16 : IVec S256x12x11 32) (main_v20 : IVec S256x12x11 32) : IVec S256x12 1 × IVec S256x12x11 1 × IVec S256x12x11 1 × IVec S3072x1000 1 × IVec S64x1x7 1 × IVec S64 1 × IVec S64x64x3 1 × IVec S64 1 × IVec S64x64x3 1 × IVec S64 1 × IVec S64x64 1 × IVec S64 1 × IVec S3x64x128 1 × IVec S3x128 1 × IVec S3x384x128 1 × IVec S3x128 1 :=
  let main_v21 : IVec S256x12x11 32 := addi main_v16 main_v20
  let main_v22 : IVec S256x12x11 1 := cmpi .eq main_v14 main_v21
  let main_v23 : FVec F S3072x1000 .f32 := Host.absf main_arg0
  let main_cst : FVec F S_ .f32 := constant S_ .f32 0x7F800000#32
  let main_v24 : FVec F S3072x1000 .f32 := broadcastInDim S3072x1000 ![] bcast_S_S3072x1000 main_cst
  let main_v25 : IVec S3072x1000 1 := cmpf .olt main_v23 main_v24
  let main_v26 : FVec F S64x1x7 .f32 := Host.absf main_arg4
  let main_cst_2 : FVec F S_ .f32 := constant S_ .f32 0x7F800000#32
  let main_v27 : FVec F S64x1x7 .f32 := broadcastInDim S64x1x7 ![] bcast_S_S64x1x7 main_cst_2
  let main_v28 : IVec S64x1x7 1 := cmpf .olt main_v26 main_v27
  let main_v29 : FVec F S64 .f32 := Host.absf main_arg5
  let main_cst_3 : FVec F S_ .f32 := constant S_ .f32 0x7F800000#32
  let main_v30 : FVec F S64 .f32 := broadcastInDim S64 ![] bcast_S_S64 main_cst_3
  let main_v31 : IVec S64 1 := cmpf .olt main_v29 main_v30
  let main_v32 : FVec F S64x64x3 .f32 := Host.absf main_arg6
  let main_cst_4 : FVec F S_ .f32 := constant S_ .f32 0x7F800000#32
  let main_v33 : FVec F S64x64x3 .f32 := broadcastInDim S64x64x3 ![] bcast_S_S64x64x3 main_cst_4
  let main_v34 : IVec S64x64x3 1 := cmpf .olt main_v32 main_v33
  let main_v35 : FVec F S64 .f32 := Host.absf main_arg7
  let main_cst_5 : FVec F S_ .f32 := constant S_ .f32 0x7F800000#32
  let main_v36 : FVec F S64 .f32 := broadcastInDim S64 ![] bcast_S_S64 main_cst_5
  let main_v37 : IVec S64 1 := cmpf .olt main_v35 main_v36
  let main_v38 : FVec F S64x64x3 .f32 := Host.absf main_arg8
  let main_cst_6 : FVec F S_ .f32 := constant S_ .f32 0x7F800000#32
  fn_part2 (F := F) main_arg9 main_arg10 main_arg11 main_arg12 main_arg13 main_arg14 main_arg15 main_v6 main_v12 main_v22 main_v25 main_v28 main_v31 main_v34 main_v37 main_v38 main_cst_6

def fn {F : FTy → Type} [FloatOps F] (main_arg0 : FVec F S3072x1000 .f32) (main_arg1 : FVec F S256x32 .f32) (main_arg2 : IVec S3072 32) (main_arg3 : IVec S2x33792 32) (main_arg4 : FVec F S64x1x7 .f32) (main_arg5 : FVec F S64 .f32) (main_arg6 : FVec F S64x64x3 .f32) (main_arg7 : FVec F S64 .f32) (main_arg8 : FVec F S64x64x3 .f32) (main_arg9 : FVec F S64 .f32) (main_arg10 : FVec F S64x64 .f32) (main_arg11 : FVec F S64 .f32) (main_arg12 : FVec F S3x64x128 .f32) (main_arg13 : FVec F S3x128 .f32) (main_arg14 : FVec F S3x384x128 .f32) (main_arg15 : FVec F S3x128 .f32) (main_arg16 : FVec F S3x384x128 .f32) (main_arg17 : FVec F S3x128 .f32) (main_arg18 : FVec F S384 .f32) (main_arg19 : FVec F S384 .f32) (main_arg20 : FVec F S416x128 .f32) (main_arg21 : FVec F S128 .f32) (main_arg22 : FVec F S128x5 .f32) (main_arg23 : FVec F S5 .f32) : IVec S256x12 1 × IVec S256x12x11 1 × IVec S256x12x11 1 × IVec S3072x1000 1 × IVec S64x1x7 1 × IVec S64 1 × IVec S64x64x3 1 × IVec S64 1 × IVec S64x64x3 1 × IVec S64 1 × IVec S64x64 1 × IVec S64 1 × IVec S3x64x128 1 × IVec S3x128 1 × IVec S3x384x128 1 × IVec S3x128 1 :=
  let main_v0 : IVec S2x256x12x11 32 := shapeCast S2x256x12x11 main_arg3 shapeCasts_S2x33792_S2x256x12x11
  let main_v1 : IVec S256x12x11 32 := iotaInDim S256x12x11 32 0
  let main_v2 : IVec S256x12x11 32 := iotaInDim S256x12x11 32 1
  let main_v3 : IVec S256x12x11 32 := iotaInDim S256x12x11 32 2
  let main_v4 : IVec S256x12 32 := shapeCast S256x12 main_arg2 shapeCasts_S3072_S256x12
  let main_v5 : IVec S256x12 32 := iotaInDim S256x12 32 0
  let main_v6 : IVec S256x12 1 := cmpi .eq main_v4 main_v5
  let main_v7 : IVec S1x256x12x11 32 := (extractStridedSlice S1x256x12x11 ![0, 0, 0, 0] · slices_S2x256x12x11_S1x256x12x11_0_0_0_0) main_v0
  let main_v8 : IVec S256x12x11 32 := shapeCast S256x12x11 main_v7 shapeCasts_S1x256x12x11_S256x12x11
  let main_c : IVec S_ 32 := constantI S_ 32 12#32
  let main_v9 : IVec S256x12x11 32 := broadcastInDim S256x12x11 ![] bcast_S_S256x12x11 main_c
  let main_v10 : IVec S256x12x11 32 := muli main_v9 main_v1
  let main_v11 : IVec S256x12x11 32 := addi main_v10 main_v2
  let main_v12 : IVec S256x12x11 1 := cmpi .eq main_v8 main_v11
  let main_v13 : IVec S1x256x12x11 32 := (extractStridedSlice S1x256x12x11 ![1, 0, 0, 0] · slices_S2x256x12x11_S1x256x12x11_1_0_0_0) main_v0
  let main_v14 : IVec S256x12x11 32 := shapeCast S256x12x11 main_v13 shapeCasts_S1x256x12x11_S256x12x11
  let main_c_0 : IVec S_ 32 := constantI S_ 32 12#32
  let main_v15 : IVec S256x12x11 32 := broadcastInDim S256x12x11 ![] bcast_S_S256x12x11 main_c_0
  let main_v16 : IVec S256x12x11 32 := muli main_v15 main_v1
  let main_v17 : IVec S256x12x11 1 := cmpi .slt main_v3 main_v2
  let main_c_1 : IVec S_ 32 := constantI S_ 32 1#32
  let main_v18 : IVec S256x12x11 32 := broadcastInDim S256x12x11 ![] bcast_S_S256x12x11 main_c_1
  let main_v19 : IVec S256x12x11 32 := addi main_v3 main_v18
  let main_v20 : IVec S256x12x11 32 := fn_where (F := F) main_v17 main_v3 main_v19
  fn_part1 (F := F) main_arg0 main_arg4 main_arg5 main_arg6 main_arg7 main_arg8 main_arg9 main_arg10 main_arg11 main_arg12 main_arg13 main_arg14 main_arg15 main_v6 main_v12 main_v14 main_v16 main_v20
-- ==== Kernel.lean ====
abbrev S3072x1000 : Shape := ⟨2, ![3072, 1000]⟩
abbrev S256x32 : Shape := ⟨2, ![256, 32]⟩
abbrev S3072 : Shape := ⟨1, ![3072]⟩
abbrev S2x33792 : Shape := ⟨2, ![2, 33792]⟩
abbrev S64x1x7 : Shape := ⟨3, ![64, 1, 7]⟩
abbrev S64 : Shape := ⟨1, ![64]⟩
abbrev S64x64x3 : Shape := ⟨3, ![64, 64, 3]⟩
abbrev S64x64 : Shape := ⟨2, ![64, 64]⟩
abbrev S3x64x128 : Shape := ⟨3, ![3, 64, 128]⟩
abbrev S3x128 : Shape := ⟨2, ![3, 128]⟩
abbrev S3x384x128 : Shape := ⟨3, ![3, 384, 128]⟩
abbrev S384 : Shape := ⟨1, ![384]⟩
abbrev S416x128 : Shape := ⟨2, ![416, 128]⟩
abbrev S128 : Shape := ⟨1, ![128]⟩
abbrev S128x5 : Shape := ⟨2, ![128, 5]⟩
abbrev S5 : Shape := ⟨1, ![5]⟩
abbrev S_ : Shape := ⟨0, ![]⟩
abbrev S3072x1040 : Shape := ⟨2, ![3072, 1040]⟩
abbrev S3072x65x16 : Shape := ⟨3, ![3072, 65, 16]⟩
abbrev S3072x64x16 : Shape := ⟨3, ![3072, 64, 16]⟩
abbrev S3072x64x1 : Shape := ⟨3, ![3072, 64, 1]⟩
abbrev S3072x64 : Shape := ⟨2, ![3072, 64]⟩
abbrev S3072x64x32 : Shape := ⟨3, ![3072, 64, 32]⟩
abbrev S196608x32 : Shape := ⟨2, ![196608, 32]⟩
abbrev S64x7 : Shape := ⟨2, ![64, 7]⟩
abbrev S7x64 : Shape := ⟨2, ![7, 64]⟩
abbrev S8x64 : Shape := ⟨2, ![8, 64]⟩
abbrev S4x4 : Shape := ⟨2, ![4, 4]⟩
abbrev S4x1x4x1 : Shape := ⟨4, ![4, 1, 4, 1]⟩
abbrev S1x8x1x64 : Shape := ⟨4, ![1, 8, 1, 64]⟩
abbrev S4x8x4x64 : Shape := ⟨4, ![4, 8, 4, 64]⟩
abbrev S32x256 : Shape := ⟨2, ![32, 256]⟩
abbrev S64x64x1 : Shape := ⟨3, ![64, 64, 1]⟩
abbrev S64x192 : Shape := ⟨2, ![64, 192]⟩
abbrev S1x64 : Shape := ⟨2, ![1, 64]⟩
abbrev S192x128 : Shape := ⟨2, ![192, 128]⟩
abbrev S1152x128 : Shape := ⟨2, ![1152, 128]⟩
abbrev S1x3072 : Shape := ⟨2, ![1, 3072]⟩
abbrev S3072x1 : Shape := ⟨2, ![3072, 1]⟩
abbrev S1x384 : Shape := ⟨2, ![1, 384]⟩
abbrev S384x128 : Shape := ⟨2, ![384, 128]⟩
abbrev S32x128 : Shape := ⟨2, ![32, 128]⟩
abbrev S1x128 : Shape := ⟨2, ![1, 128]⟩
abbrev S1x5 : Shape := ⟨2, ![1, 5]⟩
abbrev S256x5 : Shape := ⟨2, ![256, 5]⟩
abbrev S4096x32 : Shape := ⟨2, ![4096, 32]⟩
abbrev S4096x256 : Shape := ⟨2, ![4096, 256]⟩
abbrev S4096x64 : Shape := ⟨2, ![4096, 64]⟩
abbrev S4096x1 : Shape := ⟨2, ![4096, 1]⟩
abbrev S4096x192 : Shape := ⟨2, ![4096, 192]⟩
abbrev S4095x64 : Shape := ⟨2, ![4095, 64]⟩
abbrev S64x4096 : Shape := ⟨2, ![64, 4096]⟩
abbrev S256x3072 : Shape := ⟨2, ![256, 3072]⟩
abbrev S3072x256 : Shape := ⟨2, ![3072, 256]⟩
abbrev S256 : Shape := ⟨1, ![256]⟩
abbrev S256x1 : Shape := ⟨2, ![256, 1]⟩
abbrev S256x64 : Shape := ⟨2, ![256, 64]⟩
abbrev S64x128 : Shape := ⟨2, ![64, 128]⟩
abbrev S3072x128 : Shape := ⟨2, ![3072, 128]⟩
abbrev S3072x384 : Shape := ⟨2, ![3072, 384]⟩
abbrev S256x384 : Shape := ⟨2, ![256, 384]⟩
abbrev S256x128 : Shape := ⟨2, ![256, 128]⟩

abbrev nBuf : Space → Nat
  | .hbm => 185
  | .vmem => 30
  | .smem => 0
  | _ => 0

abbrev hbmTy0_0 (i : Nat) : BufTy := match i % 128 with
  | 0 => ⟨S3072x1000, .f32⟩
  | 1 => ⟨S256x32, .f32⟩
  | 2 => ⟨S3072, .i32⟩
  | 3 => ⟨S2x33792, .i32⟩
  | 4 => ⟨S64x1x7, .f32⟩
  | 5 => ⟨S64, .f32⟩
  | 6 => ⟨S64x64x3, .f32⟩
  | 7 => ⟨S64, .f32⟩
  | 8 => ⟨S64x64x3, .f32⟩
  | 9 => ⟨S64, .f32⟩
  | 10 => ⟨S64x64, .f32⟩
  | 11 => ⟨S64, .f32⟩
  | 12 => ⟨S3x64x128, .f32⟩
  | 13 => ⟨S3x128, .f32⟩
  | 14 => ⟨S3x384x128, .f32⟩
  | 15 => ⟨S3x128, .f32⟩
  | 16 => ⟨S3x384x128, .f32⟩
  | 17 => ⟨S3x128, .f32⟩
  | 18 => ⟨S384, .f32⟩
  | 19 => ⟨S384, .f32⟩
  | 20 => ⟨S416x128, .f32⟩
  | 21 => ⟨S128, .f32⟩
  | 22 => ⟨S128x5, .f32⟩
  | 23 => ⟨S5, .f32⟩
  | 24 => ⟨S_, .i32⟩
  | 25 => ⟨S_, .f32⟩
  | 26 => ⟨S3072x1040, .f32⟩
  | 27 => ⟨S3072x65x16, .f32⟩
  | 28 => ⟨S3072x64x16, .f32⟩
  | 29 => ⟨S3072x64x16, .f32⟩
  | 30 => ⟨S3072x64x1, .f32⟩
  | 31 => ⟨S3072x64, .f32⟩
  | 32 => ⟨S3072x64x1, .f32⟩
  | 33 => ⟨S3072x64, .f32⟩
  | 34 => ⟨S3072x64x1, .f32⟩
  | 35 => ⟨S3072x64, .f32⟩
  | 36 => ⟨S3072x64x1, .f32⟩
  | 37 => ⟨S3072x64, .f32⟩
  | 38 => ⟨S3072x64x1, .f32⟩
  | 39 => ⟨S3072x64, .f32⟩
  | 40 => ⟨S3072x64x1, .f32⟩
  | 41 => ⟨S3072x64, .f32⟩
  | 42 => ⟨S3072x64x1, .f32⟩
  | 43 => ⟨S3072x64, .f32⟩
  | 44 => ⟨S3072x64x1, .f32⟩
  | 45 => ⟨S3072x64, .f32⟩
  | 46 => ⟨S3072x64x1, .f32⟩
  | 47 => ⟨S3072x64, .f32⟩
  | 48 => ⟨S3072x64x1, .f32⟩
  | 49 => ⟨S3072x64, .f32⟩
  | 50 => ⟨S3072x64x1, .f32⟩
  | 51 => ⟨S3072x64, .f32⟩
  | 52 => ⟨S3072x64x1, .f32⟩
  | 53 => ⟨S3072x64, .f32⟩
  | 54 => ⟨S3072x64x1, .f32⟩
  | 55 => ⟨S3072x64, .f32⟩
  | 56 => ⟨S3072x64x1, .f32⟩
  | 57 => ⟨S3072x64, .f32⟩
  | 58 => ⟨S3072x64x1, .f32⟩
  | 59 => ⟨S3072x64, .f32⟩
  | 60 => ⟨S3072x64x1, .f32⟩
  | 61 => ⟨S3072x64, .f32⟩
  | 62 => ⟨S3072x64x1, .f32⟩
  | 63 => ⟨S3072x64, .f32⟩
  | 64 => ⟨S3072x64x1, .f32⟩
  | 65 => ⟨S3072x64, .f32⟩
  | 66 => ⟨S3072x64x1, .f32⟩
  | 67 => ⟨S3072x64, .f32⟩
  | 68 => ⟨S3072x64x1, .f32⟩
  | 69 => ⟨S3072x64, .f32⟩
  | 70 => ⟨S3072x64x1, .f32⟩
  | 71 => ⟨S3072x64, .f32⟩
  | 72 => ⟨S3072x64x1, .f32⟩
  | 73 => ⟨S3072x64, .f32⟩
  | 74 => ⟨S3072x64x1, .f32⟩
  | 75 => ⟨S3072x64, .f32⟩
  | 76 => ⟨S3072x64x1, .f32⟩
  | 77 => ⟨S3072x64, .f32⟩
  | 78 => ⟨S3072x64x1, .f32⟩
  | 79 => ⟨S3072x64, .f32⟩
  | 80 => ⟨S3072x64x1, .f32⟩
  | 81 => ⟨S3072x64, .f32⟩
  | 82 => ⟨S3072x64x1, .f32⟩
  | 83 => ⟨S3072x64, .f32⟩
  | 84 => ⟨S3072x64x1, .f32⟩
  | 85 => ⟨S3072x64, .f32⟩
  | 86 => ⟨S3072x64x1, .f32⟩
  | 87 => ⟨S3072x64, .f32⟩
  | 88 => ⟨S3072x64x1, .f32⟩
  | 89 => ⟨S3072x64, .f32⟩
  | 90 => ⟨S3072x64x1, .f32⟩
  | 91 => ⟨S3072x64, .f32⟩
  | 92 => ⟨S3072x64x1, .f32⟩
  | 93 => ⟨S3072x64, .f32⟩
  | 94 => ⟨S3072x64x1, .f32⟩
  | 95 => ⟨S3072x64x1, .f32⟩
  | 96 => ⟨S3072x64x1, .f32⟩
  | 97 => ⟨S3072x64x1, .f32⟩
  | 98 => ⟨S3072x64x1, .f32⟩
  | 99 => ⟨S3072x64x1, .f32⟩
  | 100 => ⟨S3072x64x1, .f32⟩
  | 101 => ⟨S3072x64x1, .f32⟩
  | 102 => ⟨S3072x64x1, .f32⟩
  | 103 => ⟨S3072x64x1, .f32⟩
  | 104 => ⟨S3072x64x1, .f32⟩
  | 105 => ⟨S3072x64x1, .f32⟩
  | 106 => ⟨S3072x64x1, .f32⟩
  | 107 => ⟨S3072x64x1, .f32⟩
  | 108 => ⟨S3072x64x1, .f32⟩
  | 109 => ⟨S3072x64x1, .f32⟩
  | 110 => ⟨S3072x64x1, .f32⟩
  | 111 => ⟨S3072x64x1, .f32⟩
  | 112 => ⟨S3072x64x1, .f32⟩
  | 113 => ⟨S3072x64x1, .f32⟩
  | 114 => ⟨S3072x64x1, .f32⟩
  | 115 => ⟨S3072x64x1, .f32⟩
  | 116 => ⟨S3072x64x1, .f32⟩
  | 117 => ⟨S3072x64x1, .f32⟩
  | 118 => ⟨S3072x64x1, .f32⟩
  | 119 => ⟨S3072x64x1, .f32⟩
  | 120 => ⟨S3072x64x1, .f32⟩
  | 121 => ⟨S3072x64x1, .f32⟩
  | 122 => ⟨S3072x64x1, .f32⟩
  | 123 => ⟨S3072x64x1, .f32⟩
  | 124 => ⟨S3072x64x1, .f32⟩
  | 125 => ⟨S3072x64x1, .f32⟩
  | 126 => ⟨S3072x64x16, .f32⟩
  | 127 => ⟨S3072x64x16, .f32⟩
  | _ => ⟨S3072x1000, .f32⟩

abbrev hbmTy0_1 (i : Nat) : BufTy := match i % 128 with
  | 0 => ⟨S3072x64x32, .f32⟩
  | 1 => ⟨S196608x32, .f32⟩
  | 2 => ⟨S64x7, .f32⟩
  | 3 => ⟨S7x64, .f32⟩
  | 4 => ⟨S_, .i32⟩
  | 5 => ⟨S_, .f32⟩
  | 6 => ⟨S8x64, .f32⟩
  | 7 => ⟨S4x4, .i32⟩
  | 8 => ⟨S4x4, .i32⟩
  | 9 => ⟨S_, .i32⟩
  | 10 => ⟨S4x4, .i32⟩
  | 11 => ⟨S4x4, .i32⟩
  | 12 => ⟨S4x4, .i1⟩
  | 13 => ⟨S4x4, .f32⟩
  | 14 => ⟨S4x1x4x1, .f32⟩
  | 15 => ⟨S1x8x1x64, .f32⟩
  | 16 => ⟨S4x8x4x64, .f32⟩
  | 17 => ⟨S4x8x4x64, .f32⟩
  | 18 => ⟨S4x8x4x64, .f32⟩
  | 19 => ⟨S32x256, .f32⟩
  | 20 => ⟨S64x64x1, .f32⟩
  | 21 => ⟨S64x64, .f32⟩
  | 22 => ⟨S64x64, .f32⟩
  | 23 => ⟨S64x64x1, .f32⟩
  | 24 => ⟨S64x64, .f32⟩
  | 25 => ⟨S64x64, .f32⟩
  | 26 => ⟨S64x64x1, .f32⟩
  | 27 => ⟨S64x64, .f32⟩
  | 28 => ⟨S64x64, .f32⟩
  | 29 => ⟨S64x192, .f32⟩
  | 30 => ⟨S64x64x1, .f32⟩
  | 31 => ⟨S64x64, .f32⟩
  | 32 => ⟨S64x64, .f32⟩
  | 33 => ⟨S64x64x1, .f32⟩
  | 34 => ⟨S64x64, .f32⟩
  | 35 => ⟨S64x64, .f32⟩
  | 36 => ⟨S64x64x1, .f32⟩
  | 37 => ⟨S64x64, .f32⟩
  | 38 => ⟨S64x64, .f32⟩
  | 39 => ⟨S64x192, .f32⟩
  | 40 => ⟨S1x64, .f32⟩
  | 41 => ⟨S1x64, .f32⟩
  | 42 => ⟨S1x64, .f32⟩
  | 43 => ⟨S1x64, .f32⟩
  | 44 => ⟨S3072x64, .f32⟩
  | 45 => ⟨S192x128, .f32⟩
  | 46 => ⟨S1152x128, .f32⟩
  | 47 => ⟨S1152x128, .f32⟩
  | 48 => ⟨S1x3072, .i32⟩
  | 49 => ⟨S3072x1, .i32⟩
  | 50 => ⟨S1x384, .f32⟩
  | 51 => ⟨S1x384, .f32⟩
  | 52 => ⟨S384x128, .f32⟩
  | 53 => ⟨S32x128, .f32⟩
  | 54 => ⟨S1x128, .f32⟩
  | 55 => ⟨S1x5, .f32⟩
  | 56 => ⟨S256x5, .f32⟩
  | _ => ⟨S3072x1000, .f32⟩

abbrev hbmTy (i : Nat) : BufTy := match i / 128 with
  | 0 => hbmTy0_0 i
  | 1 => hbmTy0_1 i
  | _ => ⟨S3072x1000, .f32⟩

abbrev bufTy : (tb : Table) → Fin (tcTables nBuf tb) → BufTy
  | .hbm, ⟨i, _⟩ => hbmTy i
  | .local _ .vmem, ⟨0, _⟩ => ⟨S4096x32, .f32⟩
  | .local _ .vmem, ⟨1, _⟩ => ⟨S4096x32, .f32⟩
  | .local _ .vmem, ⟨2, _⟩ => ⟨S32x256, .f32⟩
  | .local _ .vmem, ⟨3, _⟩ => ⟨S1x64, .f32⟩
  | .local _ .vmem, ⟨4, _⟩ => ⟨S64x192, .f32⟩
  | .local _ .vmem, ⟨5, _⟩ => ⟨S1x64, .f32⟩
  | .local _ .vmem, ⟨6, _⟩ => ⟨S64x192, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S64x64, .f32⟩
  | .local _ .vmem, ⟨12, _⟩ => ⟨S3072x64, .f32⟩
  | .local _ .vmem, ⟨13, _⟩ => ⟨S256x32, .f32⟩
  | .local _ .vmem, ⟨14, _⟩ => ⟨S1x3072, .i32⟩
  | .local _ .vmem, ⟨15, _⟩ => ⟨S3072x1, .i32⟩
  | .local _ .vmem, ⟨16, _⟩ => ⟨S192x128, .f32⟩
  | .local _ .vmem, ⟨17, _⟩ => ⟨S3x128, .f32⟩
  | .local _ .vmem, ⟨18, _⟩ => ⟨S1152x128, .f32⟩
  | .local _ .vmem, ⟨19, _⟩ => ⟨S3x128, .f32⟩
  | .local _ .vmem, ⟨20, _⟩ => ⟨S1152x128, .f32⟩
  | .local _ .vmem, ⟨21, _⟩ => ⟨S3x128, .f32⟩
  | .local _ .vmem, ⟨22, _⟩ => ⟨S1x384, .f32⟩
  | .local _ .vmem, ⟨23, _⟩ => ⟨S1x384, .f32⟩
  | .local _ .vmem, ⟨24, _⟩ => ⟨S384x128, .f32⟩
  | .local _ .vmem, ⟨25, _⟩ => ⟨S32x128, .f32⟩
  | .local _ .vmem, ⟨26, _⟩ => ⟨S1x128, .f32⟩
  | .local _ .vmem, ⟨27, _⟩ => ⟨S128x5, .f32⟩
  | .local _ .vmem, ⟨28, _⟩ => ⟨S1x5, .f32⟩
  | .local _ .vmem, ⟨29, _⟩ => ⟨S256x5, .f32⟩
  | _, _ => ⟨S3072x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_call0_c : Ref sig .tc := ⟨.hbm, 24, rfl⟩
abbrev main_call0_call0_v0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_call0_v17 : Ref sig .tc := ⟨.hbm, 43, rfl⟩
abbrev main_call0_v18 : Ref sig .tc := ⟨.hbm, 44, rfl⟩
abbrev main_call0_v19 : Ref sig .tc := ⟨.hbm, 45, rfl⟩
abbrev main_call0_v20 : Ref sig .tc := ⟨.hbm, 46, rfl⟩
abbrev main_call0_v21 : Ref sig .tc := ⟨.hbm, 47, rfl⟩
abbrev main_call0_v22 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_v32 : Ref sig .tc := ⟨.hbm, 58, rfl⟩
abbrev main_call0_v33 : Ref sig .tc := ⟨.hbm, 59, rfl⟩
abbrev main_call0_v34 : Ref sig .tc := ⟨.hbm, 60, rfl⟩
abbrev main_call0_v35 : Ref sig .tc := ⟨.hbm, 61, rfl⟩
abbrev main_call0_v36 : Ref sig .tc := ⟨.hbm, 62, rfl⟩
abbrev main_call0_v37 : Ref sig .tc := ⟨.hbm, 63, rfl⟩
abbrev main_call0_v38 : Ref sig .tc := ⟨.hbm, 64, rfl⟩
abbrev main_call0_v39 : Ref sig .tc := ⟨.hbm, 65, rfl⟩
abbrev main_call0_v40 : Ref sig .tc := ⟨.hbm, 66, rfl⟩
abbrev main_call0_v41 : Ref sig .tc := ⟨.hbm, 67, rfl⟩
abbrev main_call0_v42 : Ref sig .tc := ⟨.hbm, 68, rfl⟩
abbrev main_call0_v43 : Ref sig .tc := ⟨.hbm, 69, rfl⟩
abbrev main_call0_v44 : Ref sig .tc := ⟨.hbm, 70, rfl⟩
abbrev main_call0_v45 : Ref sig .tc := ⟨.hbm, 71, rfl⟩
abbrev main_call0_v46 : Ref sig .tc := ⟨.hbm, 72, rfl⟩
abbrev main_call0_v47 : Ref sig .tc := ⟨.hbm, 73, rfl⟩
abbrev main_call0_v48 : Ref sig .tc := ⟨.hbm, 74, rfl⟩
abbrev main_call0_v49 : Ref sig .tc := ⟨.hbm, 75, rfl⟩
abbrev main_call0_v50 : Ref sig .tc := ⟨.hbm, 76, rfl⟩
abbrev main_call0_v51 : Ref sig .tc := ⟨.hbm, 77, rfl⟩
abbrev main_call0_v52 : Ref sig .tc := ⟨.hbm, 78, rfl⟩
abbrev main_call0_v53 : Ref sig .tc := ⟨.hbm, 79, rfl⟩
abbrev main_call0_v54 : Ref sig .tc := ⟨.hbm, 80, rfl⟩
abbrev main_call0_v55 : Ref sig .tc := ⟨.hbm, 81, rfl⟩
abbrev main_call0_v56 : Ref sig .tc := ⟨.hbm, 82, rfl⟩
abbrev main_call0_v57 : Ref sig .tc := ⟨.hbm, 83, rfl⟩
abbrev main_call0_v58 : Ref sig .tc := ⟨.hbm, 84, rfl⟩
abbrev main_call0_v59 : Ref sig .tc := ⟨.hbm, 85, rfl⟩
abbrev main_call0_v60 : Ref sig .tc := ⟨.hbm, 86, rfl⟩
abbrev main_call0_v61 : Ref sig .tc := ⟨.hbm, 87, rfl⟩
abbrev main_call0_v62 : Ref sig .tc := ⟨.hbm, 88, rfl⟩
abbrev main_call0_v63 : Ref sig .tc := ⟨.hbm, 89, rfl⟩
abbrev main_call0_v64 : Ref sig .tc := ⟨.hbm, 90, rfl⟩
abbrev main_call0_v65 : Ref sig .tc := ⟨.hbm, 91, rfl⟩
abbrev main_call0_v66 : Ref sig .tc := ⟨.hbm, 92, rfl⟩
abbrev main_call0_v67 : Ref sig .tc := ⟨.hbm, 93, rfl⟩
abbrev main_call0_v68 : Ref sig .tc := ⟨.hbm, 94, rfl⟩
abbrev main_call0_v69 : Ref sig .tc := ⟨.hbm, 95, rfl⟩
abbrev main_call0_v70 : Ref sig .tc := ⟨.hbm, 96, rfl⟩
abbrev main_call0_v71 : Ref sig .tc := ⟨.hbm, 97, rfl⟩
abbrev main_call0_v72 : Ref sig .tc := ⟨.hbm, 98, rfl⟩
abbrev main_call0_v73 : Ref sig .tc := ⟨.hbm, 99, rfl⟩
abbrev main_call0_v74 : Ref sig .tc := ⟨.hbm, 100, rfl⟩
abbrev main_call0_v75 : Ref sig .tc := ⟨.hbm, 101, rfl⟩
abbrev main_call0_v76 : Ref sig .tc := ⟨.hbm, 102, rfl⟩
abbrev main_call0_v77 : Ref sig .tc := ⟨.hbm, 103, rfl⟩
abbrev main_call0_v78 : Ref sig .tc := ⟨.hbm, 104, rfl⟩
abbrev main_call0_v79 : Ref sig .tc := ⟨.hbm, 105, rfl⟩
abbrev main_call0_v80 : Ref sig .tc := ⟨.hbm, 106, rfl⟩
abbrev main_call0_v81 : Ref sig .tc := ⟨.hbm, 107, rfl⟩
abbrev main_call0_v82 : Ref sig .tc := ⟨.hbm, 108, rfl⟩
abbrev main_call0_v83 : Ref sig .tc := ⟨.hbm, 109, rfl⟩
abbrev main_call0_v84 : Ref sig .tc := ⟨.hbm, 110, rfl⟩
abbrev main_call0_v85 : Ref sig .tc := ⟨.hbm, 111, rfl⟩
abbrev main_call0_v86 : Ref sig .tc := ⟨.hbm, 112, rfl⟩
abbrev main_call0_v87 : Ref sig .tc := ⟨.hbm, 113, rfl⟩
abbrev main_call0_v88 : Ref sig .tc := ⟨.hbm, 114, rfl⟩
abbrev main_call0_v89 : Ref sig .tc := ⟨.hbm, 115, rfl⟩
abbrev main_call0_v90 : Ref sig .tc := ⟨.hbm, 116, rfl⟩
abbrev main_call0_v91 : Ref sig .tc := ⟨.hbm, 117, rfl⟩
abbrev main_call0_v92 : Ref sig .tc := ⟨.hbm, 118, rfl⟩
abbrev main_call0_v93 : Ref sig .tc := ⟨.hbm, 119, rfl⟩
abbrev main_call0_v94 : Ref sig .tc := ⟨.hbm, 120, rfl⟩
abbrev main_call0_v95 : Ref sig .tc := ⟨.hbm, 121, rfl⟩
abbrev main_call0_v96 : Ref sig .tc := ⟨.hbm, 122, rfl⟩
abbrev main_call0_v97 : Ref sig .tc := ⟨.hbm, 123, rfl⟩
abbrev main_call0_v98 : Ref sig .tc := ⟨.hbm, 124, rfl⟩
abbrev main_call0_v99 : Ref sig .tc := ⟨.hbm, 125, rfl⟩
abbrev main_call0_v100 : Ref sig .tc := ⟨.hbm, 126, rfl⟩
abbrev main_call0_v101 : Ref sig .tc := ⟨.hbm, 127, rfl⟩
abbrev main_call0_v102 : Ref sig .tc := ⟨.hbm, 128, rfl⟩
abbrev main_call0_v103 : Ref sig .tc := ⟨.hbm, 129, rfl⟩
abbrev main_call0_v104 : Ref sig .tc := ⟨.hbm, 130, rfl⟩
abbrev main_call0_v105 : Ref sig .tc := ⟨.hbm, 131, rfl⟩
abbrev main_call0_c_0 : Ref sig .tc := ⟨.hbm, 132, rfl⟩
abbrev main_call0_call1_v0 : Ref sig .tc := ⟨.hbm, 133, rfl⟩
abbrev main_call0_v106 : Ref sig .tc := ⟨.hbm, 134, rfl⟩
abbrev main_call0_v107 : Ref sig .tc := ⟨.hbm, 135, rfl⟩
abbrev main_call0_v108 : Ref sig .tc := ⟨.hbm, 136, rfl⟩
abbrev main_call0_c_1 : Ref sig .tc := ⟨.hbm, 137, rfl⟩
abbrev main_call0_v109 : Ref sig .tc := ⟨.hbm, 138, rfl⟩
abbrev main_call0_v110 : Ref sig .tc := ⟨.hbm, 139, rfl⟩
abbrev main_call0_v111 : Ref sig .tc := ⟨.hbm, 140, rfl⟩
abbrev main_call0_v112 : Ref sig .tc := ⟨.hbm, 141, rfl⟩
abbrev main_call0_call2_v0 : Ref sig .tc := ⟨.hbm, 142, rfl⟩
abbrev main_call0_call2_v1 : Ref sig .tc := ⟨.hbm, 143, rfl⟩
abbrev main_call0_call2_v2 : Ref sig .tc := ⟨.hbm, 144, rfl⟩
abbrev main_call0_call2_v3 : Ref sig .tc := ⟨.hbm, 145, rfl⟩
abbrev main_call0_call2_v4 : Ref sig .tc := ⟨.hbm, 146, rfl⟩
abbrev main_call0_v113 : Ref sig .tc := ⟨.hbm, 147, rfl⟩
abbrev main_call0_v114 : Ref sig .tc := ⟨.hbm, 148, rfl⟩
abbrev main_call0_v115 : Ref sig .tc := ⟨.hbm, 149, rfl⟩
abbrev main_call0_v116 : Ref sig .tc := ⟨.hbm, 150, rfl⟩
abbrev main_call0_v117 : Ref sig .tc := ⟨.hbm, 151, rfl⟩
abbrev main_call0_v118 : Ref sig .tc := ⟨.hbm, 152, rfl⟩
abbrev main_call0_v119 : Ref sig .tc := ⟨.hbm, 153, rfl⟩
abbrev main_call0_v120 : Ref sig .tc := ⟨.hbm, 154, rfl⟩
abbrev main_call0_v121 : Ref sig .tc := ⟨.hbm, 155, rfl⟩
abbrev main_call0_v122 : Ref sig .tc := ⟨.hbm, 156, rfl⟩
abbrev main_call0_v123 : Ref sig .tc := ⟨.hbm, 157, rfl⟩
abbrev main_call0_v124 : Ref sig .tc := ⟨.hbm, 158, rfl⟩
abbrev main_call0_v125 : Ref sig .tc := ⟨.hbm, 159, rfl⟩
abbrev main_call0_v126 : Ref sig .tc := ⟨.hbm, 160, rfl⟩
abbrev main_call0_v127 : Ref sig .tc := ⟨.hbm, 161, rfl⟩
abbrev main_call0_v128 : Ref sig .tc := ⟨.hbm, 162, rfl⟩
abbrev main_call0_v129 : Ref sig .tc := ⟨.hbm, 163, rfl⟩
abbrev main_call0_v130 : Ref sig .tc := ⟨.hbm, 164, rfl⟩
abbrev main_call0_v131 : Ref sig .tc := ⟨.hbm, 165, rfl⟩
abbrev main_call0_v132 : Ref sig .tc := ⟨.hbm, 166, rfl⟩
abbrev main_call0_v133 : Ref sig .tc := ⟨.hbm, 167, rfl⟩
abbrev main_call0_v134 : Ref sig .tc := ⟨.hbm, 168, rfl⟩
abbrev main_call0_v135 : Ref sig .tc := ⟨.hbm, 169, rfl⟩
abbrev main_call0_v136 : Ref sig .tc := ⟨.hbm, 170, rfl⟩
abbrev main_call0_v137 : Ref sig .tc := ⟨.hbm, 171, rfl⟩
abbrev main_call0_v138 : Ref sig .tc := ⟨.hbm, 172, rfl⟩
abbrev main_call0_v139 : Ref sig .tc := ⟨.hbm, 173, rfl⟩
abbrev main_call0_v140 : Ref sig .tc := ⟨.hbm, 174, rfl⟩
abbrev main_call0_v141 : Ref sig .tc := ⟨.hbm, 175, rfl⟩
abbrev main_call0_v142 : Ref sig .tc := ⟨.hbm, 176, rfl⟩
abbrev main_call0_v143 : Ref sig .tc := ⟨.hbm, 177, rfl⟩
abbrev main_call0_v144 : Ref sig .tc := ⟨.hbm, 178, rfl⟩
abbrev main_call0_v145 : Ref sig .tc := ⟨.hbm, 179, rfl⟩
abbrev main_call0_v146 : Ref sig .tc := ⟨.hbm, 180, rfl⟩
abbrev main_call0_v147 : Ref sig .tc := ⟨.hbm, 181, rfl⟩
abbrev main_call0_v148 : Ref sig .tc := ⟨.hbm, 182, rfl⟩
abbrev main_call0_v149 : Ref sig .tc := ⟨.hbm, 183, rfl⟩
abbrev main_v0 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg17_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem17_0 : DmaSem sig := 29

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := .none

abbrev stage1_0 : Fin 1 → Memref sig .tc .vmem S3072x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x3072 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S3072x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S192x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S3x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1152x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S3x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1152x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S3x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x384 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x384 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S384x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S32x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S128x5 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x5 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S256x5 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
-- ==== KernelIdeal.lean ====
variable {F : FTy → Type} [FloatOps F] [Named F]
def κ : String → Option EReal := fun
  | "inv62" => some ((1 / 62 : ℝ) : EReal)
  | _ => none
-- ==== ReferenceIdeal.lean ====
abbrev S3072x1000 : Shape := ⟨2, ![3072, 1000]⟩
abbrev S256x32 : Shape := ⟨2, ![256, 32]⟩
abbrev S3072 : Shape := ⟨1, ![3072]⟩
abbrev S2x33792 : Shape := ⟨2, ![2, 33792]⟩
abbrev S64x1x7 : Shape := ⟨3, ![64, 1, 7]⟩
abbrev S64 : Shape := ⟨1, ![64]⟩
abbrev S64x64x3 : Shape := ⟨3, ![64, 64, 3]⟩
abbrev S64x64 : Shape := ⟨2, ![64, 64]⟩
abbrev S3x64x128 : Shape := ⟨3, ![3, 64, 128]⟩
abbrev S3x128 : Shape := ⟨2, ![3, 128]⟩
abbrev S3x384x128 : Shape := ⟨3, ![3, 384, 128]⟩
abbrev S384 : Shape := ⟨1, ![384]⟩
abbrev S416x128 : Shape := ⟨2, ![416, 128]⟩
abbrev S128 : Shape := ⟨1, ![128]⟩
abbrev S128x5 : Shape := ⟨2, ![128, 5]⟩
abbrev S5 : Shape := ⟨1, ![5]⟩
abbrev S1x33792 : Shape := ⟨2, ![1, 33792]⟩
abbrev S33792 : Shape := ⟨1, ![33792]⟩
abbrev S_ : Shape := ⟨0, ![]⟩
abbrev S33792x1 : Shape := ⟨2, ![33792, 1]⟩
abbrev S3072x1 : Shape := ⟨2, ![3072, 1]⟩
abbrev S256 : Shape := ⟨1, ![256]⟩
abbrev S256x1 : Shape := ⟨2, ![256, 1]⟩
abbrev S64x1x1 : Shape := ⟨3, ![64, 1, 1]⟩
abbrev S64x64x1 : Shape := ⟨3, ![64, 64, 1]⟩
abbrev S1x64x128 : Shape := ⟨3, ![1, 64, 128]⟩
abbrev S64x128 : Shape := ⟨2, ![64, 128]⟩
abbrev S1x128 : Shape := ⟨2, ![1, 128]⟩
abbrev S1x384x128 : Shape := ⟨3, ![1, 384, 128]⟩
abbrev S384x128 : Shape := ⟨2, ![384, 128]⟩
abbrev S3072x1006 : Shape := ⟨2, ![3072, 1006]⟩
abbrev S3072x250 : Shape := ⟨2, ![3072, 250]⟩
abbrev S3072x250x1 : Shape := ⟨3, ![3072, 250, 1]⟩
abbrev S1x1x64 : Shape := ⟨3, ![1, 1, 64]⟩
abbrev S3072x250x64 : Shape := ⟨3, ![3072, 250, 64]⟩
abbrev S3072x248x64 : Shape := ⟨3, ![3072, 248, 64]⟩
abbrev S3072x62x4x64 : Shape := ⟨4, ![3072, 62, 4, 64]⟩
abbrev S3072x62x64 : Shape := ⟨3, ![3072, 62, 64]⟩
abbrev S3072x64x64 : Shape := ⟨3, ![3072, 64, 64]⟩
abbrev S3072x64 : Shape := ⟨2, ![3072, 64]⟩
abbrev S1x64 : Shape := ⟨2, ![1, 64]⟩
abbrev S33792x64 : Shape := ⟨2, ![33792, 64]⟩
abbrev S3072x128 : Shape := ⟨2, ![3072, 128]⟩
abbrev S3072x384 : Shape := ⟨2, ![3072, 384]⟩
abbrev S33792x384 : Shape := ⟨2, ![33792, 384]⟩
abbrev S256x384 : Shape := ⟨2, ![256, 384]⟩
abbrev S1x384 : Shape := ⟨2, ![1, 384]⟩
abbrev S256x416 : Shape := ⟨2, ![256, 416]⟩
abbrev S256x128 : Shape := ⟨2, ![256, 128]⟩
abbrev S256x5 : Shape := ⟨2, ![256, 5]⟩
abbrev S1x5 : Shape := ⟨2, ![1, 5]⟩

abbrev nBuf : Space → Nat
  | .hbm => 459
  | .vmem => 0
  | .smem => 0
  | _ => 0

abbrev hbmTy0_0 (i : Nat) : BufTy := match i % 128 with
  | 0 => ⟨S3072x1000, .f32⟩
  | 1 => ⟨S256x32, .f32⟩
  | 2 => ⟨S3072, .i32⟩
  | 3 => ⟨S2x33792, .i32⟩
  | 4 => ⟨S64x1x7, .f32⟩
  | 5 => ⟨S64, .f32⟩
  | 6 => ⟨S64x64x3, .f32⟩
  | 7 => ⟨S64, .f32⟩
  | 8 => ⟨S64x64x3, .f32⟩
  | 9 => ⟨S64, .f32⟩
  | 10 => ⟨S64x64, .f32⟩
  | 11 => ⟨S64, .f32⟩
  | 12 => ⟨S3x64x128, .f32⟩
  | 13 => ⟨S3x128, .f32⟩
  | 14 => ⟨S3x384x128, .f32⟩
  | 15 => ⟨S3x128, .f32⟩
  | 16 => ⟨S3x384x128, .f32⟩
  | 17 => ⟨S3x128, .f32⟩
  | 18 => ⟨S384, .f32⟩
  | 19 => ⟨S384, .f32⟩
  | 20 => ⟨S416x128, .f32⟩
  | 21 => ⟨S128, .f32⟩
  | 22 => ⟨S128x5, .f32⟩
  | 23 => ⟨S5, .f32⟩
  | 24 => ⟨S1x33792, .i32⟩
  | 25 => ⟨S33792, .i32⟩
  | 26 => ⟨S1x33792, .i32⟩
  | 27 => ⟨S33792, .i32⟩
  | 28 => ⟨S_, .f32⟩
  | 29 => ⟨S33792, .f32⟩
  | 30 => ⟨S_, .f32⟩
  | 31 => ⟨S3072, .f32⟩
  | 32 => ⟨S33792x1, .i32⟩
  | 33 => ⟨S3072, .f32⟩
  | 34 => ⟨S_, .f32⟩
  | 35 => ⟨S3072, .f32⟩
  | 36 => ⟨S3072, .f32⟩
  | 37 => ⟨S3072x1, .f32⟩
  | 38 => ⟨S_, .f32⟩
  | 39 => ⟨S3072, .f32⟩
  | 40 => ⟨S_, .f32⟩
  | 41 => ⟨S256, .f32⟩
  | 42 => ⟨S3072x1, .i32⟩
  | 43 => ⟨S256, .f32⟩
  | 44 => ⟨S256x1, .f32⟩
  | 45 => ⟨S_, .f32⟩
  | 46 => ⟨S256x1, .f32⟩
  | 47 => ⟨S256x1, .f32⟩
  | 48 => ⟨S64x1x1, .f32⟩
  | 49 => ⟨S64, .f32⟩
  | 50 => ⟨S64x1x1, .f32⟩
  | 51 => ⟨S64, .f32⟩
  | 52 => ⟨S64x1x1, .f32⟩
  | 53 => ⟨S64, .f32⟩
  | 54 => ⟨S64x1x1, .f32⟩
  | 55 => ⟨S64, .f32⟩
  | 56 => ⟨S64x1x1, .f32⟩
  | 57 => ⟨S64, .f32⟩
  | 58 => ⟨S64x1x1, .f32⟩
  | 59 => ⟨S64, .f32⟩
  | 60 => ⟨S64x1x1, .f32⟩
  | 61 => ⟨S64, .f32⟩
  | 62 => ⟨S64x64x1, .f32⟩
  | 63 => ⟨S64x64, .f32⟩
  | 64 => ⟨S64x64x1, .f32⟩
  | 65 => ⟨S64x64, .f32⟩
  | 66 => ⟨S64x64x1, .f32⟩
  | 67 => ⟨S64x64, .f32⟩
  | 68 => ⟨S64x64x1, .f32⟩
  | 69 => ⟨S64x64, .f32⟩
  | 70 => ⟨S64x64x1, .f32⟩
  | 71 => ⟨S64x64, .f32⟩
  | 72 => ⟨S64x64x1, .f32⟩
  | 73 => ⟨S64x64, .f32⟩
  | 74 => ⟨S1x64x128, .f32⟩
  | 75 => ⟨S64x128, .f32⟩
  | 76 => ⟨S1x128, .f32⟩
  | 77 => ⟨S128, .f32⟩
  | 78 => ⟨S1x64x128, .f32⟩
  | 79 => ⟨S64x128, .f32⟩
  | 80 => ⟨S1x128, .f32⟩
  | 81 => ⟨S128, .f32⟩
  | 82 => ⟨S1x64x128, .f32⟩
  | 83 => ⟨S64x128, .f32⟩
  | 84 => ⟨S1x128, .f32⟩
  | 85 => ⟨S128, .f32⟩
  | 86 => ⟨S1x384x128, .f32⟩
  | 87 => ⟨S384x128, .f32⟩
  | 88 => ⟨S1x128, .f32⟩
  | 89 => ⟨S128, .f32⟩
  | 90 => ⟨S1x384x128, .f32⟩
  | 91 => ⟨S384x128, .f32⟩
  | 92 => ⟨S1x128, .f32⟩
  | 93 => ⟨S128, .f32⟩
  | 94 => ⟨S1x384x128, .f32⟩
  | 95 => ⟨S384x128, .f32⟩
  | 96 => ⟨S1x128, .f32⟩
  | 97 => ⟨S128, .f32⟩
  | 98 => ⟨S1x384x128, .f32⟩
  | 99 => ⟨S384x128, .f32⟩
  | 100 => ⟨S1x128, .f32⟩
  | 101 => ⟨S128, .f32⟩
  | 102 => ⟨S1x384x128, .f32⟩
  | 103 => ⟨S384x128, .f32⟩
  | 104 => ⟨S1x128, .f32⟩
  | 105 => ⟨S128, .f32⟩
  | 106 => ⟨S1x384x128, .f32⟩
  | 107 => ⟨S384x128, .f32⟩
  | 108 => ⟨S1x128, .f32⟩
  | 109 => ⟨S128, .f32⟩
  | 110 => ⟨S_, .i32⟩
  | 111 => ⟨S_, .f32⟩
  | 112 => ⟨S3072x1006, .f32⟩
  | 113 => ⟨S3072x250, .f32⟩
  | 114 => ⟨S3072x250x1, .f32⟩
  | 115 => ⟨S1x1x64, .f32⟩
  | 116 => ⟨S3072x250x64, .f32⟩
  | 117 => ⟨S3072x250x64, .f32⟩
  | 118 => ⟨S3072x250x64, .f32⟩
  | 119 => ⟨S_, .f32⟩
  | 120 => ⟨S3072x250x64, .f32⟩
  | 121 => ⟨S3072x250x64, .f32⟩
  | 122 => ⟨S3072x250, .f32⟩
  | 123 => ⟨S3072x250x1, .f32⟩
  | 124 => ⟨S1x1x64, .f32⟩
  | 125 => ⟨S3072x250x64, .f32⟩
  | 126 => ⟨S3072x250x64, .f32⟩
  | 127 => ⟨S3072x250x64, .f32⟩
  | _ => ⟨S3072x1000, .f32⟩

abbrev hbmTy0_1 (i : Nat) : BufTy := match i % 128 with
  | 0 => ⟨S3072x250x64, .f32⟩
  | 1 => ⟨S3072x250, .f32⟩
  | 2 => ⟨S3072x250x1, .f32⟩
  | 3 => ⟨S1x1x64, .f32⟩
  | 4 => ⟨S3072x250x64, .f32⟩
  | 5 => ⟨S3072x250x64, .f32⟩
  | 6 => ⟨S3072x250x64, .f32⟩
  | 7 => ⟨S3072x250x64, .f32⟩
  | 8 => ⟨S3072x250, .f32⟩
  | 9 => ⟨S3072x250x1, .f32⟩
  | 10 => ⟨S1x1x64, .f32⟩
  | 11 => ⟨S3072x250x64, .f32⟩
  | 12 => ⟨S3072x250x64, .f32⟩
  | 13 => ⟨S3072x250x64, .f32⟩
  | 14 => ⟨S3072x250x64, .f32⟩
  | 15 => ⟨S3072x250, .f32⟩
  | 16 => ⟨S3072x250x1, .f32⟩
  | 17 => ⟨S1x1x64, .f32⟩
  | 18 => ⟨S3072x250x64, .f32⟩
  | 19 => ⟨S3072x250x64, .f32⟩
  | 20 => ⟨S3072x250x64, .f32⟩
  | 21 => ⟨S3072x250x64, .f32⟩
  | 22 => ⟨S3072x250, .f32⟩
  | 23 => ⟨S3072x250x1, .f32⟩
  | 24 => ⟨S1x1x64, .f32⟩
  | 25 => ⟨S3072x250x64, .f32⟩
  | 26 => ⟨S3072x250x64, .f32⟩
  | 27 => ⟨S3072x250x64, .f32⟩
  | 28 => ⟨S3072x250x64, .f32⟩
  | 29 => ⟨S3072x250, .f32⟩
  | 30 => ⟨S3072x250x1, .f32⟩
  | 31 => ⟨S1x1x64, .f32⟩
  | 32 => ⟨S3072x250x64, .f32⟩
  | 33 => ⟨S3072x250x64, .f32⟩
  | 34 => ⟨S3072x250x64, .f32⟩
  | 35 => ⟨S3072x250x64, .f32⟩
  | 36 => ⟨S1x1x64, .f32⟩
  | 37 => ⟨S3072x250x64, .f32⟩
  | 38 => ⟨S3072x250x64, .f32⟩
  | 39 => ⟨S_, .f32⟩
  | 40 => ⟨S3072x250x64, .f32⟩
  | 41 => ⟨S3072x250x64, .f32⟩
  | 42 => ⟨S3072x248x64, .f32⟩
  | 43 => ⟨S3072x62x4x64, .f32⟩
  | 44 => ⟨S_, .f32⟩
  | 45 => ⟨S3072x62x64, .f32⟩
  | 46 => ⟨S_, .i32⟩
  | 47 => ⟨S_, .f32⟩
  | 48 => ⟨S3072x64x64, .f32⟩
  | 49 => ⟨S3072x62x64, .f32⟩
  | 50 => ⟨S3072x62x64, .f32⟩
  | 51 => ⟨S_, .f32⟩
  | 52 => ⟨S3072x62x64, .f32⟩
  | 53 => ⟨S3072x62x64, .f32⟩
  | 54 => ⟨S3072x62x64, .f32⟩
  | 55 => ⟨S3072x62x64, .f32⟩
  | 56 => ⟨S3072x62x64, .f32⟩
  | 57 => ⟨S3072x62x64, .f32⟩
  | 58 => ⟨S3072x62x64, .f32⟩
  | 59 => ⟨S3072x62x64, .f32⟩
  | 60 => ⟨S1x1x64, .f32⟩
  | 61 => ⟨S3072x62x64, .f32⟩
  | 62 => ⟨S3072x62x64, .f32⟩
  | 63 => ⟨S_, .f32⟩
  | 64 => ⟨S3072x62x64, .f32⟩
  | 65 => ⟨S3072x62x64, .f32⟩
  | 66 => ⟨S_, .i32⟩
  | 67 => ⟨S_, .f32⟩
  | 68 => ⟨S3072x64x64, .f32⟩
  | 69 => ⟨S3072x62x64, .f32⟩
  | 70 => ⟨S3072x62x64, .f32⟩
  | 71 => ⟨S_, .f32⟩
  | 72 => ⟨S3072x62x64, .f32⟩
  | 73 => ⟨S3072x62x64, .f32⟩
  | 74 => ⟨S3072x62x64, .f32⟩
  | 75 => ⟨S3072x62x64, .f32⟩
  | 76 => ⟨S3072x62x64, .f32⟩
  | 77 => ⟨S3072x62x64, .f32⟩
  | 78 => ⟨S3072x62x64, .f32⟩
  | 79 => ⟨S3072x62x64, .f32⟩
  | 80 => ⟨S1x1x64, .f32⟩
  | 81 => ⟨S3072x62x64, .f32⟩
  | 82 => ⟨S3072x62x64, .f32⟩
  | 83 => ⟨S3072x62x64, .f32⟩
  | 84 => ⟨S_, .f32⟩
  | 85 => ⟨S3072x62x64, .f32⟩
  | 86 => ⟨S3072x62x64, .f32⟩
  | 87 => ⟨S_, .f32⟩
  | 88 => ⟨S3072x64, .f32⟩
  | 89 => ⟨S_, .f32⟩
  | 90 => ⟨S3072x64, .f32⟩
  | 91 => ⟨S3072x64, .f32⟩
  | 92 => ⟨S3072x64, .f32⟩
  | 93 => ⟨S1x64, .f32⟩
  | 94 => ⟨S3072x64, .f32⟩
  | 95 => ⟨S3072x64, .f32⟩
  | 96 => ⟨S_, .f32⟩
  | 97 => ⟨S3072x64, .f32⟩
  | 98 => ⟨S3072x64, .f32⟩
  | 99 => ⟨S_, .i32⟩
  | 100 => ⟨S33792, .i32⟩
  | 101 => ⟨S33792, .i1⟩
  | 102 => ⟨S_, .i32⟩
  | 103 => ⟨S33792, .i32⟩
  | 104 => ⟨S33792, .i32⟩
  | 105 => ⟨S33792, .i32⟩
  | 106 => ⟨S33792x1, .i32⟩
  | 107 => ⟨S33792x64, .f32⟩
  | 108 => ⟨S_, .f32⟩
  | 109 => ⟨S3072x64, .f32⟩
  | 110 => ⟨S33792x1, .i32⟩
  | 111 => ⟨S3072x64, .f32⟩
  | 112 => ⟨S3072x64, .f32⟩
  | 113 => ⟨S3072x64, .f32⟩
  | 114 => ⟨S3072x128, .f32⟩
  | 115 => ⟨S1x128, .f32⟩
  | 116 => ⟨S3072x128, .f32⟩
  | 117 => ⟨S3072x128, .f32⟩
  | 118 => ⟨S_, .i32⟩
  | 119 => ⟨S33792, .i32⟩
  | 120 => ⟨S33792, .i1⟩
  | 121 => ⟨S_, .i32⟩
  | 122 => ⟨S33792, .i32⟩
  | 123 => ⟨S33792, .i32⟩
  | 124 => ⟨S33792, .i32⟩
  | 125 => ⟨S33792x1, .i32⟩
  | 126 => ⟨S33792x64, .f32⟩
  | 127 => ⟨S_, .f32⟩
  | _ => ⟨S3072x1000, .f32⟩

abbrev hbmTy0_2 (i : Nat) : BufTy := match i % 128 with
  | 0 => ⟨S3072x64, .f32⟩
  | 1 => ⟨S33792x1, .i32⟩
  | 2 => ⟨S3072x64, .f32⟩
  | 3 => ⟨S3072x64, .f32⟩
  | 4 => ⟨S3072x64, .f32⟩
  | 5 => ⟨S3072x128, .f32⟩
  | 6 => ⟨S1x128, .f32⟩
  | 7 => ⟨S3072x128, .f32⟩
  | 8 => ⟨S3072x128, .f32⟩
  | 9 => ⟨S_, .i32⟩
  | 10 => ⟨S33792, .i32⟩
  | 11 => ⟨S33792, .i1⟩
  | 12 => ⟨S_, .i32⟩
  | 13 => ⟨S33792, .i32⟩
  | 14 => ⟨S33792, .i32⟩
  | 15 => ⟨S33792, .i32⟩
  | 16 => ⟨S33792x1, .i32⟩
  | 17 => ⟨S33792x64, .f32⟩
  | 18 => ⟨S_, .f32⟩
  | 19 => ⟨S3072x64, .f32⟩
  | 20 => ⟨S33792x1, .i32⟩
  | 21 => ⟨S3072x64, .f32⟩
  | 22 => ⟨S3072x64, .f32⟩
  | 23 => ⟨S3072x64, .f32⟩
  | 24 => ⟨S3072x128, .f32⟩
  | 25 => ⟨S1x128, .f32⟩
  | 26 => ⟨S3072x128, .f32⟩
  | 27 => ⟨S3072x128, .f32⟩
  | 28 => ⟨S3072x384, .f32⟩
  | 29 => ⟨S_, .f32⟩
  | 30 => ⟨S3072x384, .f32⟩
  | 31 => ⟨S3072x384, .f32⟩
  | 32 => ⟨S_, .i32⟩
  | 33 => ⟨S33792, .i32⟩
  | 34 => ⟨S33792, .i1⟩
  | 35 => ⟨S_, .i32⟩
  | 36 => ⟨S33792, .i32⟩
  | 37 => ⟨S33792, .i32⟩
  | 38 => ⟨S33792, .i32⟩
  | 39 => ⟨S33792x1, .i32⟩
  | 40 => ⟨S33792x384, .f32⟩
  | 41 => ⟨S_, .f32⟩
  | 42 => ⟨S3072x384, .f32⟩
  | 43 => ⟨S33792x1, .i32⟩
  | 44 => ⟨S3072x384, .f32⟩
  | 45 => ⟨S3072x384, .f32⟩
  | 46 => ⟨S3072x384, .f32⟩
  | 47 => ⟨S3072x128, .f32⟩
  | 48 => ⟨S1x128, .f32⟩
  | 49 => ⟨S3072x128, .f32⟩
  | 50 => ⟨S3072x128, .f32⟩
  | 51 => ⟨S_, .i32⟩
  | 52 => ⟨S33792, .i32⟩
  | 53 => ⟨S33792, .i1⟩
  | 54 => ⟨S_, .i32⟩
  | 55 => ⟨S33792, .i32⟩
  | 56 => ⟨S33792, .i32⟩
  | 57 => ⟨S33792, .i32⟩
  | 58 => ⟨S33792x1, .i32⟩
  | 59 => ⟨S33792x384, .f32⟩
  | 60 => ⟨S_, .f32⟩
  | 61 => ⟨S3072x384, .f32⟩
  | 62 => ⟨S33792x1, .i32⟩
  | 63 => ⟨S3072x384, .f32⟩
  | 64 => ⟨S3072x384, .f32⟩
  | 65 => ⟨S3072x384, .f32⟩
  | 66 => ⟨S3072x128, .f32⟩
  | 67 => ⟨S1x128, .f32⟩
  | 68 => ⟨S3072x128, .f32⟩
  | 69 => ⟨S3072x128, .f32⟩
  | 70 => ⟨S_, .i32⟩
  | 71 => ⟨S33792, .i32⟩
  | 72 => ⟨S33792, .i1⟩
  | 73 => ⟨S_, .i32⟩
  | 74 => ⟨S33792, .i32⟩
  | 75 => ⟨S33792, .i32⟩
  | 76 => ⟨S33792, .i32⟩
  | 77 => ⟨S33792x1, .i32⟩
  | 78 => ⟨S33792x384, .f32⟩
  | 79 => ⟨S_, .f32⟩
  | 80 => ⟨S3072x384, .f32⟩
  | 81 => ⟨S33792x1, .i32⟩
  | 82 => ⟨S3072x384, .f32⟩
  | 83 => ⟨S3072x384, .f32⟩
  | 84 => ⟨S3072x384, .f32⟩
  | 85 => ⟨S3072x128, .f32⟩
  | 86 => ⟨S1x128, .f32⟩
  | 87 => ⟨S3072x128, .f32⟩
  | 88 => ⟨S3072x128, .f32⟩
  | 89 => ⟨S3072x384, .f32⟩
  | 90 => ⟨S_, .f32⟩
  | 91 => ⟨S3072x384, .f32⟩
  | 92 => ⟨S3072x384, .f32⟩
  | 93 => ⟨S_, .i32⟩
  | 94 => ⟨S33792, .i32⟩
  | 95 => ⟨S33792, .i1⟩
  | 96 => ⟨S_, .i32⟩
  | 97 => ⟨S33792, .i32⟩
  | 98 => ⟨S33792, .i32⟩
  | 99 => ⟨S33792, .i32⟩
  | 100 => ⟨S33792x1, .i32⟩
  | 101 => ⟨S33792x384, .f32⟩
  | 102 => ⟨S_, .f32⟩
  | 103 => ⟨S3072x384, .f32⟩
  | 104 => ⟨S33792x1, .i32⟩
  | 105 => ⟨S3072x384, .f32⟩
  | 106 => ⟨S3072x384, .f32⟩
  | 107 => ⟨S3072x384, .f32⟩
  | 108 => ⟨S3072x128, .f32⟩
  | 109 => ⟨S1x128, .f32⟩
  | 110 => ⟨S3072x128, .f32⟩
  | 111 => ⟨S3072x128, .f32⟩
  | 112 => ⟨S_, .i32⟩
  | 113 => ⟨S33792, .i32⟩
  | 114 => ⟨S33792, .i1⟩
  | 115 => ⟨S_, .i32⟩
  | 116 => ⟨S33792, .i32⟩
  | 117 => ⟨S33792, .i32⟩
  | 118 => ⟨S33792, .i32⟩
  | 119 => ⟨S33792x1, .i32⟩
  | 120 => ⟨S33792x384, .f32⟩
  | 121 => ⟨S_, .f32⟩
  | 122 => ⟨S3072x384, .f32⟩
  | 123 => ⟨S33792x1, .i32⟩
  | 124 => ⟨S3072x384, .f32⟩
  | 125 => ⟨S3072x384, .f32⟩
  | 126 => ⟨S3072x384, .f32⟩
  | 127 => ⟨S3072x128, .f32⟩
  | _ => ⟨S3072x1000, .f32⟩

abbrev hbmTy0_3 (i : Nat) : BufTy := match i % 128 with
  | 0 => ⟨S1x128, .f32⟩
  | 1 => ⟨S3072x128, .f32⟩
  | 2 => ⟨S3072x128, .f32⟩
  | 3 => ⟨S_, .i32⟩
  | 4 => ⟨S33792, .i32⟩
  | 5 => ⟨S33792, .i1⟩
  | 6 => ⟨S_, .i32⟩
  | 7 => ⟨S33792, .i32⟩
  | 8 => ⟨S33792, .i32⟩
  | 9 => ⟨S33792, .i32⟩
  | 10 => ⟨S33792x1, .i32⟩
  | 11 => ⟨S33792x384, .f32⟩
  | 12 => ⟨S_, .f32⟩
  | 13 => ⟨S3072x384, .f32⟩
  | 14 => ⟨S33792x1, .i32⟩
  | 15 => ⟨S3072x384, .f32⟩
  | 16 => ⟨S3072x384, .f32⟩
  | 17 => ⟨S3072x384, .f32⟩
  | 18 => ⟨S3072x128, .f32⟩
  | 19 => ⟨S1x128, .f32⟩
  | 20 => ⟨S3072x128, .f32⟩
  | 21 => ⟨S3072x128, .f32⟩
  | 22 => ⟨S3072x384, .f32⟩
  | 23 => ⟨S_, .f32⟩
  | 24 => ⟨S3072x384, .f32⟩
  | 25 => ⟨S3072x384, .f32⟩
  | 26 => ⟨S_, .f32⟩
  | 27 => ⟨S256x384, .f32⟩
  | 28 => ⟨S3072x1, .i32⟩
  | 29 => ⟨S256x384, .f32⟩
  | 30 => ⟨S256x384, .f32⟩
  | 31 => ⟨S256x384, .f32⟩
  | 32 => ⟨S_, .f32⟩
  | 33 => ⟨S256, .f32⟩
  | 34 => ⟨S256x1, .f32⟩
  | 35 => ⟨S_, .f32⟩
  | 36 => ⟨S256x1, .f32⟩
  | 37 => ⟨S256x1, .f32⟩
  | 38 => ⟨S256x384, .f32⟩
  | 39 => ⟨S256x384, .f32⟩
  | 40 => ⟨S256x384, .f32⟩
  | 41 => ⟨S256x384, .f32⟩
  | 42 => ⟨S256x384, .f32⟩
  | 43 => ⟨S_, .f32⟩
  | 44 => ⟨S256, .f32⟩
  | 45 => ⟨S256x1, .f32⟩
  | 46 => ⟨S_, .f32⟩
  | 47 => ⟨S256x1, .f32⟩
  | 48 => ⟨S256x1, .f32⟩
  | 49 => ⟨S256x384, .f32⟩
  | 50 => ⟨S256x384, .f32⟩
  | 51 => ⟨S_, .f32⟩
  | 52 => ⟨S256x1, .f32⟩
  | 53 => ⟨S256x1, .f32⟩
  | 54 => ⟨S256x1, .f32⟩
  | 55 => ⟨S256x384, .f32⟩
  | 56 => ⟨S256x384, .f32⟩
  | 57 => ⟨S1x384, .f32⟩
  | 58 => ⟨S256x384, .f32⟩
  | 59 => ⟨S256x384, .f32⟩
  | 60 => ⟨S1x384, .f32⟩
  | 61 => ⟨S256x384, .f32⟩
  | 62 => ⟨S256x384, .f32⟩
  | 63 => ⟨S256x416, .f32⟩
  | 64 => ⟨S256x128, .f32⟩
  | 65 => ⟨S1x128, .f32⟩
  | 66 => ⟨S256x128, .f32⟩
  | 67 => ⟨S256x128, .f32⟩
  | 68 => ⟨S_, .f32⟩
  | 69 => ⟨S256x128, .f32⟩
  | 70 => ⟨S256x128, .f32⟩
  | 71 => ⟨S256x5, .f32⟩
  | 72 => ⟨S1x5, .f32⟩
  | 73 => ⟨S256x5, .f32⟩
  | 74 => ⟨S256x5, .f32⟩
  | _ => ⟨S3072x1000, .f32⟩

abbrev hbmTy (i : Nat) : BufTy := match i / 128 with
  | 0 => hbmTy0_0 i
  | 1 => hbmTy0_1 i
  | 2 => hbmTy0_2 i
  | 3 => hbmTy0_3 i
  | _ => ⟨S3072x1000, .f32⟩

abbrev bufTy : (tb : Table) → Fin (tcTables nBuf tb) → BufTy
  | .hbm, ⟨i, _⟩ => hbmTy i
  | _, _ => ⟨S3072x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c : Ref sig .tc := ⟨.hbm, 110, rfl⟩
abbrev main_call0_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_5 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_6 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_7 : Ref sig .tc := ⟨.hbm, 172, rfl⟩
abbrev main_v138 : Ref sig .tc := ⟨.hbm, 173, rfl⟩
abbrev main_c_8 : Ref sig .tc := ⟨.hbm, 174, rfl⟩
abbrev main_call1_v0 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_9 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_10 : Ref sig .tc := ⟨.hbm, 191, rfl⟩
abbrev main_v153 : Ref sig .tc := ⟨.hbm, 192, rfl⟩
abbrev main_v154 : Ref sig .tc := ⟨.hbm, 193, rfl⟩
abbrev main_c_11 : Ref sig .tc := ⟨.hbm, 194, rfl⟩
abbrev main_call2_v0 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_cst_12 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_cst_13 : Ref sig .tc := ⟨.hbm, 212, rfl⟩
abbrev main_v170 : Ref sig .tc := ⟨.hbm, 213, rfl⟩
abbrev main_v171 : Ref sig .tc := ⟨.hbm, 214, rfl⟩
abbrev main_cst_14 : Ref sig .tc := ⟨.hbm, 215, rfl⟩
abbrev main_v172 : Ref sig .tc := ⟨.hbm, 216, rfl⟩
abbrev main_cst_15 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_cst_16 : Ref sig .tc := ⟨.hbm, 224, rfl⟩
abbrev main_v179 : Ref sig .tc := ⟨.hbm, 225, rfl⟩
abbrev main_v180 : Ref sig .tc := ⟨.hbm, 226, rfl⟩
abbrev main_c_17 : Ref sig .tc := ⟨.hbm, 227, rfl⟩
abbrev main_v181 : Ref sig .tc := ⟨.hbm, 228, rfl⟩
abbrev main_v182 : Ref sig .tc := ⟨.hbm, 229, rfl⟩
abbrev main_c_18 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_cst_19 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_c_20 : Ref sig .tc := ⟨.hbm, 246, rfl⟩
abbrev main_v197 : Ref sig .tc := ⟨.hbm, 247, rfl⟩
abbrev main_v198 : Ref sig .tc := ⟨.hbm, 248, rfl⟩
abbrev main_c_21 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_cst_22 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_c_23 : Ref sig .tc := ⟨.hbm, 265, rfl⟩
abbrev main_v213 : Ref sig .tc := ⟨.hbm, 266, rfl⟩
abbrev main_v214 : Ref sig .tc := ⟨.hbm, 267, rfl⟩
abbrev main_c_24 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_cst_25 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_cst_26 : Ref sig .tc := ⟨.hbm, 285, rfl⟩
abbrev main_v230 : Ref sig .tc := ⟨.hbm, 286, rfl⟩
abbrev main_v231 : Ref sig .tc := ⟨.hbm, 287, rfl⟩
abbrev main_c_27 : Ref sig .tc := ⟨.hbm, 288, rfl⟩
abbrev main_v232 : Ref sig .tc := ⟨.hbm, 289, rfl⟩
abbrev main_v233 : Ref sig .tc := ⟨.hbm, 290, rfl⟩
abbrev main_c_28 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_cst_29 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_c_30 : Ref sig .tc := ⟨.hbm, 307, rfl⟩
abbrev main_v248 : Ref sig .tc := ⟨.hbm, 308, rfl⟩
abbrev main_v249 : Ref sig .tc := ⟨.hbm, 309, rfl⟩
abbrev main_c_31 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_cst_32 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_c_33 : Ref sig .tc := ⟨.hbm, 326, rfl⟩
abbrev main_v264 : Ref sig .tc := ⟨.hbm, 327, rfl⟩
abbrev main_v265 : Ref sig .tc := ⟨.hbm, 328, rfl⟩
abbrev main_c_34 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_cst_35 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_cst_36 : Ref sig .tc := ⟨.hbm, 346, rfl⟩
abbrev main_v281 : Ref sig .tc := ⟨.hbm, 347, rfl⟩
abbrev main_v282 : Ref sig .tc := ⟨.hbm, 348, rfl⟩
abbrev main_c_37 : Ref sig .tc := ⟨.hbm, 349, rfl⟩
abbrev main_v283 : Ref sig .tc := ⟨.hbm, 350, rfl⟩
abbrev main_v284 : Ref sig .tc := ⟨.hbm, 351, rfl⟩
abbrev main_c_38 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_cst_39 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_c_40 : Ref sig .tc := ⟨.hbm, 368, rfl⟩
abbrev main_v299 : Ref sig .tc := ⟨.hbm, 369, rfl⟩
abbrev main_v300 : Ref sig .tc := ⟨.hbm, 370, rfl⟩
abbrev main_c_41 : Ref sig .tc := ⟨.hbm, 371, rfl⟩
abbrev main_v301 : Ref sig .tc := ⟨.hbm, 372, rfl⟩
abbrev main_v302 : Ref sig .tc := ⟨.hbm, 373, rfl⟩
abbrev main_v303 : Ref sig .tc := ⟨.hbm, 374, rfl⟩
abbrev main_v304 : Ref sig .tc := ⟨.hbm, 375, rfl⟩
abbrev main_v305 : Ref sig .tc := ⟨.hbm, 376, rfl⟩
abbrev main_cst_42 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_c_43 : Ref sig .tc := ⟨.hbm, 387, rfl⟩
abbrev main_v315 : Ref sig .tc := ⟨.hbm, 388, rfl⟩
abbrev main_v316 : Ref sig .tc := ⟨.hbm, 389, rfl⟩
abbrev main_c_44 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_cst_45 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_cst_46 : Ref sig .tc := ⟨.hbm, 407, rfl⟩
abbrev main_v332 : Ref sig .tc := ⟨.hbm, 408, rfl⟩
abbrev main_v333 : Ref sig .tc := ⟨.hbm, 409, rfl⟩
abbrev main_cst_47 : Ref sig .tc := ⟨.hbm, 410, rfl⟩
abbrev main_v334 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_v338 : Ref sig .tc := ⟨.hbm, 415, rfl⟩
abbrev main_cst_48 : Ref sig .tc := ⟨.hbm, 416, rfl⟩
abbrev main_v339 : Ref sig .tc := ⟨.hbm, 417, rfl⟩
abbrev main_v340 : Ref sig .tc := ⟨.hbm, 418, rfl⟩
abbrev main_cst_49 : Ref sig .tc := ⟨.hbm, 419, rfl⟩
abbrev main_v341 : Ref sig .tc := ⟨.hbm, 420, rfl⟩
abbrev main_v342 : Ref sig .tc := ⟨.hbm, 421, rfl⟩
abbrev main_v343 : Ref sig .tc := ⟨.hbm, 422, rfl⟩
abbrev main_v344 : Ref sig .tc := ⟨.hbm, 423, rfl⟩
abbrev main_v345 : Ref sig .tc := ⟨.hbm, 424, rfl⟩
abbrev main_v346 : Ref sig .tc := ⟨.hbm, 425, rfl⟩
abbrev main_v347 : Ref sig .tc := ⟨.hbm, 426, rfl⟩
abbrev main_cst_50 : Ref sig .tc := ⟨.hbm, 427, rfl⟩
abbrev main_v348 : Ref sig .tc := ⟨.hbm, 428, rfl⟩
abbrev main_v349 : Ref sig .tc := ⟨.hbm, 429, rfl⟩
abbrev main_cst_51 : Ref sig .tc := ⟨.hbm, 430, rfl⟩
abbrev main_v350 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_cst_52 : Ref sig .tc := ⟨.hbm, 435, rfl⟩
abbrev main_v354 : Ref sig .tc := ⟨.hbm, 436, rfl⟩
abbrev main_v355 : Ref sig .tc := ⟨.hbm, 437, rfl⟩
abbrev main_v356 : Ref sig .tc := ⟨.hbm, 438, rfl⟩
abbrev main_v357 : Ref sig .tc := ⟨.hbm, 439, rfl⟩
abbrev main_v358 : Ref sig .tc := ⟨.hbm, 440, rfl⟩
abbrev main_v359 : Ref sig .tc := ⟨.hbm, 441, rfl⟩
abbrev main_v360 : Ref sig .tc := ⟨.hbm, 442, rfl⟩
abbrev main_v361 : Ref sig .tc := ⟨.hbm, 443, rfl⟩
abbrev main_v362 : Ref sig .tc := ⟨.hbm, 444, rfl⟩
abbrev main_v363 : Ref sig .tc := ⟨.hbm, 445, rfl⟩
abbrev main_v364 : Ref sig .tc := ⟨.hbm, 446, rfl⟩
abbrev main_v365 : Ref sig .tc := ⟨.hbm, 447, rfl⟩
abbrev main_v366 : Ref sig .tc := ⟨.hbm, 448, rfl⟩
abbrev main_v367 : Ref sig .tc := ⟨.hbm, 449, rfl⟩
abbrev main_v368 : Ref sig .tc := ⟨.hbm, 450, rfl⟩
abbrev main_v369 : Ref sig .tc := ⟨.hbm, 451, rfl⟩
abbrev main_cst_53 : Ref sig .tc := ⟨.hbm, 452, rfl⟩
abbrev main_v370 : Ref sig .tc := ⟨.hbm, 453, rfl⟩
abbrev main_v371 : Ref sig .tc := ⟨.hbm, 454, rfl⟩
abbrev main_v372 : Ref sig .tc := ⟨.hbm, 455, rfl⟩
abbrev main_v373 : Ref sig .tc := ⟨.hbm, 456, rfl⟩
abbrev main_v374 : Ref sig .tc := ⟨.hbm, 457, rfl⟩
abbrev main_v375 : Ref sig .tc := ⟨.hbm, 458, rfl⟩

abbrev nD : Nat := 1
abbrev τ : Topo := Topo.v7x

variable {F : FTy → Type} [FloatOps F]
-- ==== Proof.KernelRun.lean ====
/- The run of the kernel's program: it ends with every argument array as launched and with the result array at what
   the second region's write-backs leave. -/
module

public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s result array when the program ends. -/
def result (c : Dev nD) : Buf (Elt F) ((c.tc : Thread nD τ).loc main_v0) :=
  (dat1 (V3 m ρ) c).arrAt 17 cfg1.N

/-- At the last boundary the result reference holds `result`. -/
theorem W4_result (c : Dev nD) : W4 m ρ c (Proc.devRef .tc main_v0) = result m ρ c :=
  W4_arr m ρ c 17

/-- The program runs, leaves the arguments as they were, and leaves `result` in its result array. -/
theorem run : θ_run defs (onTc (τ := τ) (main (F := F))) ⟨m, fun _ => 0, ρ⟩ (fun r => ∀ c : Dev nD,
      r.2.mem ((c.tc : Thread nD τ).loc main_v0) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v0 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c),
       (h c _ (mem_uc main_arg20 (by decide))).trans (W4_main_arg20 m ρ c),
       (h c _ (mem_uc main_arg21 (by decide))).trans (W4_main_arg21 m ρ c),
       (h c _ (mem_uc main_arg22 (by decide))).trans (W4_main_arg22 m ρ c),
       (h c _ (mem_uc main_arg23 (by decide))).trans (W4_main_arg23 m ρ c)⟩)

end Cert.KernelIdeal.Run

end
-- ==== Proof.Spec.lean ====
/- The mathematics of the network as plain functions over the extended reals, which both programs are shown to
   compute: the encoder of one node, one graph layer over real node features, and what follows the layers. -/
module

public import Idealize.ShloMosaic.PureOps.Ideal

@[expose] public section

noncomputable section

namespace Cert.Spec

open Idealize.ShloMosaic

/-! ## The encoder of a node -/

/-- A node's signal with three zeros before it and zeros after it. -/
def xpad (x : Fin 3072 → Fin 1000 → EReal) (n : Fin 3072) (p : ℕ) : EReal :=
  if h : 3 ≤ p ∧ p < 1003 then x n ⟨p - 3, by omega⟩ else 0

/-- The first convolution at step `t`, without its bias: seven taps, stride four. -/
def conv1 (x : Fin 3072 → Fin 1000 → EReal) (w : Fin 64 → Fin 7 → EReal) (n : Fin 3072) (t : ℕ) (c : Fin 64) : EReal :=
  ∑ k : Fin 7, xpad x n (4 * t + k.val) * w c k

/-- The first convolution's four steps at place `u` pooled by their maximum, the bias added, cut at zero. -/
def pooled (x : Fin 3072 → Fin 1000 → EReal) (w : Fin 64 → Fin 7 → EReal) (b : Fin 64 → EReal) (n : Fin 3072) (u : ℕ)
    (c : Fin 64) : EReal :=
  max (max (max (conv1 x w n (4 * u) c) (conv1 x w n (4 * u + 1) c))
    (max (conv1 x w n (4 * u + 2) c) (conv1 x w n (4 * u + 3) c)) + b c) 0

/-- Sixty-two rows with a zero row on either side, read at row `p` of the sixty-four. -/
def padRow (h : ℕ → Fin 64 → EReal) (p : ℕ) (i : Fin 64) : EReal :=
  if 1 ≤ p ∧ p ≤ 62 then h (p - 1) i else 0

/-- A convolution along the sixty-two rows, three taps and one zero row on either side. -/
def conv3 (h : ℕ → Fin 64 → EReal) (w : Fin 64 → Fin 64 → Fin 3 → EReal) (b : Fin 64 → EReal) (u : ℕ) (c : Fin 64) :
    EReal :=
  (((∑ i : Fin 64, padRow h u i * w c i 0) + ∑ i : Fin 64, padRow h (u + 1) i * w c i 1)
    + ∑ i : Fin 64, padRow h (u + 2) i * w c i 2) + b c

/-- The residual block over the pooled rows. -/
def resid (h : ℕ → Fin 64 → EReal) (w₁ : Fin 64 → Fin 64 → Fin 3 → EReal) (b₁ : Fin 64 → EReal)
    (w₂ : Fin 64 → Fin 64 → Fin 3 → EReal) (b₂ : Fin 64 → EReal) (u : ℕ) (c : Fin 64) : EReal :=
  max (h u c + conv3 (fun u c => max (conv3 h w₁ b₁ u c) 0) w₂ b₂ u c) 0

/-- A node's feature: the mean of the residual block's rows through the head. -/
def feature (x : Fin 3072 → Fin 1000 → EReal) (w : Fin 64 → Fin 7 → EReal) (b : Fin 64 → EReal)
    (w₁ : Fin 64 → Fin 64 → Fin 3 → EReal) (b₁ : Fin 64 → EReal) (w₂ : Fin 64 → Fin 64 → Fin 3 → EReal)
    (b₂ : Fin 64 → EReal) (hw : Fin 64 → Fin 64 → EReal) (hb : Fin 64 → EReal) (n : Fin 3072) (o : Fin 64) : EReal :=
  max ((∑ i : Fin 64, (∑ u : Fin 62, resid (pooled x w b n) w₁ b₁ w₂ b₂ u.val i) * ((1 / 62 : ℝ) : EReal) * hw i o)
    + hb o) 0

/-! ## The graph layers -/

/-- The node at place `i` of node `n`'s graph. -/
def mate (n : Fin 3072) (i : Fin 12) : Fin 3072 := ⟨12 * (n.val / 12) + i.val, by omega⟩

/-- The mean over the eleven other nodes of a node's graph. -/
def prop (z : Fin 3072 → ℝ) (n : Fin 3072) : ℝ := ((∑ i : Fin 12, z (mate n i)) - z n) / 11

/-- `prop` taken once, twice or three times. -/
def hop (z : Fin 3072 → ℝ) : ℕ → Fin 3072 → ℝ
  | 0 => prop z
  | p + 1 => prop (hop z p)

/-- A graph layer: at column `128 * p + c`, the features after `p + 1` hops through the `p`-th matrix, with its bias,
    cut at zero. -/
def layer {d : ℕ} (h : Fin 3072 → Fin d → ℝ) (w : Fin 3 → Fin d → Fin 128 → EReal) (b : Fin 3 → Fin 128 → EReal)
    (n : Fin 3072) (j : Fin 384) : EReal :=
  max ((∑ i : Fin d, (hop (fun n => h n i) (j.val / 128) n : EReal) * w ⟨j.val / 128, by omega⟩ i ⟨j.val % 128, by omega⟩)
    + b ⟨j.val / 128, by omega⟩ ⟨j.val % 128, by omega⟩) 0

/-! ## After the layers -/

/-- The mean of the features of a graph's twelve nodes. -/
def graphMean (h : Fin 3072 → Fin 384 → EReal) (g : Fin 256) (j : Fin 384) : EReal :=
  Ideal.div (∑ i : Fin 12, h ⟨12 * g.val + i.val, by omega⟩ j) ((12 : ℝ) : EReal)

/-- The number of columns, 384, as the programs write it. -/
def cols : EReal := Ideal.ofBits .f32 0x43C00000#32

/-- The small number under the root, as the programs write it. -/
def eps : EReal := Ideal.ofBits .f32 0x3727C5AC#32

/-- A graph's features less their mean over the columns. -/
def centred (G : Fin 256 → Fin 384 → EReal) (g : Fin 256) (j : Fin 384) : EReal :=
  G g j - Ideal.div (∑ k : Fin 384, G g k) cols

/-- The mean square of the centred features, a little above zero. -/
def scatter (G : Fin 256 → Fin 384 → EReal) (g : Fin 256) : EReal :=
  Ideal.div (∑ j : Fin 384, centred G g j * centred G g j) cols + eps

/-- The normalised features, scaled and shifted. -/
def normed (G : Fin 256 → Fin 384 → EReal) (γ β : Fin 384 → EReal) (g : Fin 256) (j : Fin 384) : EReal :=
  Ideal.div (centred G g j) (Ideal.sqrt (scatter G g)) * γ j + β j

/-- The two dense layers over the normalised features and the graph's side data. -/
def head (y : Fin 256 → Fin 384 → EReal) (side : Fin 256 → Fin 32 → EReal) (w₁ : Fin 416 → Fin 128 → EReal)
    (b₁ : Fin 128 → EReal) (w₂ : Fin 128 → Fin 5 → EReal) (b₂ : Fin 5 → EReal) (g : Fin 256) (o : Fin 5) : EReal :=
  (∑ c : Fin 128, max ((∑ j : Fin 384, y g j * w₁ ⟨j.val, by omega⟩ c)
    + (∑ k : Fin 32, side g k * w₁ ⟨384 + k.val, by omega⟩ c) + b₁ c) 0 * w₂ c o) + b₂ o

/-! ## Facts -/

/-- Every mate of a mate of `n` is a mate of `n`. -/
theorem mate_mate (n : Fin 3072) (i k : Fin 12) : mate (mate n i) k = mate n k := by
  unfold mate
  refine Fin.ext ?_
  show 12 * ((12 * (n.val / 12) + i.val) / 12) + k.val = 12 * (n.val / 12) + k.val
  omega

/-- The sum over a node's graph. -/
def whole (z : Fin 3072 → ℝ) (n : Fin 3072) : ℝ := ∑ i : Fin 12, z (mate n i)

theorem whole_prop (z : Fin 3072 → ℝ) (n : Fin 3072) : whole (prop z) n = whole z n := by
  have e : ∀ i, prop z (mate n i) = (whole z n - z (mate n i)) / 11 := by
    intro i
    unfold prop whole
    simp only [mate_mate]
  unfold whole
  simp only [e]
  rw [← Finset.sum_div, Finset.sum_sub_distrib]
  simp only [Finset.sum_const, Finset.card_univ, Fintype.card_fin, nsmul_eq_mul]
  unfold whole
  push_cast
  ring

theorem hop_zero (z : Fin 3072 → ℝ) (n : Fin 3072) : hop z 0 n = (whole z n - z n) * (1 / 11) := by
  unfold hop prop whole
  ring

theorem hop_one (z : Fin 3072 → ℝ) (n : Fin 3072) : hop z 1 n = 10 / 121 * whole z n + 1 / 121 * z n := by
  show (whole (prop z) n - prop z n) / 11 = _
  rw [whole_prop]
  show (whole z n - (whole z n - z n) / 11) / 11 = _
  ring

theorem hop_two (z : Fin 3072 → ℝ) (n : Fin 3072) : hop z 2 n = 111 / 1331 * whole z n - 1 / 1331 * z n := by
  show (whole (prop (prop z)) n - hop z 1 n) / 11 = _
  rw [whole_prop, whole_prop, hop_one]
  ring

/-- A layer's columns are three slabs of 128. -/
theorem slabs (A : Fin 3 → Fin 128 → EReal) (j : Fin 384) :
    (if h : j.val < 128 then A 0 ⟨j.val, h⟩ else if h : j.val - 128 < 128 then A 1 ⟨j.val - 128, h⟩
      else A 2 ⟨j.val - 128 - 128, by omega⟩) = A ⟨j.val / 128, by omega⟩ ⟨j.val % 128, by omega⟩ := by
  have hj := j.isLt
  split_ifs with h1 h2
  · exact congrArg₂ A (Fin.ext (show 0 = j.val / 128 by omega)) (Fin.ext (show j.val = j.val % 128 by omega))
  · exact congrArg₂ A (Fin.ext (show 1 = j.val / 128 by omega)) (Fin.ext (show j.val - 128 = j.val % 128 by omega))
  · exact congrArg₂ A (Fin.ext (show 2 = j.val / 128 by omega)) (Fin.ext (show j.val - 128 - 128 = j.val % 128 by omega))

/-- A layer, slab by slab. -/
theorem layer_eq {d : ℕ} (h : Fin 3072 → Fin d → ℝ) (w : Fin 3 → Fin d → Fin 128 → EReal) (b : Fin 3 → Fin 128 → EReal)
    (n : Fin 3072) (j : Fin 384) :
    layer h w b n j = max (if q : j.val < 128 then
          (∑ i : Fin d, (hop (fun n => h n i) 0 n : EReal) * w 0 i ⟨j.val, q⟩) + b 0 ⟨j.val, q⟩
        else if q : j.val - 128 < 128 then
          (∑ i : Fin d, (hop (fun n => h n i) 1 n : EReal) * w 1 i ⟨j.val - 128, q⟩) + b 1 ⟨j.val - 128, q⟩
        else (∑ i : Fin d, (hop (fun n => h n i) 2 n : EReal) * w 2 i ⟨j.val - 128 - 128, by omega⟩)
          + b 2 ⟨j.val - 128 - 128, by omega⟩) 0 :=
  congrArg (max · 0) (slabs (fun p c => (∑ i : Fin d, (hop (fun n => h n i) p.val n : EReal) * w p i c) + b p c) j).symm

end Cert.Spec

end
-- ==== Proof.EncBlock.lean ====
/- The encoder's body, element by element: its block of sixty-four nodes, given what its operand blocks hold. -/
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 16384

noncomputable section

namespace Cert.KernelIdeal.Enc

open Idealize.ShloMosaic Cert.KernelIdeal.Gen Cert.Spec

/-! ## The two integer masks -/

/-- The word behind the row mask: one where the row's place in its node is below sixty-two. -/
theorem place_word : ∀ r : Fin 4096,
    BitVec.setWidth 32
        (IntOp.cmpi CmpIPredicate.slt
          (Scalar.select
            (IntOp.andi
              (IntOp.xori
                (IntOp.cmpi CmpIPredicate.slt
                  (IntOp.remsi ArithUnit.vector (BitVec.ofNat 32 ↑r)
                    (Scalar.select (Scalar.cmpi CmpIPredicate.eq 64#32 0#32) 1#32 64#32))
                  0#32)
                (Scalar.cmpi CmpIPredicate.slt (Scalar.select (Scalar.cmpi CmpIPredicate.eq 64#32 0#32) 1#32 64#32)
                  0#32))
              (IntOp.cmpi CmpIPredicate.ne
                (IntOp.remsi ArithUnit.vector (BitVec.ofNat 32 ↑r)
                  (Scalar.select (Scalar.cmpi CmpIPredicate.eq 64#32 0#32) 1#32 64#32))
                0#32))
            (IntOp.addi
              (IntOp.remsi ArithUnit.vector (BitVec.ofNat 32 ↑r)
                (Scalar.select (Scalar.cmpi CmpIPredicate.eq 64#32 0#32) 1#32 64#32))
              (Scalar.select (Scalar.cmpi CmpIPredicate.eq 64#32 0#32) 1#32 64#32))
            (IntOp.remsi ArithUnit.vector (BitVec.ofNat 32 ↑r)
              (Scalar.select (Scalar.cmpi CmpIPredicate.eq 64#32 0#32) 1#32 64#32)))
          62#32) = if r.val % 64 < 62 then 1#32 else 0#32 := by
  decide +kernel

/-- A 0/1 word read as an extended real. -/
theorem sitofp_ite (p : Prop) [Decidable p] :
    FloatOps.sitofp (F := Ideal) FTy.f32 (if p then 1#32 else 0#32) = (if p then 1 else 0 : EReal) := by
  split <;> simp [FloatOps.sitofp]

/-- The row mask. -/
theorem pay2_apply (r : Fin 4096) :
    k0_pay2 (F := Ideal) (ix2 r 0) = (if r.val % 64 < 62 then 1 else 0 : EReal) := by
  pointwise [k0_pay2]
  rw [place_word]
  exact sitofp_ite _

/-- The quotient of a row by sixty-four, as the body computes it. -/
theorem quot_word : ∀ r : Fin 4096,
    Scalar.select
      (IntOp.andi
        (IntOp.cmpi CmpIPredicate.ne
          (IntOp.subi
            (BitVec.setWidth 32 (IntOp.cmpi CmpIPredicate.sgt (BitVec.ofNat 32 ↑r) 0#32))
            (BitVec.setWidth 32 (IntOp.cmpi CmpIPredicate.slt (BitVec.ofNat 32 ↑r) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑r) 64#32) 0#32))
      (IntOp.subi (IntOp.divsi ArithUnit.vector (BitVec.ofNat 32 ↑r) 64#32) 1#32)
      (IntOp.divsi ArithUnit.vector (BitVec.ofNat 32 ↑r) 64#32) = BitVec.ofNat 32 (r.val / 64) := by
  decide +kernel

/-- The equality of two small words, widened and read as an extended real. -/
theorem sitofp_eq (a b : ℕ) (ha : a < 2 ^ 32) (hb : b < 2 ^ 32) :
    FloatOps.sitofp (F := Ideal) FTy.f32
      (BitVec.setWidth 32 (IntOp.cmpi CmpIPredicate.eq (BitVec.ofNat 32 a) (BitVec.ofNat 32 b)))
      = (if a = b then 1 else 0 : EReal) := by
  have h : BitVec.ofNat 32 a = BitVec.ofNat 32 b ↔ a = b := by
    constructor
    · intro h
      have := congrArg BitVec.toNat h
      rwa [BitVec.toNat_ofNat, BitVec.toNat_ofNat, Nat.mod_eq_of_lt ha, Nat.mod_eq_of_lt hb] at this
    · rintro rfl; rfl
  rw [← sitofp_ite]
  congr 1
  by_cases hab : a = b
  · subst hab; simp [IntOp.cmpi]
  · have hne : (BitVec.ofNat 32 a == BitVec.ofNat 32 b) = false := by
      rw [beq_eq_false_iff_ne]; exact fun e => hab (h.mp e)
    simp [IntOp.cmpi, hab, hne]

/-! ## The pooled rows -/

/-- The sum over the thirty-two lanes against a block-diagonal weight is the sum over one block's seven taps. -/
theorem lanes (f : ℕ → EReal) (g : Fin 7 → EReal) (W : Fin 32 → EReal) (j : Fin 4)
    (hW : ∀ q : Fin 32, W q = if h : q.val / 8 = j.val ∧ q.val % 8 < 7 then g ⟨q.val % 8, h.2⟩ else 0) :
    ∑ q : Fin 32, f q.val * W q = ∑ k : Fin 7, f (8 * j.val + k.val) * g k := by
  have e : (∑ q : Fin 32, f q.val * W q) = ∑ p : Fin 4 × Fin 8, f (8 * p.1.val + p.2.val)
      * (if h : p.1 = j ∧ p.2.val < 7 then g ⟨p.2.val, h.2⟩ else 0) := by
    refine (Fintype.sum_equiv (finProdFinEquiv (m := 4) (n := 8)) _ _ fun p => ?_).symm
    obtain ⟨a, b⟩ := p
    have hv : ((finProdFinEquiv (a, b) : Fin 32)).val = 8 * a.val + b.val := by
      simp [finProdFinEquiv]; omega
    have h1 : (8 * a.val + b.val) / 8 = a.val := by omega
    have h2 : (8 * a.val + b.val) % 8 = b.val := by omega
    rw [hW]
    simp only [hv, h1, h2, Fin.ext_iff]
  rw [e, Fintype.sum_prod_type, Finset.sum_eq_single j]
  · rw [Fin.sum_univ_castSucc]
    simp
  · intro a _ ha
    simp [ha]
  · simp

/-- The pooled rows, masked: the first payload at a row and a channel. -/
theorem pay3_apply (v0 : Vec Ideal S4096x32 .f32) (v2 : Vec Ideal S32x256 .f32) (v12 : Vec Ideal S1x64 .f32)
    (r : Fin 4096) (c : Fin 64) :
    k0_pay3 v0 v2 v12 (ix2 r c) =
      max (max (max (∑ q : Fin 32, v0 (ix2 r q) * v2 (ix2 q ⟨c.val, by omega⟩))
            (∑ q : Fin 32, v0 (ix2 r q) * v2 (ix2 q ⟨64 + c.val, by omega⟩)))
          (max (∑ q : Fin 32, v0 (ix2 r q) * v2 (ix2 q ⟨128 + c.val, by omega⟩))
            (∑ q : Fin 32, v0 (ix2 r q) * v2 (ix2 q ⟨192 + c.val, by omega⟩))) + v12 (ix2 0 c)) (0 : EReal)
        * (if r.val % 64 < 62 then 1 else 0 : EReal) := by
  pointwise [k0_pay3]
  rw [pay2_apply]

/-! ## The residual block -/

/-- A convolution of the body: the three taps' products shifted along the rows and added, then the bias. -/
def shiftConv (v : FVec Ideal S4096x64 .f32) (wr : Vec Ideal S64x192 .f32) (b : Vec Ideal S1x64 .f32) :
    FVec Ideal S4096x64 .f32 :=
  have z : FVec Ideal S4096x192 .f32 := matmul (F := Ideal) (φ₁ := .f32) (φ₂ := .f32) dot_S4096x64_S64x192_S4096x192_1_0_0_1_n_n none v
    (shapeCast S64x192 wr shapeCasts_S64x192_S64x192) (constant S4096x192 .f32 0x00000000#32)
  addf (addf (addf
      (concatenate S4096x64 0 [⟨S1x64, k0_pay4⟩, ⟨S4095x64, extractStridedSlice S4095x64 ![0, 0] z slices_S4096x192_o0_0_S4095x64⟩]
        concatenates_S1x64_S4095x64_S4096x64_d0)
      (extractStridedSlice S4096x64 ![0, 64] z slices_S4096x192_o0_64_S4096x64))
      (concatenate S4096x64 0 [⟨S4095x64, extractStridedSlice S4095x64 ![1, 128] z slices_S4096x192_o1_128_S4095x64⟩, ⟨S1x64, k0_pay4⟩]
        concatenates_S4095x64_S1x64_S4096x64_d0))
    (broadcastTo S4096x64 (shapeCast S1x64 b shapeCasts_S1x64_S1x64) broadcasts_S1x64_S4096x64)

/-- A column of ones and zeros spread over the channels. -/
abbrev spread (v : FVec Ideal S4096x1 .f32) : FVec Ideal S4096x64 .f32 := broadcastTo S4096x64 v broadcasts_S4096x1_S4096x64

/-- The residual block's payload is two such convolutions with the cut and the mask between and after. -/
theorem pay5_eq (v38 : FVec Ideal S4096x1 .f32) (v40 : FVec Ideal S4096x64 .f32) (wr₁ : Vec Ideal S64x192 .f32)
    (b₁ : Vec Ideal S1x64 .f32) (wr₂ : Vec Ideal S64x192 .f32) (b₂ : Vec Ideal S1x64 .f32) :
    k0_pay5 v38 v40 k0_pay4 wr₁ b₁ wr₂ b₂ =
      mulf (maximumf (addf v40 (shiftConv (mulf (maximumf (shiftConv v40 wr₁ b₁)
          (broadcast S4096x64 (Scalar.ofBits .f32 0x00000000#32))) (spread v38)) wr₂ b₂))
          (broadcast S4096x64 (Scalar.ofBits .f32 0x00000000#32))) (spread v38) := rfl

/-- A convolution of the body at a row and a channel. -/
theorem shiftConv_apply (v : FVec Ideal S4096x64 .f32) (wr : Vec Ideal S64x192 .f32) (b : Vec Ideal S1x64 .f32)
    (r : Fin 4096) (c : Fin 64) :
    shiftConv v wr b (ix2 r c) =
      ((if h : r.val < 1 then 0 else ∑ i : Fin 64, v (ix2 ⟨r.val - 1, by omega⟩ i) * wr (ix2 i ⟨c.val, by omega⟩))
        + (∑ i : Fin 64, v (ix2 r i) * wr (ix2 i ⟨64 + c.val, by omega⟩))
        + (if h : r.val < 4095 then ∑ i : Fin 64, v (ix2 ⟨1 + r.val, by omega⟩ i) * wr (ix2 i ⟨128 + c.val, by omega⟩) else 0)
        + b (ix2 0 c) : EReal) := by
  pointwise [shiftConv, k0_pay4]

/-- Where the masked-out rows are zero, a convolution of the body at one of a node's sixty-two rows is the convolution
    of that node's rows with one zero row on either side: the row before a node's first and the row after its last are
    masked-out rows. -/
theorem shiftConv_rows (v : FVec Ideal S4096x64 .f32) (wr : Vec Ideal S64x192 .f32) (b : Vec Ideal S1x64 .f32)
    (h : ℕ → ℕ → Fin 64 → EReal) (w : Fin 64 → Fin 64 → Fin 3 → EReal)
    (hv : ∀ (r : Fin 4096) (i : Fin 64), v (ix2 r i) = if r.val % 64 < 62 then h (r.val / 64) (r.val % 64) i else 0)
    (h0 : ∀ i c : Fin 64, wr (ix2 i ⟨c.val, by omega⟩) = w c i 0)
    (h1 : ∀ i c : Fin 64, wr (ix2 i ⟨64 + c.val, by omega⟩) = w c i 1)
    (h2 : ∀ i c : Fin 64, wr (ix2 i ⟨128 + c.val, by omega⟩) = w c i 2)
    (r : Fin 4096) (c : Fin 64) (hr : r.val % 64 < 62) :
    shiftConv v wr b (ix2 r c) = conv3 (h (r.val / 64)) w (fun c => b (ix2 0 c)) (r.val % 64) c := by
  rw [shiftConv_apply]
  unfold conv3
  refine congrArg₂ (· + ·) (congrArg₂ (· + ·) (congrArg₂ (· + ·) ?_ ?_) ?_) rfl
  · split
    · rw [Finset.sum_eq_zero]
      intro i _
      rw [padRow, if_neg (by omega), zero_mul]
    · refine Finset.sum_congr rfl fun i _ => ?_
      rw [h0, hv]
      congr 1
      rw [padRow]
      by_cases hu : r.val % 64 = 0
      · rw [if_neg (show ¬ (r.val - 1) % 64 < 62 by omega), if_neg (by omega)]
      · rw [if_pos (show (r.val - 1) % 64 < 62 by omega), if_pos (by omega)]
        rw [show (r.val - 1) / 64 = r.val / 64 by omega, show (r.val - 1) % 64 = r.val % 64 - 1 by omega]
  · refine Finset.sum_congr rfl fun i _ => ?_
    rw [h1, hv, if_pos hr, padRow, if_pos (by omega), Nat.add_sub_cancel]
  · split
    · refine Finset.sum_congr rfl fun i _ => ?_
      rw [h2, hv]
      congr 1
      rw [padRow]
      by_cases hu : r.val % 64 = 61
      · rw [if_neg (show ¬ (1 + r.val) % 64 < 62 by omega), if_neg (by omega)]
      · rw [if_pos (show (1 + r.val) % 64 < 62 by omega), if_pos (by omega)]
        rw [show (1 + r.val) / 64 = r.val / 64 by omega, show (1 + r.val) % 64 = r.val % 64 + 2 - 1 by omega]
    · omega

/-! ## The mean and the head -/

/-- The sum over all rows that keeps the rows of node `n` is the sum over that node's sixty-two unmasked rows. -/
theorem row_sum (F : ℕ → ℕ → EReal) (n : Fin 64) :
    ∑ r : Fin 4096, (if r.val / 64 = n.val then 1 else 0 : EReal)
      * (if r.val % 64 < 62 then F (r.val / 64) (r.val % 64) else 0) = ∑ u : Fin 62, F n.val u.val := by
  have e : (∑ r : Fin 4096, (if r.val / 64 = n.val then 1 else 0 : EReal)
      * (if r.val % 64 < 62 then F (r.val / 64) (r.val % 64) else 0))
      = ∑ p : Fin 64 × Fin 64, (if p.1 = n then 1 else 0 : EReal)
        * (if p.2.val < 62 then F p.1.val p.2.val else 0) := by
    refine (Fintype.sum_equiv (finProdFinEquiv (m := 64) (n := 64)) _ _ fun p => ?_).symm
    obtain ⟨a, b⟩ := p
    have hv : ((finProdFinEquiv (a, b) : Fin 4096)).val = 64 * a.val + b.val := by
      simp [finProdFinEquiv]; omega
    have h1 : (64 * a.val + b.val) / 64 = a.val := by omega
    have h2 : (64 * a.val + b.val) % 64 = b.val := by omega
    simp only [hv, h1, h2, Fin.ext_iff]
  rw [e, Fintype.sum_prod_type, Finset.sum_eq_single n]
  · rw [Fin.sum_univ_castSucc, Fin.sum_univ_castSucc]
    simp
  · intro a _ ha
    simp [ha]
  · simp

/-- The last payload: the mean of each node's rows through the head. -/
theorem pay1_apply (v78 : FVec Ideal S4096x64 .f32) (v111 : Vec Ideal S64x64 .f32) (v113 : Vec Ideal S1x64 .f32)
    (n : Fin 64) (c : Fin 64) :
    k0_pay1 v78 (iota .tc S64x4096 32 [1] iota_S64x4096_d1_w32) (iota .tc S64x4096 32 [0] iota_S64x4096_d0_w32) 64#32 k0_pay6 k0_pay7 k0_pay8 v111 v113 (ix2 n c) =
      max ((∑ i : Fin 64, (∑ r : Fin 4096, (if r.val / 64 = n.val then 1 else 0 : EReal) * v78 (ix2 r i))
        * ((1 / 62 : ℝ) : EReal) * v111 (ix2 i c)) + v113 (ix2 0 c)) (0 : EReal) := by
  pointwise [k0_pay1, k0_pay6, k0_pay7, k0_pay8]
  refine congrArg₂ max (Ideal.add_congr (Finset.sum_congr rfl fun i _ => Ideal.mul_congr (Ideal.mul_congr
    (Finset.sum_congr rfl fun r _ => Ideal.mul_congr ?_ rfl) ?_) rfl) rfl) rfl
  · rw [quot_word]
    exact sitofp_eq _ _ (by omega) (by omega)
  · rfl

/-! ## The whole block -/

/-- A block of the encoder's result, given its operand blocks' contents: the features of the block's sixty-four nodes. -/
theorem block (x0 : Vec Ideal S4096x32 .f32) (x1 : Vec Ideal S32x256 .f32) (x2 : Vec Ideal S1x64 .f32)
    (x3 : Vec Ideal S64x192 .f32) (x4 : Vec Ideal S1x64 .f32) (x5 : Vec Ideal S64x192 .f32) (x6 : Vec Ideal S1x64 .f32)
    (x7 : Vec Ideal S64x64 .f32) (x8 : Vec Ideal S1x64 .f32)
    (x : Fin 3072 → Fin 1000 → EReal) (w : Fin 64 → Fin 7 → EReal) (b : Fin 64 → EReal)
    (w₁ : Fin 64 → Fin 64 → Fin 3 → EReal) (b₁ : Fin 64 → EReal) (w₂ : Fin 64 → Fin 64 → Fin 3 → EReal)
    (b₂ : Fin 64 → EReal) (hw : Fin 64 → Fin 64 → EReal) (hb : Fin 64 → EReal) (node : ℕ → Fin 3072)
    (e0 : ∀ (r : Fin 4096) (q : Fin 32), x0 (ix2 r q)
      = xpad x (node (r.val / 64)) (16 * (r.val % 64) + 4 * (q.val / 8) + q.val % 8))
    (e1 : ∀ (q : Fin 32) (j : Fin 4) (c : Fin 64), x1 (ix2 q ⟨64 * j.val + c.val, by omega⟩)
      = if h : q.val / 8 = j.val ∧ q.val % 8 < 7 then w c ⟨q.val % 8, h.2⟩ else 0)
    (e2 : ∀ c : Fin 64, x2 (ix2 0 c) = b c)
    (e30 : ∀ i c : Fin 64, x3 (ix2 i ⟨c.val, by omega⟩) = w₁ c i 0)
    (e31 : ∀ i c : Fin 64, x3 (ix2 i ⟨64 + c.val, by omega⟩) = w₁ c i 1)
    (e32 : ∀ i c : Fin 64, x3 (ix2 i ⟨128 + c.val, by omega⟩) = w₁ c i 2)
    (e4 : ∀ c : Fin 64, x4 (ix2 0 c) = b₁ c)
    (e50 : ∀ i c : Fin 64, x5 (ix2 i ⟨c.val, by omega⟩) = w₂ c i 0)
    (e51 : ∀ i c : Fin 64, x5 (ix2 i ⟨64 + c.val, by omega⟩) = w₂ c i 1)
    (e52 : ∀ i c : Fin 64, x5 (ix2 i ⟨128 + c.val, by omega⟩) = w₂ c i 2)
    (e6 : ∀ c : Fin 64, x6 (ix2 0 c) = b₂ c)
    (e7 : ∀ i o : Fin 64, x7 (ix2 i o) = hw i o)
    (e8 : ∀ o : Fin 64, x8 (ix2 0 o) = hb o) (n o : Fin 64) :
    k0_pay1 (k0_pay5 (k0_pay2 (F := Ideal)) (k0_pay3 x0 x1 x2) (k0_pay4 (F := Ideal)) x3 x4 x5 x6)
      (iota .tc S64x4096 32 [1] iota_S64x4096_d1_w32) (iota .tc S64x4096 32 [0] iota_S64x4096_d0_w32) 64#32
      k0_pay6 k0_pay7 k0_pay8 x7 x8 (ix2 n o) = feature x w b w₁ b₁ w₂ b₂ hw hb (node n.val) o := by
  have hp : ∀ (r : Fin 4096) (c : Fin 64), k0_pay3 x0 x1 x2 (ix2 r c)
      = if r.val % 64 < 62 then pooled x w b (node (r.val / 64)) (r.val % 64) c else 0 := by
    intro r c
    have hl : ∀ j : Fin 4, (∑ q : Fin 32, x0 (ix2 r q) * x1 (ix2 q ⟨64 * j.val + c.val, by omega⟩) : EReal)
        = conv1 x w (node (r.val / 64)) (4 * (r.val % 64) + j.val) c := by
      intro j
      simp only [e0]
      rw [lanes (fun q => xpad x (node (r.val / 64)) (16 * (r.val % 64) + 4 * (q / 8) + q % 8)) (w c)
        (fun q => x1 (ix2 q ⟨64 * j.val + c.val, by omega⟩)) j (fun q => e1 q j c)]
      unfold conv1
      refine Finset.sum_congr rfl fun k _ => ?_
      rw [show 16 * (r.val % 64) + 4 * ((8 * j.val + k.val) / 8) + (8 * j.val + k.val) % 8
        = 4 * (4 * (r.val % 64) + j.val) + k.val by omega]
    have l0 := hl 0
    have l1 := hl 1
    have l2 := hl 2
    have l3 := hl 3
    simp only [Fin.val_zero, Fin.val_one, Fin.val_two, Nat.mul_zero, Nat.zero_add, Nat.mul_one, Nat.add_zero,
      show ((3 : Fin 4) : ℕ) = 3 from rfl, Nat.reduceMul] at l0 l1 l2 l3
    rw [pay3_apply, l0, l1, l2, l3, e2]
    unfold pooled
    split
    · rw [mul_one]
    · rw [mul_zero]
  have hm : ∀ (r : Fin 4096) (c : Fin 64), spread (k0_pay2 (F := Ideal)) (ix2 r c)
      = (if r.val % 64 < 62 then 1 else 0 : EReal) := by
    intro r c
    rw [← pay2_apply]
    pointwise
  have h1 : ∀ (r : Fin 4096) (c : Fin 64), mulf (maximumf (shiftConv (k0_pay3 x0 x1 x2) x3 x4)
          (broadcast S4096x64 (Scalar.ofBits .f32 0x00000000#32))) (spread (k0_pay2 (F := Ideal))) (ix2 r c)
      = if r.val % 64 < 62 then
          max (conv3 (pooled x w b (node (r.val / 64))) w₁ b₁ (r.val % 64) c) 0 else 0 := by
    intro r c
    have : mulf (maximumf (shiftConv (k0_pay3 x0 x1 x2) x3 x4)
          (broadcast S4096x64 (Scalar.ofBits .f32 0x00000000#32))) (spread (k0_pay2 (F := Ideal))) (ix2 r c)
        = max (shiftConv (k0_pay3 x0 x1 x2) x3 x4 (ix2 r c)) (0 : EReal)
          * spread (k0_pay2 (F := Ideal)) (ix2 r c) := by
      pointwise
    rw [this, hm]
    split
    · next hr =>
      rw [mul_one, shiftConv_rows _ x3 x4 (fun a => pooled x w b (node a)) w₁ hp e30 e31 e32 r c hr]
      simp only [e4]
    · rw [mul_zero]
  have h2 : ∀ (r : Fin 4096) (c : Fin 64), k0_pay5 (k0_pay2 (F := Ideal)) (k0_pay3 x0 x1 x2) (k0_pay4 (F := Ideal))
        x3 x4 x5 x6 (ix2 r c)
      = if r.val % 64 < 62 then
          resid (pooled x w b (node (r.val / 64))) w₁ b₁ w₂ b₂ (r.val % 64) c else 0 := by
    intro r c
    rw [pay5_eq]
    generalize hV : mulf (maximumf (shiftConv (k0_pay3 x0 x1 x2) x3 x4)
          (broadcast S4096x64 (Scalar.ofBits .f32 0x00000000#32))) (spread (k0_pay2 (F := Ideal))) = V at h1 ⊢
    have : mulf (maximumf (addf (k0_pay3 x0 x1 x2) (shiftConv V x5 x6))
          (broadcast S4096x64 (Scalar.ofBits .f32 0x00000000#32))) (spread (k0_pay2 (F := Ideal))) (ix2 r c)
        = max (k0_pay3 x0 x1 x2 (ix2 r c) + shiftConv V x5 x6 (ix2 r c)) (0 : EReal)
          * spread (k0_pay2 (F := Ideal)) (ix2 r c) := by
      generalize k0_pay3 x0 x1 x2 = U
      generalize shiftConv V x5 x6 = U'
      pointwise
    rw [this, hm, hp]
    split
    · next hr =>
      rw [mul_one, shiftConv_rows V x5 x6
        (fun a u c => max (conv3 (pooled x w b (node a)) w₁ b₁ u c) 0) w₂ h1 e50 e51 e52 r c hr]
      simp only [e6]
      rfl
    · rw [mul_zero]
  rw [pay1_apply]
  unfold feature
  simp only [h2, e7]
  refine congrArg₂ max (congrArg₂ (· + ·) (Finset.sum_congr rfl fun i _ => ?_) ?_) rfl
  · rw [row_sum (fun a u => resid (pooled x w b (node a)) w₁ b₁ w₂ b₂ u i) n]
  · exact e8 o

end Cert.KernelIdeal.Enc

end
-- ==== Proof.Host0.lean ====
/- The arrays that the encoder's launch reads, element by element, as the program's opening operations leave them. -/
module

public import proofs.«01_k».proof.Proof.Gen.KernelIdeal.Frame
public import proofs.«01_k».proof.Proof.Spec
public import Idealize.ShloMosaic.Lib.Pointwise
public import Idealize.ShloMosaic.Lib.StableHlo.ReadAt
public import Idealize.ShloMosaic.Lib.Claim

@[expose] public section

set_option maxRecDepth 16384

noncomputable section

namespace Cert.KernelIdeal.Host

open Idealize.ShloMosaic Idealize.ShloMosaic.TcCoe Cert.KernelIdeal.Gen Cert.Spec

variable (m : (ℓ : Loc nD τ sig) → Buf (Elt Ideal) ℓ) (ρ : Dev nD → PrngReg)

theorem bias1 (c : Dev nD) (i : Fin 64) :
    (W1 m ρ c (Proc.devRef .tc main_call0_v134) : FVec Ideal S1x64 .f32) (ix2 0 i)
      = (m ((c.tc : Thread nD τ).loc main_arg5) : FVec Ideal S64 .f32) (ix1 i) := by
  unfold_abbrev_sides
  after_reads_at

theorem wr1 (c : Dev nD) (i : Fin 64) (j : Fin 192) :
    (W1 m ρ c (Proc.devRef .tc main_call0_v123) : FVec Ideal S64x192 .f32) (ix2 i j)
      = (m ((c.tc : Thread nD τ).loc main_arg6) : FVec Ideal S64x64x3 .f32) (ix3 ⟨j.val % 64, by omega⟩ i ⟨j.val / 64, by omega⟩) := by
  unfold_abbrev_sides
  after_reads_at
  split
  · rename_i h
    refine (congrFun (cast_eq _ _) _).trans ?_
    after_reads_at
    refine congrArg₂ (fun a b => (m (c.tc.loc main_arg6) : FVec Ideal S64x64x3 .f32) (ix3 a i b)) (Fin.ext ?_) (Fin.ext ?_)
    · exact (Nat.mod_eq_of_lt h).symm
    · exact (Nat.div_eq_of_lt h).symm
  · split
    · rename_i h h'
      refine (congrFun (cast_eq _ _) _).trans ?_
      after_reads_at
      refine congrArg₂ (fun a b => (m (c.tc.loc main_arg6) : FVec Ideal S64x64x3 .f32) (ix3 a i b)) (Fin.ext ?_) (Fin.ext ?_)
      · show j.val - 64 = j.val % 64
        omega
      · show 1 = j.val / 64
        omega
    · rename_i h h'
      have hj := j.isLt
      refine (congrFun (cast_eq _ _) _).trans ?_
      after_reads_at
      refine congrArg₂ (fun a b => (m (c.tc.loc main_arg6) : FVec Ideal S64x64x3 .f32) (ix3 a i b)) (Fin.ext ?_) (Fin.ext ?_)
      · show j.val - 64 - 64 = j.val % 64
        omega
      · show 2 = j.val / 64
        omega

theorem hot (p q : ℕ) (hp : p < 4) (hq : q < 4) (C : Prop) [Decidable C] (v : C → EReal) :
    (FloatOps.uitofp (F := Ideal) FTy.f32 (IntOp.cmpi .eq (IntOp.addi (BitVec.ofNat 32 p) 0#32) (BitVec.ofNat 32 q)) : EReal)
        * (if h : C then v h else (FloatOps.sitofp (F := Ideal) FTy.f32 0#32 : EReal))
      = if h : p = q ∧ C then v h.2 else 0 := by
  have e : IntOp.cmpi .eq (IntOp.addi (BitVec.ofNat 32 p) 0#32) (BitVec.ofNat 32 q) = if p = q then 1#1 else 0#1 := by
    interval_cases p <;> interval_cases q <;> rfl
  rw [e]
  by_cases h1 : p = q <;> by_cases h2 : C <;> simp [h1, h2, FloatOps.uitofp, FloatOps.sitofp]

theorem w4 (c : Dev nD) (i : Fin 32) (j : Fin 256) :
    (W1 m ρ c (Proc.devRef .tc main_call0_v113) : FVec Ideal S32x256 .f32) (ix2 i j)
      = if h : i.val / 8 = j.val / 64 ∧ (i.val % 8 < 7 ∧ j.val % 64 < 64) then
          (m ((c.tc : Thread nD τ).loc main_arg4) : FVec Ideal S64x1x7 .f32) (ix3 ⟨j.val % 64, h.2.2⟩ 0 ⟨i.val % 8, h.2.1⟩)
        else (0 : EReal) := by
  unfold_abbrev_sides
  after_reads_at
  exact hot (i.val / 8) (j.val / 64) (by omega) (by omega) (i.val % 8 < 7 ∧ j.val % 64 < 64)
    fun h => (m ((c.tc : Thread nD τ).loc main_arg4) : FVec Ideal S64x1x7 .f32) (ix3 ⟨j.val % 64, h.2⟩ 0 ⟨i.val % 8, h.1⟩)

theorem xpad_of (x : Fin 3072 → Fin 1000 → EReal) (n : Fin 3072) (p t : ℕ) (C : Prop) [Decidable C] (hC : C ↔ 3 ≤ p ∧ p < 1003) (ht : t = p - 3)
    (hlt : C → t < 1000) :
    (if h : C then x n ⟨t, hlt h⟩ else (FloatOps.sitofp (F := Ideal) FTy.f32 0#32 : EReal)) = xpad x n p := by
  subst ht
  unfold xpad
  by_cases h : C
  · rw [dif_pos h, dif_pos (hC.mp h)]
  · rw [dif_neg h, dif_neg fun e => h (hC.mpr e)]
    simp [FloatOps.sitofp]

set_option maxHeartbeats 4000000 in
theorem p4 (c : Dev nD) (r : Fin 196608) (q : Fin 32) :
    (W1 m ρ c (Proc.devRef .tc main_call0_v103) : FVec Ideal S196608x32 .f32) (ix2 r q)
      = xpad (fun n t => (m ((c.tc : Thread nD τ).loc main_arg0) : FVec Ideal S3072x1000 .f32) (ix2 n t)) ⟨r.val / 64, by omega⟩
        (16 * (r.val % 64) + 4 * (q.val / 8) + q.val % 8) := by
  unfold_abbrev_sides
  after_reads_at
  fin_vals q with hq
  all_goals simp only [hq, Nat.reduceSub, Nat.reduceLT, ↓reduceDIte]
  iterate 16 focus
    after_reads_at
    generalize hV : StableHlo.upto hostOps0 (W0 m ρ c) 102 = V
    refine (congrFun (cast_eq _ _) _).trans ?_
    subst hV
    after_reads_at
    exact xpad_of (fun n t => (m ((c.tc : Thread nD τ).loc main_arg0) : FVec Ideal S3072x1000 .f32) (ix2 n t)) _ _ _ _ (by omega) (by omega) (by omega)
  iterate 16 focus
    after_reads_at
    generalize hV : StableHlo.upto hostOps0 (W0 m ρ c) 103 = V
    refine (congrFun (cast_eq _ _) _).trans ?_
    subst hV
    after_reads_at
    exact xpad_of (fun n t => (m ((c.tc : Thread nD τ).loc main_arg0) : FVec Ideal S3072x1000 .f32) (ix2 n t)) _ _ _ _ (by omega) (by omega) (by omega)

theorem wr2 (c : Dev nD) (i : Fin 64) (j : Fin 192) :
    (W1 m ρ c (Proc.devRef .tc main_call0_v133) : FVec Ideal S64x192 .f32) (ix2 i j)
      = (m ((c.tc : Thread nD τ).loc main_arg8) : FVec Ideal S64x64x3 .f32) (ix3 ⟨j.val % 64, by omega⟩ i ⟨j.val / 64, by omega⟩) := by
  unfold_abbrev_sides
  after_reads_at
  split
  · rename_i h
    refine (congrFun (cast_eq _ _) _).trans ?_
    after_reads_at
    refine congrArg₂ (fun a b => (m (c.tc.loc main_arg8) : FVec Ideal S64x64x3 .f32) (ix3 a i b)) (Fin.ext ?_) (Fin.ext ?_)
    · exact (Nat.mod_eq_of_lt h).symm
    · exact (Nat.div_eq_of_lt h).symm
  · split
    · rename_i h h'
      refine (congrFun (cast_eq _ _) _).trans ?_
      after_reads_at
      refine congrArg₂ (fun a b => (m (c.tc.loc main_arg8) : FVec Ideal S64x64x3 .f32) (ix3 a i b)) (Fin.ext ?_) (Fin.ext ?_)
      · show j.val - 64 = j.val % 64
        omega
      · show 1 = j.val / 64
        omega
    · rename_i h h'
      have hj := j.isLt
      refine (congrFun (cast_eq _ _) _).trans ?_
      after_reads_at
      refine congrArg₂ (fun a b => (m (c.tc.loc main_arg8) : FVec Ideal S64x64x3 .f32) (ix3 a i b)) (Fin.ext ?_) (Fin.ext ?_)
      · show j.val - 64 - 64 = j.val % 64
        omega
      · show 2 = j.val / 64
        omega

theorem bias2 (c : Dev nD) (i : Fin 64) :
    (W1 m ρ c (Proc.devRef .tc main_call0_v135) : FVec Ideal S1x64 .f32) (ix2 0 i)
      = (m ((c.tc : Thread nD τ).loc main_arg7) : FVec Ideal S64 .f32) (ix1 i) := by
  unfold_abbrev_sides
  after_reads_at

theorem bias3 (c : Dev nD) (i : Fin 64) :
    (W1 m ρ c (Proc.devRef .tc main_call0_v136) : FVec Ideal S1x64 .f32) (ix2 0 i)
      = (m ((c.tc : Thread nD τ).loc main_arg9) : FVec Ideal S64 .f32) (ix1 i) := by
  unfold_abbrev_sides
  after_reads_at

theorem bias4 (c : Dev nD) (i : Fin 64) :
    (W1 m ρ c (Proc.devRef .tc main_call0_v137) : FVec Ideal S1x64 .f32) (ix2 0 i)
      = (m ((c.tc : Thread nD τ).loc main_arg11) : FVec Ideal S64 .f32) (ix1 i) := by
  unfold_abbrev_sides
  after_reads_at

end Cert.KernelIdeal.Host

end
-- ==== Proof.Encoder.lean ====
/- What the encoder's launch leaves: for every node, the 64 features of its series. -/
module

public import proofs.«01_k».proof.Proof.EncBlock
public import proofs.«01_k».proof.Proof.Host0

@[expose] public section

set_option maxRecDepth 16384

noncomputable section

namespace Cert.KernelIdeal.Encoder

open Idealize.ShloMosaic Idealize.ShloMosaic.TcCoe Cert.KernelIdeal.Gen Cert.Spec

variable (m : (ℓ : Loc nD τ sig) → Buf (Elt Ideal) ℓ) (ρ : Dev nD → PrngReg)

/-- The features of node `n`, from the launch contents of the argument arrays. -/
def nodes (c : Dev nD) (n : Fin 3072) (o : Fin 64) : EReal :=
  feature (fun n t => (m ((c.tc : Thread nD τ).loc main_arg0) : FVec Ideal S3072x1000 .f32) (ix2 n t))
    (fun c' k => (m ((c.tc : Thread nD τ).loc main_arg4) : FVec Ideal S64x1x7 .f32) (ix3 c' 0 k))
    (fun i => (m ((c.tc : Thread nD τ).loc main_arg5) : FVec Ideal S64 .f32) (ix1 i))
    (fun o i k => (m ((c.tc : Thread nD τ).loc main_arg6) : FVec Ideal S64x64x3 .f32) (ix3 o i k))
    (fun i => (m ((c.tc : Thread nD τ).loc main_arg7) : FVec Ideal S64 .f32) (ix1 i))
    (fun o i k => (m ((c.tc : Thread nD τ).loc main_arg8) : FVec Ideal S64x64x3 .f32) (ix3 o i k))
    (fun i => (m ((c.tc : Thread nD τ).loc main_arg9) : FVec Ideal S64 .f32) (ix1 i))
    (fun i o => (m ((c.tc : Thread nD τ).loc main_arg10) : FVec Ideal S64x64 .f32) (ix2 i o))
    (fun i => (m ((c.tc : Thread nD τ).loc main_arg11) : FVec Ideal S64 .f32) (ix1 i)) n o

/-- Where each block of the encoder's launch stands: the patch rows and the result move with the grid point, the rest is read whole. -/
theorem at0 : ∀ t : Fin cfg0.N, win0_0.index t = ![t.val, 0] := by decide +kernel
theorem at9 : ∀ t : Fin cfg0.N, win0_9.index t = ![t.val, 0] := by decide +kernel
theorem at1 : ∀ t : Fin cfg0.N, win0_1.index t = ![0, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![0, 0] := by decide +kernel
theorem at5 : ∀ t : Fin cfg0.N, win0_5.index t = ![0, 0] := by decide +kernel
theorem at6 : ∀ t : Fin cfg0.N, win0_6.index t = ![0, 0] := by decide +kernel
theorem at7 : ∀ t : Fin cfg0.N, win0_7.index t = ![0, 0] := by decide +kernel
theorem at8 : ∀ t : Fin cfg0.N, win0_8.index t = ![0, 0] := by decide +kernel

theorem iblk_0 (c : Dev nD) (t : Fin cfg0.N) (r : Fin 4096) (q : Fin 32) (h : 4096 * t.val + r.val < 196608) :
    (iblk0 (V1 m ρ) c 0 t : FVec Ideal S4096x32 .f32) (ix2 r q)
      = (W1 m ρ c (Proc.devRef .tc main_call0_v103) : FVec Ideal S196608x32 .f32) (ix2 ⟨4096 * t.val + r.val, h⟩ q) := by
  unfold iblk0
  blk_simp
  refine congrArg (V1 m ρ c main_call0_v103) (show _ = ix2 ⟨4096 * t.val + r.val, h⟩ q from ?_)
  blk_ext
  · rw [at0, Nat.mul_comm]
    rfl
  · rw [at0]
    simp

theorem iblk_1 (c : Dev nD) (t : Fin cfg0.N) (r : Fin 32) (q : Fin 256) :
    (iblk0 (V1 m ρ) c 1 t : FVec Ideal S32x256 .f32) (ix2 r q) = (W1 m ρ c (Proc.devRef .tc main_call0_v113) : FVec Ideal S32x256 .f32) (ix2 r q) := by
  unfold iblk0
  blk_simp
  refine congrArg (V1 m ρ c main_call0_v113) (show _ = ix2 r q from ?_)
  blk_ext
  all_goals
    rw [at1]
    simp

theorem iblk_2 (c : Dev nD) (t : Fin cfg0.N) (r : Fin 1) (q : Fin 64) :
    (iblk0 (V1 m ρ) c 2 t : FVec Ideal S1x64 .f32) (ix2 r q) = (W1 m ρ c (Proc.devRef .tc main_call0_v134) : FVec Ideal S1x64 .f32) (ix2 r q) := by
  unfold iblk0
  blk_simp
  refine congrArg (V1 m ρ c main_call0_v134) (show _ = ix2 r q from ?_)
  blk_ext
  all_goals
    rw [at2]
    simp

theorem iblk_3 (c : Dev nD) (t : Fin cfg0.N) (r : Fin 64) (q : Fin 192) :
    (iblk0 (V1 m ρ) c 3 t : FVec Ideal S64x192 .f32) (ix2 r q) = (W1 m ρ c (Proc.devRef .tc main_call0_v123) : FVec Ideal S64x192 .f32) (ix2 r q) := by
  unfold iblk0
  blk_simp
  refine congrArg (V1 m ρ c main_call0_v123) (show _ = ix2 r q from ?_)
  blk_ext
  all_goals
    rw [at3]
    simp

theorem iblk_4 (c : Dev nD) (t : Fin cfg0.N) (r : Fin 1) (q : Fin 64) :
    (iblk0 (V1 m ρ) c 4 t : FVec Ideal S1x64 .f32) (ix2 r q) = (W1 m ρ c (Proc.devRef .tc main_call0_v135) : FVec Ideal S1x64 .f32) (ix2 r q) := by
  unfold iblk0
  blk_simp
  refine congrArg (V1 m ρ c main_call0_v135) (show _ = ix2 r q from ?_)
  blk_ext
  all_goals
    rw [at4]
    simp

theorem iblk_5 (c : Dev nD) (t : Fin cfg0.N) (r : Fin 64) (q : Fin 192) :
    (iblk0 (V1 m ρ) c 5 t : FVec Ideal S64x192 .f32) (ix2 r q) = (W1 m ρ c (Proc.devRef .tc main_call0_v133) : FVec Ideal S64x192 .f32) (ix2 r q) := by
  unfold iblk0
  blk_simp
  refine congrArg (V1 m ρ c main_call0_v133) (show _ = ix2 r q from ?_)
  blk_ext
  all_goals
    rw [at5]
    simp

theorem iblk_6 (c : Dev nD) (t : Fin cfg0.N) (r : Fin 1) (q : Fin 64) :
    (iblk0 (V1 m ρ) c 6 t : FVec Ideal S1x64 .f32) (ix2 r q) = (W1 m ρ c (Proc.devRef .tc main_call0_v136) : FVec Ideal S1x64 .f32) (ix2 r q) := by
  unfold iblk0
  blk_simp
  refine congrArg (V1 m ρ c main_call0_v136) (show _ = ix2 r q from ?_)
  blk_ext
  all_goals
    rw [at6]
    simp

theorem iblk_7 (c : Dev nD) (t : Fin cfg0.N) (r : Fin 64) (q : Fin 64) :
    (iblk0 (V1 m ρ) c 7 t : FVec Ideal S64x64 .f32) (ix2 r q) = (W1 m ρ c (Proc.devRef .tc main_arg10) : FVec Ideal S64x64 .f32) (ix2 r q) := by
  unfold iblk0
  blk_simp
  refine congrArg (V1 m ρ c main_arg10) (show _ = ix2 r q from ?_)
  blk_ext
  all_goals
    rw [at7]
    simp

theorem iblk_8 (c : Dev nD) (t : Fin cfg0.N) (r : Fin 1) (q : Fin 64) :
    (iblk0 (V1 m ρ) c 8 t : FVec Ideal S1x64 .f32) (ix2 r q) = (W1 m ρ c (Proc.devRef .tc main_call0_v137) : FVec Ideal S1x64 .f32) (ix2 r q) := by
  unfold iblk0
  blk_simp
  refine congrArg (V1 m ρ c main_call0_v137) (show _ = ix2 r q from ?_)
  blk_ext
  all_goals
    rw [at8]
    simp

/-- After the first region its result array holds every node's features. -/
theorem encoded (c : Dev nD) :
    (W2 m ρ c (Proc.devRef .tc main_call0_v138) : FVec Ideal S3072x64 .f32) = fun y => nodes m c (y 0) (y 1) := by
  refine (W2_arr m ρ c 9).trans ?_
  refine (dat0 (V1 m ρ) c).arrAt_eq_of_covers 9 _ (by decide +kernel) fun t hf y => ?_
  blk_simp
  rw [after0_9]
  frame_out
  have ht : t.val < 48 := t.isLt
  idx_vars y
  refine (Enc.block _ _ _ _ _ _ _ _ _
    (fun n t => (m ((c.tc : Thread nD τ).loc main_arg0) : FVec Ideal S3072x1000 .f32) (ix2 n t))
    (fun c' k => (m ((c.tc : Thread nD τ).loc main_arg4) : FVec Ideal S64x1x7 .f32) (ix3 c' 0 k))
    (fun i => (m ((c.tc : Thread nD τ).loc main_arg5) : FVec Ideal S64 .f32) (ix1 i))
    (fun o i k => (m ((c.tc : Thread nD τ).loc main_arg6) : FVec Ideal S64x64x3 .f32) (ix3 o i k))
    (fun i => (m ((c.tc : Thread nD τ).loc main_arg7) : FVec Ideal S64 .f32) (ix1 i))
    (fun o i k => (m ((c.tc : Thread nD τ).loc main_arg8) : FVec Ideal S64x64x3 .f32) (ix3 o i k))
    (fun i => (m ((c.tc : Thread nD τ).loc main_arg9) : FVec Ideal S64 .f32) (ix1 i))
    (fun i o => (m ((c.tc : Thread nD τ).loc main_arg10) : FVec Ideal S64x64 .f32) (ix2 i o))
    (fun i => (m ((c.tc : Thread nD τ).loc main_arg11) : FVec Ideal S64 .f32) (ix1 i))
    (fun k => Fin.ofNat 3072 (64 * t.val + k)) ?_ ?_ ?_ ?_ ?_ ?_ ?_ ?_ ?_ ?_ ?_ ?_ ?_ y0 y1).trans ?_
  · intro r q
    refine (iblk_0 m ρ c t r q (by omega)).trans ((Host.p4 m ρ c _ q).trans ?_)
    refine congrArg₂ (xpad _) (Fin.ext ?_) ?_
    · show (4096 * t.val + r.val) / 64 = (64 * t.val + r.val / 64) % 3072
      omega
    · show 16 * ((4096 * t.val + r.val) % 64) + 4 * (q.val / 8) + q.val % 8 = _
      omega
  · intro q j c'
    refine (iblk_1 m ρ c t q _).trans ((Host.w4 m ρ c q _).trans ?_)
    have h1 : (64 * j.val + c'.val) / 64 = j.val := by omega
    have h2 : (64 * j.val + c'.val) % 64 = c'.val := by omega
    have h3 : c'.val < 64 := c'.isLt
    simp only [h1, h2, h3, and_true]
  · exact fun i => (iblk_2 m ρ c t 0 i).trans (Host.bias1 m ρ c i)
  · intro i c'
    refine (iblk_3 m ρ c t i _).trans ((Host.wr1 m ρ c i _).trans ?_)
    refine congrArg₂ (fun a b => (m (c.tc.loc main_arg6) : FVec Ideal S64x64x3 .f32) (ix3 a i b)) (Fin.ext ?_) (Fin.ext ?_)
    · show c'.val % 64 = c'.val
      omega
    · show c'.val / 64 = 0
      omega
  · intro i c'
    refine (iblk_3 m ρ c t i _).trans ((Host.wr1 m ρ c i _).trans ?_)
    refine congrArg₂ (fun a b => (m (c.tc.loc main_arg6) : FVec Ideal S64x64x3 .f32) (ix3 a i b)) (Fin.ext ?_) (Fin.ext ?_)
    · show (64 + c'.val) % 64 = c'.val
      omega
    · show (64 + c'.val) / 64 = 1
      omega
  · intro i c'
    refine (iblk_3 m ρ c t i _).trans ((Host.wr1 m ρ c i _).trans ?_)
    refine congrArg₂ (fun a b => (m (c.tc.loc main_arg6) : FVec Ideal S64x64x3 .f32) (ix3 a i b)) (Fin.ext ?_) (Fin.ext ?_)
    · show (128 + c'.val) % 64 = c'.val
      omega
    · show (128 + c'.val) / 64 = 2
      omega
  · exact fun i => (iblk_4 m ρ c t 0 i).trans (Host.bias2 m ρ c i)
  · intro i c'
    refine (iblk_5 m ρ c t i _).trans ((Host.wr2 m ρ c i _).trans ?_)
    refine congrArg₂ (fun a b => (m (c.tc.loc main_arg8) : FVec Ideal S64x64x3 .f32) (ix3 a i b)) (Fin.ext ?_) (Fin.ext ?_)
    · show c'.val % 64 = c'.val
      omega
    · show c'.val / 64 = 0
      omega
  · intro i c'
    refine (iblk_5 m ρ c t i _).trans ((Host.wr2 m ρ c i _).trans ?_)
    refine congrArg₂ (fun a b => (m (c.tc.loc main_arg8) : FVec Ideal S64x64x3 .f32) (ix3 a i b)) (Fin.ext ?_) (Fin.ext ?_)
    · show (64 + c'.val) % 64 = c'.val
      omega
    · show (64 + c'.val) / 64 = 1
      omega
  · intro i c'
    refine (iblk_5 m ρ c t i _).trans ((Host.wr2 m ρ c i _).trans ?_)
    refine congrArg₂ (fun a b => (m (c.tc.loc main_arg8) : FVec Ideal S64x64x3 .f32) (ix3 a i b)) (Fin.ext ?_) (Fin.ext ?_)
    · show (128 + c'.val) % 64 = c'.val
      omega
    · show (128 + c'.val) / 64 = 2
      omega
  · exact fun i => (iblk_6 m ρ c t 0 i).trans (Host.bias3 m ρ c i)
  · exact fun i o => (iblk_7 m ρ c t i o).trans (congrFun (W1_args m ρ c main_arg10 (by decide)) _)
  · exact fun i => (iblk_8 m ρ c t 0 i).trans (Host.bias4 m ρ c i)
  · refine congrArg₂ (nodes m c) (Fin.ext ?_) (Fin.ext ?_)
    · blk_simp
      rw [at9]
      show (64 * t.val + y0.val) % 3072 = t.val * 64 + y0.val
      omega
    · blk_simp
      rw [at9]
      show y1.val = 0 * 64 + y1.val
      omega

end Cert.KernelIdeal.Encoder

end
-- ==== Proof.Between.lean ====
/- The arrays that the graph launch reads, element by element, as the lines between the launches leave them. -/
module

public import proofs.«01_k».proof.Proof.Encoder

@[expose] public section

set_option maxRecDepth 16384

noncomputable section

namespace Cert.KernelIdeal.Between

open Idealize.ShloMosaic Idealize.ShloMosaic.TcCoe Cert.KernelIdeal.Gen Cert.Spec

variable (m : (ℓ : Loc nD τ sig) → Buf (Elt Ideal) ℓ) (ρ : Dev nD → PrngReg)

theorem at0 : ∀ t : Fin cfg1.N, win1_0.index t = ![0, 0] := by decide +kernel
theorem at1 : ∀ t : Fin cfg1.N, win1_1.index t = ![0, 0] := by decide +kernel
theorem at2 : ∀ t : Fin cfg1.N, win1_2.index t = ![0, 0] := by decide +kernel
theorem at3 : ∀ t : Fin cfg1.N, win1_3.index t = ![0, 0] := by decide +kernel
theorem at4 : ∀ t : Fin cfg1.N, win1_4.index t = ![0, 0] := by decide +kernel
theorem at5 : ∀ t : Fin cfg1.N, win1_5.index t = ![0, 0] := by decide +kernel
theorem at6 : ∀ t : Fin cfg1.N, win1_6.index t = ![0, 0] := by decide +kernel
theorem at7 : ∀ t : Fin cfg1.N, win1_7.index t = ![0, 0] := by decide +kernel
theorem at8 : ∀ t : Fin cfg1.N, win1_8.index t = ![0, 0] := by decide +kernel
theorem at9 : ∀ t : Fin cfg1.N, win1_9.index t = ![0, 0] := by decide +kernel
theorem at10 : ∀ t : Fin cfg1.N, win1_10.index t = ![0, 0] := by decide +kernel
theorem at11 : ∀ t : Fin cfg1.N, win1_11.index t = ![0, 0] := by decide +kernel
theorem at12 : ∀ t : Fin cfg1.N, win1_12.index t = ![0, 0] := by decide +kernel
theorem at13 : ∀ t : Fin cfg1.N, win1_13.index t = ![0, 0] := by decide +kernel
theorem at14 : ∀ t : Fin cfg1.N, win1_14.index t = ![0, 0] := by decide +kernel
theorem at15 : ∀ t : Fin cfg1.N, win1_15.index t = ![0, 0] := by decide +kernel
theorem at16 : ∀ t : Fin cfg1.N, win1_16.index t = ![0, 0] := by decide +kernel

theorem iblk_0 (c : Dev nD) (t : Fin cfg1.N) (r : Fin 3072) (q : Fin 64) :
    (iblk1 (V3 m ρ) c 0 t : FVec Ideal S3072x64 .f32) (ix2 r q) = (W3 m ρ c (Proc.devRef .tc main_call0_v138) : FVec Ideal S3072x64 .f32) (ix2 r q) := by
  unfold iblk1
  blk_simp
  refine congrArg (V3 m ρ c main_call0_v138) (show _ = ix2 r q from ?_)
  blk_ext
  all_goals
    rw [at0]
    simp

theorem iblk_1 (c : Dev nD) (t : Fin cfg1.N) (r : Fin 256) (q : Fin 32) :
    (iblk1 (V3 m ρ) c 1 t : FVec Ideal S256x32 .f32) (ix2 r q) = (W3 m ρ c (Proc.devRef .tc main_arg1) : FVec Ideal S256x32 .f32) (ix2 r q) := by
  unfold iblk1
  blk_simp
  refine congrArg (V3 m ρ c main_arg1) (show _ = ix2 r q from ?_)
  blk_ext
  all_goals
    rw [at1]
    simp

theorem iblk_2 (c : Dev nD) (t : Fin cfg1.N) (r : Fin 1) (q : Fin 3072) :
    (iblk1 (V3 m ρ) c 2 t : IVec S1x3072 32) (ix2 r q) = (W3 m ρ c (Proc.devRef .tc main_call0_v142) : IVec S1x3072 32) (ix2 r q) := by
  unfold iblk1
  blk_simp
  refine congrArg (V3 m ρ c main_call0_v142) (show _ = ix2 r q from ?_)
  blk_ext
  all_goals
    rw [at2]
    simp

theorem iblk_3 (c : Dev nD) (t : Fin cfg1.N) (r : Fin 3072) (q : Fin 1) :
    (iblk1 (V3 m ρ) c 3 t : IVec S3072x1 32) (ix2 r q) = (W3 m ρ c (Proc.devRef .tc main_call0_v143) : IVec S3072x1 32) (ix2 r q) := by
  unfold iblk1
  blk_simp
  refine congrArg (V3 m ρ c main_call0_v143) (show _ = ix2 r q from ?_)
  blk_ext
  all_goals
    rw [at3]
    simp

theorem iblk_4 (c : Dev nD) (t : Fin cfg1.N) (r : Fin 192) (q : Fin 128) :
    (iblk1 (V3 m ρ) c 4 t : FVec Ideal S192x128 .f32) (ix2 r q) = (W3 m ρ c (Proc.devRef .tc main_call0_v139) : FVec Ideal S192x128 .f32) (ix2 r q) := by
  unfold iblk1
  blk_simp
  refine congrArg (V3 m ρ c main_call0_v139) (show _ = ix2 r q from ?_)
  blk_ext
  all_goals
    rw [at4]
    simp

theorem iblk_5 (c : Dev nD) (t : Fin cfg1.N) (r : Fin 3) (q : Fin 128) :
    (iblk1 (V3 m ρ) c 5 t : FVec Ideal S3x128 .f32) (ix2 r q) = (W3 m ρ c (Proc.devRef .tc main_arg13) : FVec Ideal S3x128 .f32) (ix2 r q) := by
  unfold iblk1
  blk_simp
  refine congrArg (V3 m ρ c main_arg13) (show _ = ix2 r q from ?_)
  blk_ext
  all_goals
    rw [at5]
    simp

theorem iblk_6 (c : Dev nD) (t : Fin cfg1.N) (r : Fin 1152) (q : Fin 128) :
    (iblk1 (V3 m ρ) c 6 t : FVec Ideal S1152x128 .f32) (ix2 r q) = (W3 m ρ c (Proc.devRef .tc main_call0_v140) : FVec Ideal S1152x128 .f32) (ix2 r q) := by
  unfold iblk1
  blk_simp
  refine congrArg (V3 m ρ c main_call0_v140) (show _ = ix2 r q from ?_)
  blk_ext
  all_goals
    rw [at6]
    simp

theorem iblk_7 (c : Dev nD) (t : Fin cfg1.N) (r : Fin 3) (q : Fin 128) :
    (iblk1 (V3 m ρ) c 7 t : FVec Ideal S3x128 .f32) (ix2 r q) = (W3 m ρ c (Proc.devRef .tc main_arg15) : FVec Ideal S3x128 .f32) (ix2 r q) := by
  unfold iblk1
  blk_simp
  refine congrArg (V3 m ρ c main_arg15) (show _ = ix2 r q from ?_)
  blk_ext
  all_goals
    rw [at7]
    simp

theorem iblk_8 (c : Dev nD) (t : Fin cfg1.N) (r : Fin 1152) (q : Fin 128) :
    (iblk1 (V3 m ρ) c 8 t : FVec Ideal S1152x128 .f32) (ix2 r q) = (W3 m ρ c (Proc.devRef .tc main_call0_v141) : FVec Ideal S1152x128 .f32) (ix2 r q) := by
  unfold iblk1
  blk_simp
  refine congrArg (V3 m ρ c main_call0_v141) (show _ = ix2 r q from ?_)
  blk_ext
  all_goals
    rw [at8]
    simp

theorem iblk_9 (c : Dev nD) (t : Fin cfg1.N) (r : Fin 3) (q : Fin 128) :
    (iblk1 (V3 m ρ) c 9 t : FVec Ideal S3x128 .f32) (ix2 r q) = (W3 m ρ c (Proc.devRef .tc main_arg17) : FVec Ideal S3x128 .f32) (ix2 r q) := by
  unfold iblk1
  blk_simp
  refine congrArg (V3 m ρ c main_arg17) (show _ = ix2 r q from ?_)
  blk_ext
  all_goals
    rw [at9]
    simp

theorem iblk_10 (c : Dev nD) (t : Fin cfg1.N) (r : Fin 1) (q : Fin 384) :
    (iblk1 (V3 m ρ) c 10 t : FVec Ideal S1x384 .f32) (ix2 r q) = (W3 m ρ c (Proc.devRef .tc main_call0_v144) : FVec Ideal S1x384 .f32) (ix2 r q) := by
  unfold iblk1
  blk_simp
  refine congrArg (V3 m ρ c main_call0_v144) (show _ = ix2 r q from ?_)
  blk_ext
  all_goals
    rw [at10]
    simp

theorem iblk_11 (c : Dev nD) (t : Fin cfg1.N) (r : Fin 1) (q : Fin 384) :
    (iblk1 (V3 m ρ) c 11 t : FVec Ideal S1x384 .f32) (ix2 r q) = (W3 m ρ c (Proc.devRef .tc main_call0_v145) : FVec Ideal S1x384 .f32) (ix2 r q) := by
  unfold iblk1
  blk_simp
  refine congrArg (V3 m ρ c main_call0_v145) (show _ = ix2 r q from ?_)
  blk_ext
  all_goals
    rw [at11]
    simp

theorem iblk_12 (c : Dev nD) (t : Fin cfg1.N) (r : Fin 384) (q : Fin 128) :
    (iblk1 (V3 m ρ) c 12 t : FVec Ideal S384x128 .f32) (ix2 r q) = (W3 m ρ c (Proc.devRef .tc main_call0_v146) : FVec Ideal S384x128 .f32) (ix2 r q) := by
  unfold iblk1
  blk_simp
  refine congrArg (V3 m ρ c main_call0_v146) (show _ = ix2 r q from ?_)
  blk_ext
  all_goals
    rw [at12]
    simp

theorem iblk_13 (c : Dev nD) (t : Fin cfg1.N) (r : Fin 32) (q : Fin 128) :
    (iblk1 (V3 m ρ) c 13 t : FVec Ideal S32x128 .f32) (ix2 r q) = (W3 m ρ c (Proc.devRef .tc main_call0_v147) : FVec Ideal S32x128 .f32) (ix2 r q) := by
  unfold iblk1
  blk_simp
  refine congrArg (V3 m ρ c main_call0_v147) (show _ = ix2 r q from ?_)
  blk_ext
  all_goals
    rw [at13]
    simp

theorem iblk_14 (c : Dev nD) (t : Fin cfg1.N) (r : Fin 1) (q : Fin 128) :
    (iblk1 (V3 m ρ) c 14 t : FVec Ideal S1x128 .f32) (ix2 r q) = (W3 m ρ c (Proc.devRef .tc main_call0_v148) : FVec Ideal S1x128 .f32) (ix2 r q) := by
  unfold iblk1
  blk_simp
  refine congrArg (V3 m ρ c main_call0_v148) (show _ = ix2 r q from ?_)
  blk_ext
  all_goals
    rw [at14]
    simp

theorem iblk_15 (c : Dev nD) (t : Fin cfg1.N) (r : Fin 128) (q : Fin 5) :
    (iblk1 (V3 m ρ) c 15 t : FVec Ideal S128x5 .f32) (ix2 r q) = (W3 m ρ c (Proc.devRef .tc main_arg22) : FVec Ideal S128x5 .f32) (ix2 r q) := by
  unfold iblk1
  blk_simp
  refine congrArg (V3 m ρ c main_arg22) (show _ = ix2 r q from ?_)
  blk_ext
  all_goals
    rw [at15]
    simp

theorem iblk_16 (c : Dev nD) (t : Fin cfg1.N) (r : Fin 1) (q : Fin 5) :
    (iblk1 (V3 m ρ) c 16 t : FVec Ideal S1x5 .f32) (ix2 r q) = (W3 m ρ c (Proc.devRef .tc main_call0_v149) : FVec Ideal S1x5 .f32) (ix2 r q) := by
  unfold iblk1
  blk_simp
  refine congrArg (V3 m ρ c main_call0_v149) (show _ = ix2 r q from ?_)
  blk_ext
  all_goals
    rw [at16]
    simp

theorem opnd_2 (c : Dev nD) (q : Fin 3072) :
    (W3 m ρ c (Proc.devRef .tc main_call0_v142) : IVec S1x3072 32) (ix2 0 q) = (m ((c.tc : Thread nD τ).loc main_arg2) : IVec S3072 32) (ix1 q) := by
  have e : W2 m ρ c (Proc.devRef .tc main_arg2) = m ((c.tc : Thread nD τ).loc main_arg2) := W2_args m ρ c main_arg2 (by decide)
  rw [← e]
  unfold W3
  after_reads_at

theorem opnd_3 (c : Dev nD) (r : Fin 3072) :
    (W3 m ρ c (Proc.devRef .tc main_call0_v143) : IVec S3072x1 32) (ix2 r 0) = (m ((c.tc : Thread nD τ).loc main_arg2) : IVec S3072 32) (ix1 r) := by
  have e : W2 m ρ c (Proc.devRef .tc main_arg2) = m ((c.tc : Thread nD τ).loc main_arg2) := W2_args m ρ c main_arg2 (by decide)
  rw [← e]
  unfold W3
  after_reads_at

theorem opnd_4 (c : Dev nD) (r : Fin 192) (q : Fin 128) :
    (W3 m ρ c (Proc.devRef .tc main_call0_v139) : FVec Ideal S192x128 .f32) (ix2 r q) = (m ((c.tc : Thread nD τ).loc main_arg12) : FVec Ideal S3x64x128 .f32) (ix3 ⟨r.val / 64, by omega⟩ ⟨r.val % 64, by omega⟩ q) := by
  have e : W2 m ρ c (Proc.devRef .tc main_arg12) = m ((c.tc : Thread nD τ).loc main_arg12) := W2_args m ρ c main_arg12 (by decide)
  rw [← e]
  unfold W3
  after_reads_at

theorem opnd_6 (c : Dev nD) (r : Fin 1152) (q : Fin 128) :
    (W3 m ρ c (Proc.devRef .tc main_call0_v140) : FVec Ideal S1152x128 .f32) (ix2 r q) = (m ((c.tc : Thread nD τ).loc main_arg14) : FVec Ideal S3x384x128 .f32) (ix3 ⟨r.val / 384, by omega⟩ ⟨r.val % 384, by omega⟩ q) := by
  have e : W2 m ρ c (Proc.devRef .tc main_arg14) = m ((c.tc : Thread nD τ).loc main_arg14) := W2_args m ρ c main_arg14 (by decide)
  rw [← e]
  unfold W3
  after_reads_at

theorem opnd_8 (c : Dev nD) (r : Fin 1152) (q : Fin 128) :
    (W3 m ρ c (Proc.devRef .tc main_call0_v141) : FVec Ideal S1152x128 .f32) (ix2 r q) = (m ((c.tc : Thread nD τ).loc main_arg16) : FVec Ideal S3x384x128 .f32) (ix3 ⟨r.val / 384, by omega⟩ ⟨r.val % 384, by omega⟩ q) := by
  have e : W2 m ρ c (Proc.devRef .tc main_arg16) = m ((c.tc : Thread nD τ).loc main_arg16) := W2_args m ρ c main_arg16 (by decide)
  rw [← e]
  unfold W3
  after_reads_at

theorem opnd_10 (c : Dev nD) (q : Fin 384) :
    (W3 m ρ c (Proc.devRef .tc main_call0_v144) : FVec Ideal S1x384 .f32) (ix2 0 q) = (m ((c.tc : Thread nD τ).loc main_arg18) : FVec Ideal S384 .f32) (ix1 q) := by
  have e : W2 m ρ c (Proc.devRef .tc main_arg18) = m ((c.tc : Thread nD τ).loc main_arg18) := W2_args m ρ c main_arg18 (by decide)
  rw [← e]
  unfold W3
  after_reads_at

theorem opnd_11 (c : Dev nD) (q : Fin 384) :
    (W3 m ρ c (Proc.devRef .tc main_call0_v145) : FVec Ideal S1x384 .f32) (ix2 0 q) = (m ((c.tc : Thread nD τ).loc main_arg19) : FVec Ideal S384 .f32) (ix1 q) := by
  have e : W2 m ρ c (Proc.devRef .tc main_arg19) = m ((c.tc : Thread nD τ).loc main_arg19) := W2_args m ρ c main_arg19 (by decide)
  rw [← e]
  unfold W3
  after_reads_at

theorem opnd_12 (c : Dev nD) (r : Fin 384) (q : Fin 128) :
    (W3 m ρ c (Proc.devRef .tc main_call0_v146) : FVec Ideal S384x128 .f32) (ix2 r q) = (m ((c.tc : Thread nD τ).loc main_arg20) : FVec Ideal S416x128 .f32) (ix2 ⟨r.val, by omega⟩ q) := by
  have e : W2 m ρ c (Proc.devRef .tc main_arg20) = m ((c.tc : Thread nD τ).loc main_arg20) := W2_args m ρ c main_arg20 (by decide)
  rw [← e]
  unfold W3
  after_reads_at

theorem opnd_13 (c : Dev nD) (r : Fin 32) (q : Fin 128) :
    (W3 m ρ c (Proc.devRef .tc main_call0_v147) : FVec Ideal S32x128 .f32) (ix2 r q) = (m ((c.tc : Thread nD τ).loc main_arg20) : FVec Ideal S416x128 .f32) (ix2 ⟨384 + r.val, by omega⟩ q) := by
  have e : W2 m ρ c (Proc.devRef .tc main_arg20) = m ((c.tc : Thread nD τ).loc main_arg20) := W2_args m ρ c main_arg20 (by decide)
  rw [← e]
  unfold W3
  after_reads_at

theorem opnd_14 (c : Dev nD) (q : Fin 128) :
    (W3 m ρ c (Proc.devRef .tc main_call0_v148) : FVec Ideal S1x128 .f32) (ix2 0 q) = (m ((c.tc : Thread nD τ).loc main_arg21) : FVec Ideal S128 .f32) (ix1 q) := by
  have e : W2 m ρ c (Proc.devRef .tc main_arg21) = m ((c.tc : Thread nD τ).loc main_arg21) := W2_args m ρ c main_arg21 (by decide)
  rw [← e]
  unfold W3
  after_reads_at

theorem opnd_16 (c : Dev nD) (q : Fin 5) :
    (W3 m ρ c (Proc.devRef .tc main_call0_v149) : FVec Ideal S1x5 .f32) (ix2 0 q) = (m ((c.tc : Thread nD τ).loc main_arg23) : FVec Ideal S5 .f32) (ix1 q) := by
  have e : W2 m ρ c (Proc.devRef .tc main_arg23) = m ((c.tc : Thread nD τ).loc main_arg23) := W2_args m ρ c main_arg23 (by decide)
  rw [← e]
  unfold W3
  after_reads_at

end Cert.KernelIdeal.Between

end
-- ==== Proof.Graph0.lean ====
/- The graph launch's pieces, element by element: the one-hot rows of the graphs, the counts and the coefficients they
   give, the sums over a graph, and what stands after the layers. -/
module

public import proofs.«01_k».proof.Proof.EncBlock

@[expose] public section

set_option maxRecDepth 16384

noncomputable section

namespace Cert.KernelIdeal.Graph

open Idealize.ShloMosaic Idealize.ShloMosaic.TcCoe Cert.KernelIdeal.Gen Cert.Spec

/-! ## Sums against one-hot rows -/

/-- The nodes of graph `g`, picked out of all the nodes. -/
theorem sum_graph (z : Fin 3072 → EReal) (g : Fin 256) :
    ∑ n : Fin 3072, (if n.val / 12 = g.val then 1 else 0 : EReal) * z n
      = ∑ i : Fin 12, z ⟨12 * g.val + i.val, by omega⟩ := by
  have e : (∑ n : Fin 3072, (if n.val / 12 = g.val then 1 else 0 : EReal) * z n)
      = ∑ p : Fin 256 × Fin 12, (if p.1 = g then 1 else 0 : EReal) * z ⟨12 * p.1.val + p.2.val, by omega⟩ := by
    refine (Fintype.sum_equiv (finProdFinEquiv (m := 256) (n := 12)) _ _ fun p => ?_).symm
    obtain ⟨a, b⟩ := p
    have h1 : (finProdFinEquiv (m := 256) (n := 12) (a, b)) = (⟨12 * a.val + b.val, by omega⟩ : Fin 3072) := by
      refine Fin.ext ?_
      show b.val + 12 * a.val = 12 * a.val + b.val
      omega
    rw [h1]
    have h2 : ((12 * a.val + b.val) / 12 = g.val) ↔ a = g := by
      rw [Fin.ext_iff]
      omega
    simp only [h2]
  rw [e, Fintype.sum_prod_type]
  rw [Finset.sum_eq_single g]
  · simp
  · intro a _ ha
    simp [ha]
  · simp

/-- The entry of a node's own graph, picked out of all the graphs. -/
theorem sum_pick (s : Fin 256 → EReal) (n : Fin 3072) :
    ∑ g : Fin 256, (if n.val / 12 = g.val then 1 else 0 : EReal) * s g = s ⟨n.val / 12, by omega⟩ := by
  rw [Finset.sum_eq_single (⟨n.val / 12, by omega⟩ : Fin 256)]
  · simp
  · intro a _ ha
    rw [if_neg fun h => ha (Fin.ext h.symm), zero_mul]
  · simp

/-- The sum over a node's graph, of real entries. -/
theorem sum_whole (z : Fin 3072 → ℝ) (n : Fin 3072) :
    ∑ i : Fin 12, (z ⟨12 * (n.val / 12) + i.val, by omega⟩ : EReal) = (whole z n : EReal) := by
  unfold whole mate
  push_cast
  rfl

/-! ## The one-hot rows and what follows from the counts -/

section
variable (row : Vec Ideal S1x3072 .i32) (col : Vec Ideal S3072x1 .i32)
  (hrow : ∀ n : Fin 3072, row (ix2 0 n) = BitVec.ofNat 32 (n.val / 12))
  (hcol : ∀ n : Fin 3072, col (ix2 n 0) = BitVec.ofNat 32 (n.val / 12))
include hrow

theorem pay2_apply (g : Fin 256) (n : Fin 3072) :
    k1_pay2 (F := Ideal) row (ix2 g n) = (if n.val / 12 = g.val then 1 else 0 : EReal) := by
  pointwise [k1_pay2]
  rw [hrow]
  exact Enc.sitofp_eq _ _ (by omega) (by omega)

theorem pay4_apply (g : Fin 256) (i : Fin 1) : k1_pay4 (F := Ideal) row (ix2 g i) = ((12 : ℝ) : EReal) := by
  have e : (∑ n : Fin 3072, (if n.val / 12 = g.val then 1 else 0 : EReal)) = ((12 : ℝ) : EReal) := by
    have := sum_graph (fun _ => 1) g
    simp only [mul_one] at this
    rw [this]
    have one : (1 : EReal) = ((1 : ℝ) : EReal) := rfl
    have sum : (∑ _i : Fin 12, ((1 : ℝ) : EReal)) = ((∑ _i : Fin 12, (1 : ℝ) : ℝ) : EReal) := by
      simp only [Fin.sum_univ_succ, Finset.univ_eq_empty, Finset.sum_empty, EReal.coe_add, EReal.coe_zero]
    rw [one, sum]
    norm_num
  have t : k1_pay4 (F := Ideal) row (ix2 g i) = max (∑ n : Fin 3072, k1_pay2 (F := Ideal) row (ix2 g n)) (1 : EReal) := by
    unfold k1_pay4
    generalize k1_pay2 (F := Ideal) row = d
    pointwise
  rw [t]
  simp only [pay2_apply row hrow]
  rw [e, ← EReal.coe_one]
  refine max_eq_left (EReal.coe_le_coe_iff.mpr ?_)
  norm_num

include hcol

omit hrow in
theorem pay3_apply (n : Fin 3072) (g : Fin 256) :
    k1_pay3 (F := Ideal) col (ix2 n g) = (if n.val / 12 = g.val then 1 else 0 : EReal) := by
  pointwise [k1_pay3]
  rw [hcol]
  exact Enc.sitofp_eq _ _ (by omega) (by omega)

theorem pay5_apply (n : Fin 3072) (i : Fin 1) : k1_pay5 (F := Ideal) row col (ix2 n i) = ((12 : ℝ) : EReal) := by
  have t : k1_pay5 (F := Ideal) row col (ix2 n i)
      = (∑ g : Fin 256, k1_pay3 (F := Ideal) col (ix2 n g) * k1_pay4 (F := Ideal) row (ix2 g i) : EReal) := by
    unfold k1_pay5
    generalize k1_pay3 (F := Ideal) col = d
    generalize k1_pay4 (F := Ideal) row = e
    pointwise
  rw [t]
  simp only [pay3_apply col hcol, pay4_apply row hrow]
  exact sum_pick (fun _ => ((12 : ℝ) : EReal)) n

theorem pay6_apply (n : Fin 3072) (i : Fin 1) : k1_pay6 (F := Ideal) row col (ix2 n i) = ((1 / 11 : ℝ) : EReal) := by
  have t : k1_pay6 (F := Ideal) row col (ix2 n i) = Ideal.div 1 (max (k1_pay5 (F := Ideal) row col (ix2 n i) - 1) 1) := by
    unfold k1_pay6
    generalize k1_pay5 (F := Ideal) row col = d
    pointwise
  rw [t, pay5_apply row col hrow hcol]
  have e : max (((12 : ℝ) : EReal) - 1) 1 = ((11 : ℝ) : EReal) := by
    rw [← EReal.coe_one, ← EReal.coe_sub]
    refine (max_eq_left (EReal.coe_le_coe_iff.mpr ?_)).trans ?_
    all_goals norm_num
  rw [e, Ideal.div_coe (by norm_num), one_mul]

theorem pay7_apply (n : Fin 3072) (i : Fin 1) : k1_pay7 (F := Ideal) row col (ix2 n i) = ((10 / 121 : ℝ) : EReal) := by
  have t : k1_pay7 (F := Ideal) row col (ix2 n i) = ((k1_pay5 (F := Ideal) row col (ix2 n i) - Ideal.ofBits .f32 0x40000000#32)
      * k1_pay6 (F := Ideal) row col (ix2 n i) * k1_pay6 (F := Ideal) row col (ix2 n i) : EReal) := by
    unfold k1_pay7
    generalize k1_pay5 (F := Ideal) row col = d
    generalize k1_pay6 (F := Ideal) row col = e
    pointwise
  rw [t, pay5_apply row col hrow hcol, pay6_apply row col hrow hcol]
  have e : Ideal.ofBits .f32 0x40000000#32 = ((2 : ℝ) : EReal) := by
    simp [Ideal.ofBits, Ideal.ieee]
    rw [← EReal.coe_mul]
    norm_num
  rw [e]
  norm_cast
  norm_num

theorem pay8_apply (n : Fin 3072) (i : Fin 1) : k1_pay8 (F := Ideal) row col (ix2 n i) = ((1 / 121 : ℝ) : EReal) := by
  have t : k1_pay8 (F := Ideal) row col (ix2 n i)
      = (k1_pay6 (F := Ideal) row col (ix2 n i) * k1_pay6 (F := Ideal) row col (ix2 n i) : EReal) := by
    unfold k1_pay8
    generalize k1_pay6 (F := Ideal) row col = e
    pointwise
  rw [t, pay6_apply row col hrow hcol]
  norm_cast
  norm_num

theorem pay9_apply (n : Fin 3072) (i : Fin 1) : k1_pay9 (F := Ideal) row col (ix2 n i) = ((111 / 1331 : ℝ) : EReal) := by
  have t : k1_pay9 (F := Ideal) row col (ix2 n i) = ((k1_pay5 (F := Ideal) row col (ix2 n i) * k1_pay5 (F := Ideal) row col (ix2 n i)
      - Ideal.ofBits .f32 0x40400000#32 * k1_pay5 (F := Ideal) row col (ix2 n i) + Ideal.ofBits .f32 0x40400000#32)
      * k1_pay6 (F := Ideal) row col (ix2 n i) * k1_pay8 (F := Ideal) row col (ix2 n i) : EReal) := by
    unfold k1_pay9
    generalize k1_pay5 (F := Ideal) row col = d
    generalize k1_pay6 (F := Ideal) row col = e
    generalize k1_pay8 (F := Ideal) row col = f
    pointwise
  rw [t, pay5_apply row col hrow hcol, pay6_apply row col hrow hcol, pay8_apply row col hrow hcol]
  have e : Ideal.ofBits .f32 0x40400000#32 = ((3 : ℝ) : EReal) := by
    simp [Ideal.ofBits, Ideal.ieee]
    rw [← EReal.coe_mul]
    norm_num
  rw [e]
  norm_cast
  norm_num

theorem pay10_apply (n : Fin 3072) (i : Fin 1) : k1_pay10 (F := Ideal) row col (ix2 n i) = ((1 / 1331 : ℝ) : EReal) := by
  have t : k1_pay10 (F := Ideal) row col (ix2 n i)
      = (k1_pay6 (F := Ideal) row col (ix2 n i) * k1_pay8 (F := Ideal) row col (ix2 n i) : EReal) := by
    unfold k1_pay10
    generalize k1_pay6 (F := Ideal) row col = e
    generalize k1_pay8 (F := Ideal) row col = f
    pointwise
  rw [t, pay6_apply row col hrow hcol, pay8_apply row col hrow hcol]
  norm_cast
  norm_num

end

end Cert.KernelIdeal.Graph

end
-- ==== Proof.Graph1.lean ====
/- The graph layers as the graph launch computes them: each payload over real features is the plain layer. -/
module

public import proofs.«01_k».proof.Proof.Graph0

@[expose] public section

set_option maxRecDepth 16384

noncomputable section

namespace Cert.KernelIdeal.Graph

open Idealize.ShloMosaic Idealize.ShloMosaic.TcCoe Cert.KernelIdeal.Gen Cert.Spec

/-! ## The sum over a node's graph -/

/-- The two one-hot products over 384 columns give each node the sum over its graph. -/
theorem both_wide (a : FVec Ideal S256x3072 .f32) (r : FVec Ideal S3072x256 .f32) (z : FVec Ideal S3072x384 .f32)
    (h : Fin 3072 → Fin 384 → ℝ)
    (ha : ∀ (g : Fin 256) (n : Fin 3072), a (ix2 g n) = (if n.val / 12 = g.val then 1 else 0 : EReal))
    (hr : ∀ (n : Fin 3072) (g : Fin 256), r (ix2 n g) = (if n.val / 12 = g.val then 1 else 0 : EReal))
    (hz : ∀ (n : Fin 3072) (j : Fin 384), z (ix2 n j) = (h n j : EReal)) (n : Fin 3072) (j : Fin 384) :
    (∑ g : Fin 256, r (ix2 n g) * ∑ k : Fin 3072, a (ix2 g k) * z (ix2 k j) : EReal) = (whole (fun n => h n j) n : EReal) := by
  simp only [ha, hr, hz]
  rw [sum_pick fun g => ∑ k : Fin 3072, (if k.val / 12 = g.val then 1 else 0 : EReal) * (h k j : EReal)]
  rw [sum_graph fun k => (h k j : EReal)]
  exact sum_whole (fun n => h n j) n

theorem pay14_apply (a : FVec Ideal S256x3072 .f32) (r : FVec Ideal S3072x256 .f32) (c1 c2 i2 c3 i3 : FVec Ideal S3072x1 .f32)
    (z s : FVec Ideal S3072x64 .f32) (w0 w1 w2 : Vec Ideal S64x128 .f32) (b0 b1 b2 : Vec Ideal S1x128 .f32)
    (h : Fin 3072 → Fin 384 → ℝ)
    (ha : ∀ (g : Fin 256) (n : Fin 3072), a (ix2 g n) = (if n.val / 12 = g.val then 1 else 0 : EReal))
    (hr : ∀ (n : Fin 3072) (g : Fin 256), r (ix2 n g) = (if n.val / 12 = g.val then 1 else 0 : EReal))
    (hz : ∀ (n : Fin 3072) (j : Fin 384), k1_pay13 c1 c2 i2 c3 i3 z s w0 b0 w1 b1 w2 b2 (ix2 n j) = (h n j : EReal))
    (n : Fin 3072) (j : Fin 384) :
    k1_pay14 a r c1 c2 i2 c3 i3 z s w0 b0 w1 b1 w2 b2 (ix2 n j) = (whole (fun n => h n j) n : EReal) := by
  refine Eq.trans ?_ (both_wide a r _ h ha hr hz n j)
  unfold k1_pay14
  generalize k1_pay13 c1 c2 i2 c3 i3 z s w0 b0 w1 b1 w2 b2 = d
  pointwise

theorem pay19_apply (a : FVec Ideal S256x3072 .f32) (r : FVec Ideal S3072x256 .f32) (c3 i3 : FVec Ideal S3072x1 .f32)
    (v76 v78 v81 v83 v84 : FVec Ideal S3072x384 .f32) (w0 w1 w2 : Vec Ideal S384x128 .f32) (b0 b1 b2 : Vec Ideal S1x128 .f32)
    (h : Fin 3072 → Fin 384 → ℝ)
    (ha : ∀ (g : Fin 256) (n : Fin 3072), a (ix2 g n) = (if n.val / 12 = g.val then 1 else 0 : EReal))
    (hr : ∀ (n : Fin 3072) (g : Fin 256), r (ix2 n g) = (if n.val / 12 = g.val then 1 else 0 : EReal))
    (hz : ∀ (n : Fin 3072) (j : Fin 384), k1_pay18 c3 i3 v76 v78 v81 v83 v84 w0 b0 w1 b1 w2 b2 (ix2 n j) = (h n j : EReal))
    (n : Fin 3072) (j : Fin 384) :
    k1_pay19 a r c3 i3 v76 v78 v81 v83 v84 w0 b0 w1 b1 w2 b2 (ix2 n j) = (whole (fun n => h n j) n : EReal) := by
  refine Eq.trans ?_ (both_wide a r _ h ha hr hz n j)
  unfold k1_pay19
  generalize k1_pay18 c3 i3 v76 v78 v81 v83 v84 w0 b0 w1 b1 w2 b2 = d
  pointwise

theorem pay11_apply (x : Vec Ideal S3072x64 .f32) (n : Fin 3072) (j : Fin 64) : k1_pay11 x (ix2 n j) = x (ix2 n j) := by
  pointwise [k1_pay11]

theorem pay12_apply (row : Vec Ideal S1x3072 .i32) (col : Vec Ideal S3072x1 .i32) (x : Vec Ideal S3072x64 .f32)
    (h : Fin 3072 → Fin 64 → ℝ)
    (hrow : ∀ n : Fin 3072, row (ix2 0 n) = BitVec.ofNat 32 (n.val / 12))
    (hcol : ∀ n : Fin 3072, col (ix2 n 0) = BitVec.ofNat 32 (n.val / 12))
    (hz : ∀ (n : Fin 3072) (j : Fin 64), x (ix2 n j) = (h n j : EReal)) (n : Fin 3072) (j : Fin 64) :
    k1_pay12 row col x (ix2 n j) = (whole (fun n => h n j) n : EReal) := by
  have t : k1_pay12 row col x (ix2 n j) = (∑ g : Fin 256, k1_pay3 (F := Ideal) col (ix2 n g)
      * ∑ k : Fin 3072, k1_pay2 (F := Ideal) row (ix2 g k) * k1_pay11 x (ix2 k j) : EReal) := by
    unfold k1_pay12
    generalize k1_pay3 (F := Ideal) col = d
    generalize k1_pay2 (F := Ideal) row = e
    generalize k1_pay11 x = f
    pointwise
  rw [t]
  simp only [pay2_apply row hrow, pay3_apply col hcol, pay11_apply, hz]
  rw [sum_pick fun g => ∑ k : Fin 3072, (if k.val / 12 = g.val then 1 else 0 : EReal) * (h k j : EReal)]
  rw [sum_graph fun k => (h k j : EReal)]
  exact sum_whole (fun n => h n j) n

/-! ## The hops, by their coefficients -/

theorem first (z : Fin 3072 → ℝ) (n : Fin 3072) :
    (((whole z n : ℝ) : EReal) - (z n : EReal)) * ((1 / 11 : ℝ) : EReal) = (hop z 0 n : EReal) := by
  rw [hop_zero]
  norm_cast

theorem second (z : Fin 3072 → ℝ) (n : Fin 3072) :
    ((10 / 121 : ℝ) : EReal) * ((whole z n : ℝ) : EReal) + ((1 / 121 : ℝ) : EReal) * (z n : EReal) = (hop z 1 n : EReal) := by
  rw [hop_one]
  norm_cast

theorem third (z : Fin 3072 → ℝ) (n : Fin 3072) :
    ((111 / 1331 : ℝ) : EReal) * ((whole z n : ℝ) : EReal) - ((1 / 1331 : ℝ) : EReal) * (z n : EReal) = (hop z 2 n : EReal) := by
  rw [hop_two]
  norm_cast

/-! ## The layers -/

/-- The first layer. -/
theorem pay13_apply (c1 c2 i2 c3 i3 : FVec Ideal S3072x1 .f32)
    (z s : FVec Ideal S3072x64 .f32) (w0 w1 w2 : Vec Ideal S64x128 .f32) (b0 b1 b2 : Vec Ideal S1x128 .f32)
    (h : Fin 3072 → Fin 64 → ℝ) (W : Fin 3 → Fin 64 → Fin 128 → EReal) (B : Fin 3 → Fin 128 → EReal)
    (e1 : ∀ (n : Fin 3072) (i : Fin 1), c1 (ix2 n i) = ((1 / 11 : ℝ) : EReal))
    (e2 : ∀ (n : Fin 3072) (i : Fin 1), c2 (ix2 n i) = ((10 / 121 : ℝ) : EReal))
    (e3 : ∀ (n : Fin 3072) (i : Fin 1), i2 (ix2 n i) = ((1 / 121 : ℝ) : EReal))
    (e4 : ∀ (n : Fin 3072) (i : Fin 1), c3 (ix2 n i) = ((111 / 1331 : ℝ) : EReal))
    (e5 : ∀ (n : Fin 3072) (i : Fin 1), i3 (ix2 n i) = ((1 / 1331 : ℝ) : EReal))
    (hz : ∀ (n : Fin 3072) (j : Fin 64), z (ix2 n j) = (h n j : EReal))
    (hs : ∀ (n : Fin 3072) (j : Fin 64), s (ix2 n j) = (whole (fun n => h n j) n : EReal))
    (h0 : ∀ (i : Fin 64) (c : Fin 128), w0 (ix2 i c) = W 0 i c) (h1 : ∀ (i : Fin 64) (c : Fin 128), w1 (ix2 i c) = W 1 i c)
    (h2 : ∀ (i : Fin 64) (c : Fin 128), w2 (ix2 i c) = W 2 i c) (g0 : ∀ c : Fin 128, b0 (ix2 0 c) = B 0 c)
    (g1 : ∀ c : Fin 128, b1 (ix2 0 c) = B 1 c) (g2 : ∀ c : Fin 128, b2 (ix2 0 c) = B 2 c)
    (n : Fin 3072) (j : Fin 384) :
    k1_pay13 c1 c2 i2 c3 i3 z s w0 b0 w1 b1 w2 b2 (ix2 n j) = layer h W B n j := by
  rw [layer_eq]
  pointwise [k1_pay13]
  refine congrArg (max · (0 : EReal)) ?_
  by_cases q1 : j.val < 128
  · rw [dif_pos q1, dif_pos q1]
    refine Ideal.add_congr (Finset.sum_congr rfl fun i _ => Ideal.mul_congr ?_ (h0 i _)) (g0 _)
    rw [hs, hz, e1]
    exact first (fun n => h n i) n
  · rw [dif_neg q1, dif_neg q1]
    by_cases q2 : j.val - 128 < 128
    · rw [dif_pos q2, dif_pos q2]
      refine Ideal.add_congr (Finset.sum_congr rfl fun i _ => Ideal.mul_congr ?_ (h1 i _)) (g1 _)
      rw [hs, hz, e2, e3]
      exact second (fun n => h n i) n
    · rw [dif_neg q2, dif_neg q2]
      refine Ideal.add_congr (Finset.sum_congr rfl fun i _ => Ideal.mul_congr ?_ (h2 i _)) (g2 _)
      rw [hs, hz, e4, e5]
      exact third (fun n => h n i) n

/-- The second layer. -/
theorem pay18_apply (c3 i3 : FVec Ideal S3072x1 .f32) (z s a1 cs bi : FVec Ideal S3072x384 .f32)
    (w0 w1 w2 : Vec Ideal S384x128 .f32) (b0 b1 b2 : Vec Ideal S1x128 .f32)
    (h : Fin 3072 → Fin 384 → ℝ) (W : Fin 3 → Fin 384 → Fin 128 → EReal) (B : Fin 3 → Fin 128 → EReal)
    (e4 : ∀ (n : Fin 3072) (i : Fin 1), c3 (ix2 n i) = ((111 / 1331 : ℝ) : EReal))
    (e5 : ∀ (n : Fin 3072) (i : Fin 1), i3 (ix2 n i) = ((1 / 1331 : ℝ) : EReal))
    (hz : ∀ (n : Fin 3072) (j : Fin 384), z (ix2 n j) = (h n j : EReal))
    (hs : ∀ (n : Fin 3072) (j : Fin 384), s (ix2 n j) = (whole (fun n => h n j) n : EReal))
    (ha : ∀ (n : Fin 3072) (j : Fin 384), a1 (ix2 n j) = (hop (fun n => h n j) 0 n : EReal))
    (hc : ∀ (n : Fin 3072) (j : Fin 384), cs (ix2 n j) = (((10 / 121 : ℝ) : EReal) * (whole (fun n => h n j) n : EReal) : EReal))
    (hb : ∀ (n : Fin 3072) (j : Fin 384), bi (ix2 n j) = ((1 / 121 : ℝ) : EReal))
    (h0 : ∀ (i : Fin 384) (c : Fin 128), w0 (ix2 i c) = W 0 i c) (h1 : ∀ (i : Fin 384) (c : Fin 128), w1 (ix2 i c) = W 1 i c)
    (h2 : ∀ (i : Fin 384) (c : Fin 128), w2 (ix2 i c) = W 2 i c) (g0 : ∀ c : Fin 128, b0 (ix2 0 c) = B 0 c)
    (g1 : ∀ c : Fin 128, b1 (ix2 0 c) = B 1 c) (g2 : ∀ c : Fin 128, b2 (ix2 0 c) = B 2 c)
    (n : Fin 3072) (j : Fin 384) :
    k1_pay18 c3 i3 z s a1 cs bi w0 b0 w1 b1 w2 b2 (ix2 n j) = layer h W B n j := by
  rw [layer_eq]
  pointwise [k1_pay18]
  refine congrArg (max · (0 : EReal)) ?_
  by_cases q1 : j.val < 128
  · rw [dif_pos q1, dif_pos q1]
    exact Ideal.add_congr (Finset.sum_congr rfl fun i _ => Ideal.mul_congr (ha n i) (h0 i _)) (g0 _)
  · rw [dif_neg q1, dif_neg q1]
    by_cases q2 : j.val - 128 < 128
    · rw [dif_pos q2, dif_pos q2]
      refine Ideal.add_congr (Finset.sum_congr rfl fun i _ => Ideal.mul_congr ?_ (h1 i _)) (g1 _)
      rw [hc, hb, hz]
      exact second (fun n => h n i) n
    · rw [dif_neg q2, dif_neg q2]
      refine Ideal.add_congr (Finset.sum_congr rfl fun i _ => Ideal.mul_congr ?_ (h2 i _)) (g2 _)
      rw [hs, hz, e4, e5]
      exact third (fun n => h n i) n

/-- The third layer, its graph means, and those less their mean over the columns. -/
theorem pay24_apply (a : FVec Ideal S256x3072 .f32) (k : FVec Ideal S256x1 .f32) (a1 a2 s z : FVec Ideal S3072x384 .f32)
    (w0 w1 w2 : Vec Ideal S384x128 .f32) (b0 b1 b2 : Vec Ideal S1x128 .f32)
    (h : Fin 3072 → Fin 384 → ℝ) (W : Fin 3 → Fin 384 → Fin 128 → EReal) (B : Fin 3 → Fin 128 → EReal)
    (ha : ∀ (g : Fin 256) (n : Fin 3072), a (ix2 g n) = (if n.val / 12 = g.val then 1 else 0 : EReal))
    (hk : ∀ (g : Fin 256) (i : Fin 1), k (ix2 g i) = ((12 : ℝ) : EReal))
    (hz : ∀ (n : Fin 3072) (j : Fin 384), z (ix2 n j) = (((1 / 1331 : ℝ) : EReal) * (h n j : EReal) : EReal))
    (hs : ∀ (n : Fin 3072) (j : Fin 384), s (ix2 n j) = (((111 / 1331 : ℝ) : EReal) * (whole (fun n => h n j) n : EReal) : EReal))
    (h1' : ∀ (n : Fin 3072) (j : Fin 384), a1 (ix2 n j) = (hop (fun n => h n j) 0 n : EReal))
    (h2' : ∀ (n : Fin 3072) (j : Fin 384), a2 (ix2 n j) = (hop (fun n => h n j) 1 n : EReal))
    (h0 : ∀ (i : Fin 384) (c : Fin 128), w0 (ix2 i c) = W 0 i c) (h1 : ∀ (i : Fin 384) (c : Fin 128), w1 (ix2 i c) = W 1 i c)
    (h2 : ∀ (i : Fin 384) (c : Fin 128), w2 (ix2 i c) = W 2 i c) (g0 : ∀ c : Fin 128, b0 (ix2 0 c) = B 0 c)
    (g1 : ∀ c : Fin 128, b1 (ix2 0 c) = B 1 c) (g2 : ∀ c : Fin 128, b2 (ix2 0 c) = B 2 c)
    (g : Fin 256) (j : Fin 384) :
    k1_pay24 a k a1 a2 s z w0 b0 w1 b1 w2 b2 (ix2 g j) = centred (graphMean (layer h W B)) g j := by
  have third_layer : ∀ (n : Fin 3072) (j : Fin 384),
      max (if q : j.val < 128 then (∑ i : Fin 384, a1 (ix2 n i) * w0 (ix2 i ⟨j.val, q⟩)) + b0 (ix2 0 ⟨j.val, q⟩)
        else if q : j.val - 128 < 128 then (∑ i : Fin 384, a2 (ix2 n i) * w1 (ix2 i ⟨j.val - 128, q⟩)) + b1 (ix2 0 ⟨j.val - 128, q⟩)
        else (∑ i : Fin 384, (s (ix2 n i) - z (ix2 n i)) * w2 (ix2 i ⟨j.val - 128 - 128, by omega⟩))
          + b2 (ix2 0 ⟨j.val - 128 - 128, by omega⟩) : EReal) 0 = layer h W B n j := by
    intro n j
    rw [layer_eq]
    refine congrArg (max · (0 : EReal)) ?_
    by_cases q1 : j.val < 128
    · rw [dif_pos q1, dif_pos q1]
      exact Ideal.add_congr (Finset.sum_congr rfl fun i _ => Ideal.mul_congr (h1' n i) (h0 i _)) (g0 _)
    · rw [dif_neg q1, dif_neg q1]
      by_cases q2 : j.val - 128 < 128
      · rw [dif_pos q2, dif_pos q2]
        exact Ideal.add_congr (Finset.sum_congr rfl fun i _ => Ideal.mul_congr (h2' n i) (h1 i _)) (g1 _)
      · rw [dif_neg q2, dif_neg q2]
        refine Ideal.add_congr (Finset.sum_congr rfl fun i _ => Ideal.mul_congr ?_ (h2 i _)) (g2 _)
        rw [hs, hz]
        exact third (fun n => h n i) n
  have mean : ∀ j : Fin 384, Ideal.div (∑ n : Fin 3072, a (ix2 g n) *
      max (if q : j.val < 128 then (∑ i : Fin 384, a1 (ix2 n i) * w0 (ix2 i ⟨j.val, q⟩)) + b0 (ix2 0 ⟨j.val, q⟩)
        else if q : j.val - 128 < 128 then (∑ i : Fin 384, a2 (ix2 n i) * w1 (ix2 i ⟨j.val - 128, q⟩)) + b1 (ix2 0 ⟨j.val - 128, q⟩)
        else (∑ i : Fin 384, (s (ix2 n i) - z (ix2 n i)) * w2 (ix2 i ⟨j.val - 128 - 128, by omega⟩))
          + b2 (ix2 0 ⟨j.val - 128 - 128, by omega⟩) : EReal) 0) (k (ix2 g 0)) = graphMean (layer h W B) g j := by
    intro j
    rw [hk]
    refine congrArg (Ideal.div · _) ?_
    refine (Finset.sum_congr rfl fun n _ => Ideal.mul_congr (ha g n) (third_layer n j)).trans ?_
    exact sum_graph (fun n => layer h W B n j) g
  pointwise [k1_pay24]
  refine congrArg₂ (fun x y : EReal => x - y) (mean j) (congrArg (Ideal.div · cols) (Finset.sum_congr rfl fun i _ => mean i))

/-- The mean square of the centred means, a little above zero. -/
theorem pay25_apply (a : FVec Ideal S256x3072 .f32) (k : FVec Ideal S256x1 .f32) (a1 a2 s z : FVec Ideal S3072x384 .f32)
    (w0 w1 w2 : Vec Ideal S384x128 .f32) (b0 b1 b2 : Vec Ideal S1x128 .f32) (G : Fin 256 → Fin 384 → EReal)
    (hG : ∀ (g : Fin 256) (j : Fin 384), k1_pay24 a k a1 a2 s z w0 b0 w1 b1 w2 b2 (ix2 g j) = centred G g j)
    (g : Fin 256) (i : Fin 1) :
    k1_pay25 a k a1 a2 s z w0 b0 w1 b1 w2 b2 (ix2 g i) = scatter G g := by
  unfold k1_pay25
  revert hG
  generalize k1_pay24 a k a1 a2 s z w0 b0 w1 b1 w2 b2 = d
  intro hG
  pointwise
  simp only [hG]
  rfl

/-! ## After the layers -/

theorem cols_eq : cols = ((384 : ℝ) : EReal) := by
  unfold cols
  simp [Ideal.ofBits, Ideal.ieee]
  rw [← EReal.coe_mul]
  norm_num

theorem eps_pos : 0 < eps := by
  unfold eps
  simp [Ideal.ofBits, Ideal.ieee]
  rw [← EReal.coe_mul, ← EReal.coe_zero, EReal.coe_lt_coe_iff]
  norm_num

theorem sq_nonneg (x : EReal) : 0 ≤ x * x := by
  rcases le_total 0 x with h | h
  · exact mul_nonneg h h
  · have : 0 ≤ -x := by simpa using h
    have := mul_nonneg this this
    simpa using this

theorem scatter_pos (G : Fin 256 → Fin 384 → EReal) (g : Fin 256) : 0 < scatter G g := by
  unfold scatter
  rw [cols_eq, Ideal.div_coe (by norm_num)]
  refine lt_of_lt_of_le eps_pos (le_add_of_nonneg_left (mul_nonneg (Finset.sum_nonneg fun j _ => sq_nonneg _) ?_))
  rw [← EReal.coe_zero]
  refine EReal.coe_le_coe_iff.mpr ?_
  norm_num

/-- Over a positive number, multiplying by the reciprocal root is dividing by the root. -/
theorem mul_rsqrt (d v : EReal) (hv : 0 < v) : d * Ideal.rsqrt v = Ideal.div d (Ideal.sqrt v) := by
  induction v using EReal.rec with
  | bot => exact absurd hv (by simp)
  | top => simp [Ideal.div]
  | coe r =>
    have hr : 0 < r := by exact_mod_cast hv
    have hs : Real.sqrt r ≠ 0 := (Real.sqrt_pos.mpr hr).ne'
    rw [Ideal.sqrt_coe, if_neg (not_lt.mpr hr.le), Ideal.div_coe hs, Ideal.rsqrt_coe, if_neg (not_lt.mpr hr.le), if_neg hr.ne', one_div]

/-- What stands after the layers. -/
theorem pay1_apply (d : FVec Ideal S256x384 .f32) (v : FVec Ideal S256x1 .f32) (γ β : Vec Ideal S1x384 .f32)
    (fa : Vec Ideal S384x128 .f32) (x : Vec Ideal S256x32 .f32) (fb : Vec Ideal S32x128 .f32) (b : Vec Ideal S1x128 .f32)
    (f2 : Vec Ideal S128x5 .f32) (b2 : Vec Ideal S1x5 .f32) (G : Fin 256 → Fin 384 → EReal) (Γ B : Fin 384 → EReal)
    (side : Fin 256 → Fin 32 → EReal) (w₁ : Fin 416 → Fin 128 → EReal) (b₁ : Fin 128 → EReal) (w₂ : Fin 128 → Fin 5 → EReal) (b₂ : Fin 5 → EReal)
    (hd : ∀ (g : Fin 256) (j : Fin 384), d (ix2 g j) = centred G g j) (hv : ∀ (g : Fin 256) (i : Fin 1), v (ix2 g i) = scatter G g)
    (hγ : ∀ j : Fin 384, γ (ix2 0 j) = Γ j) (hβ : ∀ j : Fin 384, β (ix2 0 j) = B j)
    (hfa : ∀ (j : Fin 384) (c : Fin 128), fa (ix2 j c) = w₁ ⟨j.val, by omega⟩ c)
    (hx : ∀ (g : Fin 256) (k : Fin 32), x (ix2 g k) = side g k)
    (hfb : ∀ (k : Fin 32) (c : Fin 128), fb (ix2 k c) = w₁ ⟨384 + k.val, by omega⟩ c)
    (hb : ∀ c : Fin 128, b (ix2 0 c) = b₁ c) (hf2 : ∀ (c : Fin 128) (o : Fin 5), f2 (ix2 c o) = w₂ c o)
    (hb2 : ∀ o : Fin 5, b2 (ix2 0 o) = b₂ o) (g : Fin 256) (o : Fin 5) :
    k1_pay1 d v γ β fa x fb b f2 b2 (ix2 g o) = head (normed G Γ B) side w₁ b₁ w₂ b₂ g o := by
  pointwise [k1_pay1]
  refine Ideal.add_congr (Finset.sum_congr rfl fun c _ => Ideal.mul_congr (congrArg (max · (0 : EReal)) (Ideal.add_congr (Ideal.add_congr
    (Finset.sum_congr rfl fun j _ => Ideal.mul_congr ?_ (hfa j c)) (Finset.sum_congr rfl fun k _ => Ideal.mul_congr (hx g k) (hfb k c))) (hb c))) (hf2 c o)) (hb2 o)
  rw [hd, hv, hγ, hβ, mul_rsqrt _ _ (scatter_pos G g)]
  rfl

end Cert.KernelIdeal.Graph

end
-- ==== Proof.Graph15.lean ====
/- What the graph launch keeps between its layers: each hop of the features, or a part of one, over all nodes. -/
module

public import proofs.«01_k».proof.Proof.Graph1

@[expose] public section

set_option maxRecDepth 16384

noncomputable section

namespace Cert.KernelIdeal.Graph

open Idealize.ShloMosaic Idealize.ShloMosaic.TcCoe Cert.KernelIdeal.Gen Cert.Spec

variable (a : FVec Ideal S256x3072 .f32) (r : FVec Ideal S3072x256 .f32) (c1 c2 i2 c3 i3 : FVec Ideal S3072x1 .f32)
  (x y : FVec Ideal S3072x64 .f32) (z s u v w : FVec Ideal S3072x384 .f32)
  (w0 w1 w2 : Vec Ideal S64x128 .f32) (W0 W1 W2 : Vec Ideal S384x128 .f32) (b0 b1 b2 : Vec Ideal S1x128 .f32) (h : Fin 3072 → Fin 384 → ℝ)

/-- The first hop of the second layer. -/
theorem pay15_apply (e1 : ∀ (n : Fin 3072) (i : Fin 1), c1 (ix2 n i) = ((1 / 11 : ℝ) : EReal)) (hz : ∀ (n : Fin 3072) (j : Fin 384), k1_pay13 c1 c2 i2 c3 i3 x y w0 b0 w1 b1 w2 b2 (ix2 n j) = (h n j : EReal)) (hs : ∀ (n : Fin 3072) (j : Fin 384), k1_pay14 a r c1 c2 i2 c3 i3 x y w0 b0 w1 b1 w2 b2 (ix2 n j) = (whole (fun n => h n j) n : EReal)) (n : Fin 3072) (j : Fin 384) :
    k1_pay15 a r c1 c2 i2 c3 i3 x y w0 b0 w1 b1 w2 b2 (ix2 n j) = (hop (fun n => h n j) 0 n : EReal) := by
  unfold k1_pay15
  revert hz hs
  generalize k1_pay14 a r c1 c2 i2 c3 i3 x y w0 b0 w1 b1 w2 b2 = d
  generalize k1_pay13 c1 c2 i2 c3 i3 x y w0 b0 w1 b1 w2 b2 = e
  intro hz hs
  pointwise
  rw [hs, hz, e1]
  exact first (fun n => h n j) n

/-- The larger part of the second hop of the second layer. -/
theorem pay16_apply (e2 : ∀ (n : Fin 3072) (i : Fin 1), c2 (ix2 n i) = ((10 / 121 : ℝ) : EReal)) (hs : ∀ (n : Fin 3072) (j : Fin 384), k1_pay14 a r c1 c2 i2 c3 i3 x y w0 b0 w1 b1 w2 b2 (ix2 n j) = (whole (fun n => h n j) n : EReal)) (n : Fin 3072) (j : Fin 384) :
    k1_pay16 a r c1 c2 i2 c3 i3 x y w0 b0 w1 b1 w2 b2 (ix2 n j) = (((10 / 121 : ℝ) : EReal) * ((whole (fun n => h n j) n : ℝ) : EReal) : EReal) := by
  unfold k1_pay16
  revert hs
  generalize k1_pay14 a r c1 c2 i2 c3 i3 x y w0 b0 w1 b1 w2 b2 = d
  intro hs
  pointwise
  rw [hs, e2]

/-- The weight of a node's own features in the second hop. -/
theorem pay17_apply (e3 : ∀ (n : Fin 3072) (i : Fin 1), i2 (ix2 n i) = ((1 / 121 : ℝ) : EReal)) (n : Fin 3072) (j : Fin 384) :
    k1_pay17 i2 (ix2 n j) = (((1 / 121 : ℝ) : EReal) : EReal) := by
  unfold k1_pay17
  pointwise
  exact e3 n 0

/-- The first hop of the third layer. -/
theorem pay20_apply (e1 : ∀ (n : Fin 3072) (i : Fin 1), c1 (ix2 n i) = ((1 / 11 : ℝ) : EReal)) (hz : ∀ (n : Fin 3072) (j : Fin 384), k1_pay18 c3 i3 z s u v w W0 b0 W1 b1 W2 b2 (ix2 n j) = (h n j : EReal)) (hs : ∀ (n : Fin 3072) (j : Fin 384), k1_pay19 a r c3 i3 z s u v w W0 b0 W1 b1 W2 b2 (ix2 n j) = (whole (fun n => h n j) n : EReal)) (n : Fin 3072) (j : Fin 384) :
    k1_pay20 a r c1 c3 i3 z s u v w W0 b0 W1 b1 W2 b2 (ix2 n j) = (hop (fun n => h n j) 0 n : EReal) := by
  unfold k1_pay20
  revert hz hs
  generalize k1_pay19 a r c3 i3 z s u v w W0 b0 W1 b1 W2 b2 = d
  generalize k1_pay18 c3 i3 z s u v w W0 b0 W1 b1 W2 b2 = e
  intro hz hs
  pointwise
  rw [hs, hz, e1]
  exact first (fun n => h n j) n

/-- The second hop of the third layer. -/
theorem pay21_apply (e2 : ∀ (n : Fin 3072) (i : Fin 1), c2 (ix2 n i) = ((10 / 121 : ℝ) : EReal)) (e3 : ∀ (n : Fin 3072) (i : Fin 1), i2 (ix2 n i) = ((1 / 121 : ℝ) : EReal)) (hz : ∀ (n : Fin 3072) (j : Fin 384), k1_pay18 c3 i3 z s u v w W0 b0 W1 b1 W2 b2 (ix2 n j) = (h n j : EReal)) (hs : ∀ (n : Fin 3072) (j : Fin 384), k1_pay19 a r c3 i3 z s u v w W0 b0 W1 b1 W2 b2 (ix2 n j) = (whole (fun n => h n j) n : EReal)) (n : Fin 3072) (j : Fin 384) :
    k1_pay21 a r c2 i2 c3 i3 z s u v w W0 b0 W1 b1 W2 b2 (ix2 n j) = (hop (fun n => h n j) 1 n : EReal) := by
  unfold k1_pay21
  revert hz hs
  generalize k1_pay19 a r c3 i3 z s u v w W0 b0 W1 b1 W2 b2 = d
  generalize k1_pay18 c3 i3 z s u v w W0 b0 W1 b1 W2 b2 = e
  intro hz hs
  pointwise
  rw [hs, hz, e2, e3]
  exact second (fun n => h n j) n

/-- The larger part of the third hop of the third layer. -/
theorem pay22_apply (e4 : ∀ (n : Fin 3072) (i : Fin 1), c3 (ix2 n i) = ((111 / 1331 : ℝ) : EReal)) (hs : ∀ (n : Fin 3072) (j : Fin 384), k1_pay19 a r c3 i3 z s u v w W0 b0 W1 b1 W2 b2 (ix2 n j) = (whole (fun n => h n j) n : EReal)) (n : Fin 3072) (j : Fin 384) :
    k1_pay22 a r c3 i3 z s u v w W0 b0 W1 b1 W2 b2 (ix2 n j) = (((111 / 1331 : ℝ) : EReal) * ((whole (fun n => h n j) n : ℝ) : EReal) : EReal) := by
  unfold k1_pay22
  revert hs
  generalize k1_pay19 a r c3 i3 z s u v w W0 b0 W1 b1 W2 b2 = d
  intro hs
  pointwise
  rw [hs, e4]

/-- The smaller part of the third hop of the third layer. -/
theorem pay23_apply (e5 : ∀ (n : Fin 3072) (i : Fin 1), i3 (ix2 n i) = ((1 / 1331 : ℝ) : EReal)) (hz : ∀ (n : Fin 3072) (j : Fin 384), k1_pay18 c3 i3 z s u v w W0 b0 W1 b1 W2 b2 (ix2 n j) = (h n j : EReal)) (n : Fin 3072) (j : Fin 384) :
    k1_pay23 c3 i3 z s u v w W0 b0 W1 b1 W2 b2 (ix2 n j) = (((1 / 1331 : ℝ) : EReal) * (h n j : EReal) : EReal) := by
  unfold k1_pay23
  revert hz
  generalize k1_pay18 c3 i3 z s u v w W0 b0 W1 b1 W2 b2 = d
  intro hz
  pointwise
  rw [hz, e5]

end Cert.KernelIdeal.Graph

end
-- ==== Proof.Graph2.lean ====
/- The graph launch's result: the network after the encoder, over real node features. -/
module

public import proofs.«01_k».proof.Proof.Graph15

@[expose] public section

set_option maxRecDepth 16384

noncomputable section

namespace Cert.KernelIdeal.Graph

open Idealize.ShloMosaic Idealize.ShloMosaic.TcCoe Cert.KernelIdeal.Gen Cert.Spec

/-! ## The slabs of the weights -/

theorem slab_r1_3 (x : Vec Ideal S192x128 .f32) (W : Fin 3 → Fin 64 → Fin 128 → EReal)
    (e : ∀ (r : Fin 192) (c : Fin 128), x (ix2 r c) = W ⟨r.val / 64, by omega⟩ ⟨r.val % 64, by omega⟩ c) (i : Fin 64) (c : Fin 128) :
    View.ld x r1_3 (ix2 i c) = W 0 i c := by
  refine (View.ld_unit_apply_of x _ _ _ _ (ix2 ⟨0 + i.val, by omega⟩ c) (Fin.forall_fin_two.mpr ⟨rfl, (Nat.zero_add _).symm⟩)).trans ?_
  rw [e]
  refine congrArg₂ (fun p i => W p i c) (Fin.ext ?_) (Fin.ext ?_)
  · show (0 + i.val) / 64 = 0
    omega
  · show (0 + i.val) % 64 = i.val
    omega

theorem slab_r1_5 (x : Vec Ideal S192x128 .f32) (W : Fin 3 → Fin 64 → Fin 128 → EReal)
    (e : ∀ (r : Fin 192) (c : Fin 128), x (ix2 r c) = W ⟨r.val / 64, by omega⟩ ⟨r.val % 64, by omega⟩ c) (i : Fin 64) (c : Fin 128) :
    View.ld x r1_5 (ix2 i c) = W 1 i c := by
  refine (View.ld_unit_apply_of x _ _ _ _ (ix2 ⟨64 + i.val, by omega⟩ c) (Fin.forall_fin_two.mpr ⟨rfl, (Nat.zero_add _).symm⟩)).trans ?_
  rw [e]
  refine congrArg₂ (fun p i => W p i c) (Fin.ext ?_) (Fin.ext ?_)
  · show (64 + i.val) / 64 = 1
    omega
  · show (64 + i.val) % 64 = i.val
    omega

theorem slab_r1_7 (x : Vec Ideal S192x128 .f32) (W : Fin 3 → Fin 64 → Fin 128 → EReal)
    (e : ∀ (r : Fin 192) (c : Fin 128), x (ix2 r c) = W ⟨r.val / 64, by omega⟩ ⟨r.val % 64, by omega⟩ c) (i : Fin 64) (c : Fin 128) :
    View.ld x r1_7 (ix2 i c) = W 2 i c := by
  refine (View.ld_unit_apply_of x _ _ _ _ (ix2 ⟨128 + i.val, by omega⟩ c) (Fin.forall_fin_two.mpr ⟨rfl, (Nat.zero_add _).symm⟩)).trans ?_
  rw [e]
  refine congrArg₂ (fun p i => W p i c) (Fin.ext ?_) (Fin.ext ?_)
  · show (128 + i.val) / 64 = 2
    omega
  · show (128 + i.val) % 64 = i.val
    omega

theorem slab_r1_9 (x : Vec Ideal S1152x128 .f32) (W : Fin 3 → Fin 384 → Fin 128 → EReal)
    (e : ∀ (r : Fin 1152) (c : Fin 128), x (ix2 r c) = W ⟨r.val / 384, by omega⟩ ⟨r.val % 384, by omega⟩ c) (i : Fin 384) (c : Fin 128) :
    View.ld x r1_9 (ix2 i c) = W 0 i c := by
  refine (View.ld_unit_apply_of x _ _ _ _ (ix2 ⟨0 + i.val, by omega⟩ c) (Fin.forall_fin_two.mpr ⟨rfl, (Nat.zero_add _).symm⟩)).trans ?_
  rw [e]
  refine congrArg₂ (fun p i => W p i c) (Fin.ext ?_) (Fin.ext ?_)
  · show (0 + i.val) / 384 = 0
    omega
  · show (0 + i.val) % 384 = i.val
    omega

theorem slab_r1_10 (x : Vec Ideal S1152x128 .f32) (W : Fin 3 → Fin 384 → Fin 128 → EReal)
    (e : ∀ (r : Fin 1152) (c : Fin 128), x (ix2 r c) = W ⟨r.val / 384, by omega⟩ ⟨r.val % 384, by omega⟩ c) (i : Fin 384) (c : Fin 128) :
    View.ld x r1_10 (ix2 i c) = W 1 i c := by
  refine (View.ld_unit_apply_of x _ _ _ _ (ix2 ⟨384 + i.val, by omega⟩ c) (Fin.forall_fin_two.mpr ⟨rfl, (Nat.zero_add _).symm⟩)).trans ?_
  rw [e]
  refine congrArg₂ (fun p i => W p i c) (Fin.ext ?_) (Fin.ext ?_)
  · show (384 + i.val) / 384 = 1
    omega
  · show (384 + i.val) % 384 = i.val
    omega

theorem slab_r1_11 (x : Vec Ideal S1152x128 .f32) (W : Fin 3 → Fin 384 → Fin 128 → EReal)
    (e : ∀ (r : Fin 1152) (c : Fin 128), x (ix2 r c) = W ⟨r.val / 384, by omega⟩ ⟨r.val % 384, by omega⟩ c) (i : Fin 384) (c : Fin 128) :
    View.ld x r1_11 (ix2 i c) = W 2 i c := by
  refine (View.ld_unit_apply_of x _ _ _ _ (ix2 ⟨768 + i.val, by omega⟩ c) (Fin.forall_fin_two.mpr ⟨rfl, (Nat.zero_add _).symm⟩)).trans ?_
  rw [e]
  refine congrArg₂ (fun p i => W p i c) (Fin.ext ?_) (Fin.ext ?_)
  · show (768 + i.val) / 384 = 2
    omega
  · show (768 + i.val) % 384 = i.val
    omega

theorem slab_r1_4 (x : Vec Ideal S3x128 .f32) (B : Fin 3 → Fin 128 → EReal)
    (e : ∀ (p : Fin 3) (c : Fin 128), x (ix2 p c) = B p c) (c : Fin 128) : View.ld x r1_4 (ix2 0 c) = B 0 c := by
  refine (View.ld_unit_apply_of x _ _ _ _ (ix2 0 c) (Fin.forall_fin_two.mpr ⟨rfl, (Nat.zero_add _).symm⟩)).trans ?_
  exact e 0 c

theorem slab_r1_6 (x : Vec Ideal S3x128 .f32) (B : Fin 3 → Fin 128 → EReal)
    (e : ∀ (p : Fin 3) (c : Fin 128), x (ix2 p c) = B p c) (c : Fin 128) : View.ld x r1_6 (ix2 0 c) = B 1 c := by
  refine (View.ld_unit_apply_of x _ _ _ _ (ix2 1 c) (Fin.forall_fin_two.mpr ⟨rfl, (Nat.zero_add _).symm⟩)).trans ?_
  exact e 1 c

theorem slab_r1_8 (x : Vec Ideal S3x128 .f32) (B : Fin 3 → Fin 128 → EReal)
    (e : ∀ (p : Fin 3) (c : Fin 128), x (ix2 p c) = B p c) (c : Fin 128) : View.ld x r1_8 (ix2 0 c) = B 2 c := by
  refine (View.ld_unit_apply_of x _ _ _ _ (ix2 2 c) (Fin.forall_fin_two.mpr ⟨rfl, (Nat.zero_add _).symm⟩)).trans ?_
  exact e 2 c

/-! ## The whole launch -/

set_option maxHeartbeats 2000000 in
/-- The launch over its operand blocks, where the graphs are twelve nodes each and the features before each layer are real. -/
theorem block (x0 : Vec Ideal S3072x64 .f32) (x1 : Vec Ideal S256x32 .f32) (x2 : Vec Ideal S1x3072 .i32) (x3 : Vec Ideal S3072x1 .i32)
    (x4 : Vec Ideal S192x128 .f32) (x5 : Vec Ideal S3x128 .f32) (x6 : Vec Ideal S1152x128 .f32) (x7 : Vec Ideal S3x128 .f32)
    (x8 : Vec Ideal S1152x128 .f32) (x9 : Vec Ideal S3x128 .f32) (x10 x11 : Vec Ideal S1x384 .f32) (x12 : Vec Ideal S384x128 .f32)
    (x13 : Vec Ideal S32x128 .f32) (x14 : Vec Ideal S1x128 .f32) (x15 : Vec Ideal S128x5 .f32) (x16 : Vec Ideal S1x5 .f32)
    (h : Fin 3072 → Fin 64 → ℝ) (h1 h2 : Fin 3072 → Fin 384 → ℝ)
    (W1 : Fin 3 → Fin 64 → Fin 128 → EReal) (W2 W3 : Fin 3 → Fin 384 → Fin 128 → EReal) (B1 B2 B3 : Fin 3 → Fin 128 → EReal)
    (Γ B : Fin 384 → EReal) (side : Fin 256 → Fin 32 → EReal) (w₁ : Fin 416 → Fin 128 → EReal) (b₁ : Fin 128 → EReal)
    (w₂ : Fin 128 → Fin 5 → EReal) (b₂ : Fin 5 → EReal)
    (e0 : ∀ (n : Fin 3072) (j : Fin 64), x0 (ix2 n j) = (h n j : EReal))
    (e1 : ∀ (g : Fin 256) (k : Fin 32), x1 (ix2 g k) = side g k)
    (e2 : ∀ n : Fin 3072, x2 (ix2 0 n) = BitVec.ofNat 32 (n.val / 12))
    (e3 : ∀ n : Fin 3072, x3 (ix2 n 0) = BitVec.ofNat 32 (n.val / 12))
    (e4 : ∀ (r : Fin 192) (c : Fin 128), x4 (ix2 r c) = W1 ⟨r.val / 64, by omega⟩ ⟨r.val % 64, by omega⟩ c)
    (e5 : ∀ (p : Fin 3) (c : Fin 128), x5 (ix2 p c) = B1 p c)
    (e6 : ∀ (r : Fin 1152) (c : Fin 128), x6 (ix2 r c) = W2 ⟨r.val / 384, by omega⟩ ⟨r.val % 384, by omega⟩ c)
    (e7 : ∀ (p : Fin 3) (c : Fin 128), x7 (ix2 p c) = B2 p c)
    (e8 : ∀ (r : Fin 1152) (c : Fin 128), x8 (ix2 r c) = W3 ⟨r.val / 384, by omega⟩ ⟨r.val % 384, by omega⟩ c)
    (e9 : ∀ (p : Fin 3) (c : Fin 128), x9 (ix2 p c) = B3 p c)
    (e10 : ∀ j : Fin 384, x10 (ix2 0 j) = Γ j) (e11 : ∀ j : Fin 384, x11 (ix2 0 j) = B j)
    (e12 : ∀ (j : Fin 384) (c : Fin 128), x12 (ix2 j c) = w₁ ⟨j.val, by omega⟩ c)
    (e13 : ∀ (k : Fin 32) (c : Fin 128), x13 (ix2 k c) = w₁ ⟨384 + k.val, by omega⟩ c)
    (e14 : ∀ c : Fin 128, x14 (ix2 0 c) = b₁ c) (e15 : ∀ (c : Fin 128) (o : Fin 5), x15 (ix2 c o) = w₂ c o)
    (e16 : ∀ o : Fin 5, x16 (ix2 0 o) = b₂ o)
    (r1 : ∀ (n : Fin 3072) (j : Fin 384), layer h W1 B1 n j = (h1 n j : EReal))
    (r2 : ∀ (n : Fin 3072) (j : Fin 384), layer h1 W2 B2 n j = (h2 n j : EReal)) (g : Fin 256) (o : Fin 5) :
    out1_17 x0 x1 x2 x3 x4 x5 x6 x7 x8 x9 x10 x11 x12 x13 x14 x15 x16 (ix2 g o)
      = head (normed (graphMean (layer h2 W3 B3)) Γ B) side w₁ b₁ w₂ b₂ g o := by
  have p2 := pay2_apply x2 e2
  have p3 := pay3_apply x3 e3
  have p4 := pay4_apply x2 e2
  have p6 := pay6_apply x2 x3 e2 e3
  have p7 := pay7_apply x2 x3 e2 e3
  have p8 := pay8_apply x2 x3 e2 e3
  have p9 := pay9_apply x2 x3 e2 e3
  have p10 := pay10_apply x2 x3 e2 e3
  have p11 : ∀ (n : Fin 3072) (j : Fin 64), k1_pay11 x0 (ix2 n j) = (h n j : EReal) := fun n j => (pay11_apply x0 n j).trans (e0 n j)
  have p12 := pay12_apply x2 x3 x0 h e2 e3 e0
  have p13 := fun n j => (pay13_apply _ _ _ _ _ _ _ _ _ _ _ _ _ h W1 B1 p6 p7 p8 p9 p10 p11 p12 (slab_r1_3 x4 W1 e4) (slab_r1_5 x4 W1 e4)
    (slab_r1_7 x4 W1 e4) (slab_r1_4 x5 B1 e5) (slab_r1_6 x5 B1 e5) (slab_r1_8 x5 B1 e5) n j).trans (r1 n j)
  have p14 := pay14_apply _ _ _ _ _ _ _ _ _ _ _ _ _ _ _ h1 p2 p3 p13
  have p15 := pay15_apply _ _ _ _ _ _ _ _ _ _ _ _ _ _ _ h1 p6 p13 p14
  have p16 := pay16_apply _ _ _ _ _ _ _ _ _ _ _ _ _ _ _ h1 p7 p14
  have p17 := pay17_apply _ p8
  have s0 := slab_r1_9 x6 W2 e6
  have s1 := slab_r1_10 x6 W2 e6
  have s2 := slab_r1_11 x6 W2 e6
  have p18 := fun n j => (pay18_apply _ _ _ _ _ _ _ _ _ _ _ _ _ h1 W2 B2 p9 p10 p13 p14 p15 p16 p17 s0 s1 s2
    (slab_r1_4 x7 B2 e7) (slab_r1_6 x7 B2 e7) (slab_r1_8 x7 B2 e7) n j).trans (r2 n j)
  have p19 := pay19_apply _ _ _ _ _ _ _ _ _ _ _ _ _ _ _ h2 p2 p3 p18
  have p20 := pay20_apply _ _ _ _ _ _ _ _ _ _ _ _ _ _ _ _ h2 p6 p18 p19
  have p21 := pay21_apply _ _ _ _ _ _ _ _ _ _ _ _ _ _ _ _ _ h2 p7 p8 p18 p19
  have p22 := pay22_apply _ _ _ _ _ _ _ _ _ _ _ _ _ _ _ h2 p9 p19
  have p23 := pay23_apply _ _ _ _ _ _ _ _ _ _ _ _ _ h2 p10 p18
  have p24 := pay24_apply _ _ _ _ _ _ _ _ _ _ _ _ h2 W3 B3 p2 p4 p23 p22 p20 p21 (slab_r1_9 x8 W3 e8) (slab_r1_10 x8 W3 e8)
    (slab_r1_11 x8 W3 e8) (slab_r1_4 x9 B3 e9) (slab_r1_6 x9 B3 e9) (slab_r1_8 x9 B3 e9)
  have p25 := pay25_apply _ _ _ _ _ _ _ _ _ _ _ _ _ p24
  unfold_out out1_17
  frame_out
  exact pay1_apply _ _ x10 x11 x12 x1 x13 x14 x15 x16 _ Γ B side w₁ b₁ w₂ b₂ p24 p25 e10 e11 e12 e1 e13 e14 e15 e16 g o

end Cert.KernelIdeal.Graph

end
-- ==== Proof.Net.lean ====
/- The whole network as one function of its inputs, and why its node features are real numbers. -/
module

public import proofs.«01_k».proof.Proof.Spec
public import Idealize.ShloMosaic.Lib.Pointwise

@[expose] public section

set_option maxRecDepth 16384

noncomputable section

namespace Cert.Spec

open Idealize.ShloMosaic

/-- The inputs of the network that are numbers. -/
structure Net where
  x : Fin 3072 → Fin 1000 → EReal
  side : Fin 256 → Fin 32 → EReal
  cw : Fin 64 → Fin 7 → EReal
  cb : Fin 64 → EReal
  rw1 : Fin 64 → Fin 64 → Fin 3 → EReal
  rb1 : Fin 64 → EReal
  rw2 : Fin 64 → Fin 64 → Fin 3 → EReal
  rb2 : Fin 64 → EReal
  hw : Fin 64 → Fin 64 → EReal
  hb : Fin 64 → EReal
  W1 : Fin 3 → Fin 64 → Fin 128 → EReal
  B1 : Fin 3 → Fin 128 → EReal
  W2 : Fin 3 → Fin 384 → Fin 128 → EReal
  B2 : Fin 3 → Fin 128 → EReal
  W3 : Fin 3 → Fin 384 → Fin 128 → EReal
  B3 : Fin 3 → Fin 128 → EReal
  γ : Fin 384 → EReal
  β : Fin 384 → EReal
  f1 : Fin 416 → Fin 128 → EReal
  fb1 : Fin 128 → EReal
  f2 : Fin 128 → Fin 5 → EReal
  fb2 : Fin 5 → EReal

namespace Net

variable (N : Net)

/-- The node features after the encoder. -/
def feature (n : Fin 3072) (o : Fin 64) : EReal :=
  Spec.feature N.x N.cw N.cb N.rw1 N.rb1 N.rw2 N.rb2 N.hw N.hb n o

/-- The node features after the encoder, as real numbers. -/
def h (n : Fin 3072) (o : Fin 64) : ℝ := (N.feature n o).toReal

/-- The node features after the first layer, as real numbers. -/
def h1 (n : Fin 3072) (j : Fin 384) : ℝ := (layer N.h N.W1 N.B1 n j).toReal

/-- The node features after the second layer, as real numbers. -/
def h2 (n : Fin 3072) (j : Fin 384) : ℝ := (layer N.h1 N.W2 N.B2 n j).toReal

/-- The network's answer for a graph. -/
def answer (g : Fin 256) (o : Fin 5) : EReal :=
  head (normed (graphMean (layer N.h2 N.W3 N.B3)) N.γ N.β) N.side N.f1 N.fb1 N.f2 N.fb2 g o

/-- What feeds the features that the layers propagate is real. -/
structure Finite : Prop where
  x : ∀ n t, ∃ r : ℝ, N.x n t = r
  cw : ∀ c k, ∃ r : ℝ, N.cw c k = r
  cb : ∀ c, ∃ r : ℝ, N.cb c = r
  rw1 : ∀ o i k, ∃ r : ℝ, N.rw1 o i k = r
  rb1 : ∀ o, ∃ r : ℝ, N.rb1 o = r
  rw2 : ∀ o i k, ∃ r : ℝ, N.rw2 o i k = r
  rb2 : ∀ o, ∃ r : ℝ, N.rb2 o = r
  hw : ∀ i o, ∃ r : ℝ, N.hw i o = r
  hb : ∀ o, ∃ r : ℝ, N.hb o = r
  W1 : ∀ p i c, ∃ r : ℝ, N.W1 p i c = r
  B1 : ∀ p c, ∃ r : ℝ, N.B1 p c = r
  W2 : ∀ p i c, ∃ r : ℝ, N.W2 p i c = r
  B2 : ∀ p c, ∃ r : ℝ, N.B2 p c = r

end Net

/-! ## Real numbers are closed under what the network does -/

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_max {x y : EReal} (hx : ∃ r : ℝ, x = r) (hy : ∃ r : ℝ, y = r) : ∃ r : ℝ, max x y = r := by
  rcases max_choice x y with e | e
  · rw [e]
    exact hx
  · rw [e]
    exact hy

theorem real_zero : ∃ r : ℝ, (0 : EReal) = r := ⟨0, EReal.coe_zero.symm⟩

theorem real_sum {ι : Type} (s : Finset ι) (f : ι → EReal) (h : ∀ i, ∃ r : ℝ, f i = r) : ∃ r : ℝ, (∑ i ∈ s, f i) = r :=
  Finset.sum_induction f (fun x => ∃ r : ℝ, x = r) (fun _ _ => real_add) real_zero fun i _ => h i

theorem real_toReal {x : EReal} (h : ∃ r : ℝ, x = r) : x = (x.toReal : EReal) := by
  obtain ⟨r, rfl⟩ := h
  rw [EReal.toReal_coe]

theorem real_conv3 {h : ℕ → Fin 64 → EReal} {w : Fin 64 → Fin 64 → Fin 3 → EReal} {b : Fin 64 → EReal}
    (hh : ∀ u i, ∃ r : ℝ, h u i = r) (hw : ∀ o i k, ∃ r : ℝ, w o i k = r) (hb : ∀ o, ∃ r : ℝ, b o = r) (u : ℕ) (c : Fin 64) :
    ∃ r : ℝ, conv3 h w b u c = r := by
  have hp : ∀ p i, ∃ r : ℝ, padRow h p i = r := by
    intro p i
    unfold padRow
    split
    · exact hh _ _
    · exact real_zero
  exact real_add (real_add (real_add (real_sum _ _ fun i => real_mul (hp _ i) (hw c i 0))
    (real_sum _ _ fun i => real_mul (hp _ i) (hw c i 1))) (real_sum _ _ fun i => real_mul (hp _ i) (hw c i 2))) (hb c)

theorem real_layer {d : ℕ} (h : Fin 3072 → Fin d → ℝ) {w : Fin 3 → Fin d → Fin 128 → EReal} {b : Fin 3 → Fin 128 → EReal}
    (hw : ∀ p i c, ∃ r : ℝ, w p i c = r) (hb : ∀ p c, ∃ r : ℝ, b p c = r) (n : Fin 3072) (j : Fin 384) :
    ∃ r : ℝ, layer h w b n j = r :=
  real_max (real_add (real_sum _ _ fun i => real_mul ⟨_, rfl⟩ (hw _ i _)) (hb _ _)) real_zero

namespace Net

variable {N : Net}

theorem Finite.pooled (F : N.Finite) (n : Fin 3072) (u : ℕ) (c : Fin 64) : ∃ r : ℝ, Spec.pooled N.x N.cw N.cb n u c = r := by
  have hp : ∀ p, ∃ r : ℝ, xpad N.x n p = r := by
    intro p
    unfold xpad
    split
    · exact F.x n _
    · exact real_zero
  have hc : ∀ t, ∃ r : ℝ, conv1 N.x N.cw n t c = r := fun t => real_sum _ _ fun k => real_mul (hp _) (F.cw c k)
  exact real_max (real_add (real_max (real_max (hc _) (hc _)) (real_max (hc _) (hc _))) (F.cb c)) real_zero

theorem Finite.feature (F : N.Finite) (n : Fin 3072) (o : Fin 64) : N.feature n o = (N.h n o : EReal) := by
  refine real_toReal (real_max (real_add (real_sum _ _ fun i => real_mul (real_mul (real_sum _ _ fun u => ?_) ⟨_, rfl⟩) (F.hw i o)) (F.hb o)) real_zero)
  exact real_max (real_add (F.pooled n _ i) (real_conv3 (fun u i => real_max (real_conv3 (F.pooled n) F.rw1 F.rb1 u i) real_zero)
    F.rw2 F.rb2 _ i)) real_zero

theorem Finite.layer1 (F : N.Finite) (n : Fin 3072) (j : Fin 384) : layer N.h N.W1 N.B1 n j = (N.h1 n j : EReal) :=
  real_toReal (real_layer N.h F.W1 F.B1 n j)

theorem Finite.layer2 (F : N.Finite) (n : Fin 3072) (j : Fin 384) : layer N.h1 N.W2 N.B2 n j = (N.h2 n j : EReal) :=
  real_toReal (real_layer N.h1 F.W2 F.B2 n j)

end Net

end Cert.Spec

end
-- ==== Proof.Final.lean ====
/- What the whole program computes, where its nodes come in graphs of twelve and its inputs are finite. -/
module

public import proofs.«01_k».proof.Proof.KernelRun
public import proofs.«01_k».proof.Proof.Between
public import proofs.«01_k».proof.Proof.Graph2
public import proofs.«01_k».proof.Proof.Net

@[expose] public section

set_option maxRecDepth 16384

noncomputable section

namespace Cert.KernelIdeal.Final

open Idealize.ShloMosaic Idealize.ShloMosaic.TcCoe Cert.KernelIdeal.Gen Cert.Spec

variable (m : (ℓ : Loc nD τ sig) → Buf (Elt Ideal) ℓ) (ρ : Dev nD → PrngReg)

/-- The network over the program's arguments. -/
def net (c : Dev nD) : Net where
  x := fun n t => (m ((c.tc : Thread nD τ).loc main_arg0) : FVec Ideal S3072x1000 .f32) (ix2 n t)
  side := fun g k => (m ((c.tc : Thread nD τ).loc main_arg1) : FVec Ideal S256x32 .f32) (ix2 g k)
  cw := fun o k => (m ((c.tc : Thread nD τ).loc main_arg4) : FVec Ideal S64x1x7 .f32) (ix3 o 0 k)
  cb := fun o => (m ((c.tc : Thread nD τ).loc main_arg5) : FVec Ideal S64 .f32) (ix1 o)
  rw1 := fun o i k => (m ((c.tc : Thread nD τ).loc main_arg6) : FVec Ideal S64x64x3 .f32) (ix3 o i k)
  rb1 := fun o => (m ((c.tc : Thread nD τ).loc main_arg7) : FVec Ideal S64 .f32) (ix1 o)
  rw2 := fun o i k => (m ((c.tc : Thread nD τ).loc main_arg8) : FVec Ideal S64x64x3 .f32) (ix3 o i k)
  rb2 := fun o => (m ((c.tc : Thread nD τ).loc main_arg9) : FVec Ideal S64 .f32) (ix1 o)
  hw := fun i o => (m ((c.tc : Thread nD τ).loc main_arg10) : FVec Ideal S64x64 .f32) (ix2 i o)
  hb := fun o => (m ((c.tc : Thread nD τ).loc main_arg11) : FVec Ideal S64 .f32) (ix1 o)
  W1 := fun p i q => (m ((c.tc : Thread nD τ).loc main_arg12) : FVec Ideal S3x64x128 .f32) (ix3 p i q)
  B1 := fun p q => (m ((c.tc : Thread nD τ).loc main_arg13) : FVec Ideal S3x128 .f32) (ix2 p q)
  W2 := fun p i q => (m ((c.tc : Thread nD τ).loc main_arg14) : FVec Ideal S3x384x128 .f32) (ix3 p i q)
  B2 := fun p q => (m ((c.tc : Thread nD τ).loc main_arg15) : FVec Ideal S3x128 .f32) (ix2 p q)
  W3 := fun p i q => (m ((c.tc : Thread nD τ).loc main_arg16) : FVec Ideal S3x384x128 .f32) (ix3 p i q)
  B3 := fun p q => (m ((c.tc : Thread nD τ).loc main_arg17) : FVec Ideal S3x128 .f32) (ix2 p q)
  γ := fun j => (m ((c.tc : Thread nD τ).loc main_arg18) : FVec Ideal S384 .f32) (ix1 j)
  β := fun j => (m ((c.tc : Thread nD τ).loc main_arg19) : FVec Ideal S384 .f32) (ix1 j)
  f1 := fun j q => (m ((c.tc : Thread nD τ).loc main_arg20) : FVec Ideal S416x128 .f32) (ix2 j q)
  fb1 := fun q => (m ((c.tc : Thread nD τ).loc main_arg21) : FVec Ideal S128 .f32) (ix1 q)
  f2 := fun q o => (m ((c.tc : Thread nD τ).loc main_arg22) : FVec Ideal S128x5 .f32) (ix2 q o)
  fb2 := fun o => (m ((c.tc : Thread nD τ).loc main_arg23) : FVec Ideal S5 .f32) (ix1 o)

set_option maxHeartbeats 2000000 in
/-- The result is the network's answer. -/
theorem value (c : Dev nD) (F : (net m c).Finite)
    (hb : ∀ n : Fin 3072, (m ((c.tc : Thread nD τ).loc main_arg2) : IVec S3072 32) (ix1 n) = BitVec.ofNat 32 (n.val / 12)) :
    (Run.result m ρ c : FVec Ideal S256x5 .f32) = fun y => (net m c).answer (y 0) (y 1) := by
  unfold Run.result
  obtain ⟨t, ht⟩ : ∃ t : Fin cfg1.N, (cfg1.win 17).WholeAt t := ⟨⟨0, by decide⟩, by decide +kernel⟩
  refine (dat1 (V3 m ρ) c).arrAt_eq_of_after_last 17 t ht _ fun y => ?_
  blk_simp
  rw [after1_17]
  idx_vars y
  refine (Graph.block _ _ _ _ _ _ _ _ _ _ _ _ _ _ _ _ _ (net m c).h (net m c).h1 (net m c).h2 (net m c).W1 (net m c).W2 (net m c).W3
    (net m c).B1 (net m c).B2 (net m c).B3 (net m c).γ (net m c).β (net m c).side (net m c).f1 (net m c).fb1 (net m c).f2 (net m c).fb2
    ?_ ?_ ?_ ?_ ?_ ?_ ?_ ?_ ?_ ?_ ?_ ?_ ?_ ?_ ?_ ?_ ?_ F.layer1 F.layer2 y0 y1).trans ?_
  · intro n j
    refine (Between.iblk_0 m ρ c _ n j).trans ?_
    refine (congrFun ((W3_of m ρ c main_call0_v138 (by decide)).trans (Encoder.encoded m ρ c)) (ix2 n j)).trans ?_
    exact F.feature n j
  · exact fun g k => (Between.iblk_1 m ρ c _ g k).trans (congrFun (W3_args m ρ c main_arg1 (by decide)) _)
  · exact fun n => (Between.iblk_2 m ρ c _ 0 n).trans ((Between.opnd_2 m ρ c n).trans (hb n))
  · exact fun n => (Between.iblk_3 m ρ c _ n 0).trans ((Between.opnd_3 m ρ c n).trans (hb n))
  · exact fun r q => (Between.iblk_4 m ρ c _ r q).trans (Between.opnd_4 m ρ c r q)
  · exact fun p q => (Between.iblk_5 m ρ c _ p q).trans (congrFun (W3_args m ρ c main_arg13 (by decide)) _)
  · exact fun r q => (Between.iblk_6 m ρ c _ r q).trans (Between.opnd_6 m ρ c r q)
  · exact fun p q => (Between.iblk_7 m ρ c _ p q).trans (congrFun (W3_args m ρ c main_arg15 (by decide)) _)
  · exact fun r q => (Between.iblk_8 m ρ c _ r q).trans (Between.opnd_8 m ρ c r q)
  · exact fun p q => (Between.iblk_9 m ρ c _ p q).trans (congrFun (W3_args m ρ c main_arg17 (by decide)) _)
  · exact fun j => (Between.iblk_10 m ρ c _ 0 j).trans (Between.opnd_10 m ρ c j)
  · exact fun j => (Between.iblk_11 m ρ c _ 0 j).trans (Between.opnd_11 m ρ c j)
  · exact fun j q => (Between.iblk_12 m ρ c _ j q).trans (Between.opnd_12 m ρ c j q)
  · exact fun k q => (Between.iblk_13 m ρ c _ k q).trans (Between.opnd_13 m ρ c k q)
  · exact fun q => (Between.iblk_14 m ρ c _ 0 q).trans (Between.opnd_14 m ρ c q)
  · exact fun q o => (Between.iblk_15 m ρ c _ q o).trans (congrFun (W3_args m ρ c main_arg22 (by decide)) _)
  · exact fun o => (Between.iblk_16 m ρ c _ 0 o).trans (Between.opnd_16 m ρ c o)
  · refine congrArg₂ (net m c).answer (Fin.ext ?_) (Fin.ext ?_)
    · blk_simp
    · blk_simp

end Cert.KernelIdeal.Final

end
-- ==== Proof.RefConv.lean ====
/- The reference's first convolution and its pooling, element by element. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Conv

open Idealize.ShloMosaic Idealize.ShloMosaic.TcCoe Cert.ReferenceIdeal.Read Cert.Spec

variable (x : FVec Ideal S3072x1000 .f32) (w : FVec Ideal S64x1x7 .f32) (b : FVec Ideal S64 .f32)

theorem pad_x (n : Fin 3072) (p : Fin 1006) : val_main_v80 (F := Ideal) x (ix2 n p) = xpad (fun n t => x (ix2 n t)) n p.val := by
  have z : val_main_call0_v0 (F := Ideal) (Shape.Idx.first Gen.h_S_) = (0 : EReal) := by
    simp [val_main_call0_v0, val_main_c, sitofp, FloatOps.sitofp, constantI]
  unfold xpad
  pointwise [val_main_v80]
  by_cases q : 3 ≤ p.val ∧ p.val - 3 < 1000
  · rw [dif_pos q, dif_pos (by omega)]
  · rw [dif_neg q, dif_neg (by omega)]
    exact z

theorem tap0 (n : Fin 3072) (t : Fin 250) (c : Fin 64) :
    val_main_v86 (F := Ideal) x w (ix3 n t c) = (xpad (fun n t => x (ix2 n t)) n (4 * t.val + 0) * w (ix3 c 0 0) : EReal) := by
  have e : val_main_v86 (F := Ideal) x w (ix3 n t c)
      = (val_main_v80 (F := Ideal) x (ix2 n ⟨4 * t.val + 0, by omega⟩) * w (ix3 c 0 0) : EReal) := by
    unfold val_main_v86 val_main_v84 val_main_v82 val_main_v81 val_main_v85 val_main_v83 val_main_v19 val_main_v18
    generalize val_main_v80 (F := Ideal) x = d
    pointwise
    skip
  rw [e, pad_x]

theorem tap1 (n : Fin 3072) (t : Fin 250) (c : Fin 64) :
    val_main_v94 (F := Ideal) x w (ix3 n t c) = (xpad (fun n t => x (ix2 n t)) n (4 * t.val + 1) * w (ix3 c 0 1) : EReal) := by
  have e : val_main_v94 (F := Ideal) x w (ix3 n t c)
      = (val_main_v80 (F := Ideal) x (ix2 n ⟨4 * t.val + 1, by omega⟩) * w (ix3 c 0 1) : EReal) := by
    unfold val_main_v94 val_main_v92 val_main_v90 val_main_v89 val_main_v93 val_main_v91 val_main_v21 val_main_v20
    generalize val_main_v80 (F := Ideal) x = d
    pointwise
    exact congrArg (fun p => (d (ix2 n p) * w (ix3 c 0 1) : EReal)) (Fin.ext (Nat.add_comm _ _))
  rw [e, pad_x]

theorem tap2 (n : Fin 3072) (t : Fin 250) (c : Fin 64) :
    val_main_v101 (F := Ideal) x w (ix3 n t c) = (xpad (fun n t => x (ix2 n t)) n (4 * t.val + 2) * w (ix3 c 0 2) : EReal) := by
  have e : val_main_v101 (F := Ideal) x w (ix3 n t c)
      = (val_main_v80 (F := Ideal) x (ix2 n ⟨4 * t.val + 2, by omega⟩) * w (ix3 c 0 2) : EReal) := by
    unfold val_main_v101 val_main_v99 val_main_v97 val_main_v96 val_main_v100 val_main_v98 val_main_v23 val_main_v22
    generalize val_main_v80 (F := Ideal) x = d
    pointwise
    exact congrArg (fun p => (d (ix2 n p) * w (ix3 c 0 2) : EReal)) (Fin.ext (Nat.add_comm _ _))
  rw [e, pad_x]

theorem tap3 (n : Fin 3072) (t : Fin 250) (c : Fin 64) :
    val_main_v108 (F := Ideal) x w (ix3 n t c) = (xpad (fun n t => x (ix2 n t)) n (4 * t.val + 3) * w (ix3 c 0 3) : EReal) := by
  have e : val_main_v108 (F := Ideal) x w (ix3 n t c)
      = (val_main_v80 (F := Ideal) x (ix2 n ⟨4 * t.val + 3, by omega⟩) * w (ix3 c 0 3) : EReal) := by
    unfold val_main_v108 val_main_v106 val_main_v104 val_main_v103 val_main_v107 val_main_v105 val_main_v25 val_main_v24
    generalize val_main_v80 (F := Ideal) x = d
    pointwise
    exact congrArg (fun p => (d (ix2 n p) * w (ix3 c 0 3) : EReal)) (Fin.ext (Nat.add_comm _ _))
  rw [e, pad_x]

theorem tap4 (n : Fin 3072) (t : Fin 250) (c : Fin 64) :
    val_main_v115 (F := Ideal) x w (ix3 n t c) = (xpad (fun n t => x (ix2 n t)) n (4 * t.val + 4) * w (ix3 c 0 4) : EReal) := by
  have e : val_main_v115 (F := Ideal) x w (ix3 n t c)
      = (val_main_v80 (F := Ideal) x (ix2 n ⟨4 * t.val + 4, by omega⟩) * w (ix3 c 0 4) : EReal) := by
    unfold val_main_v115 val_main_v113 val_main_v111 val_main_v110 val_main_v114 val_main_v112 val_main_v27 val_main_v26
    generalize val_main_v80 (F := Ideal) x = d
    pointwise
    exact congrArg (fun p => (d (ix2 n p) * w (ix3 c 0 4) : EReal)) (Fin.ext (Nat.add_comm _ _))
  rw [e, pad_x]

theorem tap5 (n : Fin 3072) (t : Fin 250) (c : Fin 64) :
    val_main_v122 (F := Ideal) x w (ix3 n t c) = (xpad (fun n t => x (ix2 n t)) n (4 * t.val + 5) * w (ix3 c 0 5) : EReal) := by
  have e : val_main_v122 (F := Ideal) x w (ix3 n t c)
      = (val_main_v80 (F := Ideal) x (ix2 n ⟨4 * t.val + 5, by omega⟩) * w (ix3 c 0 5) : EReal) := by
    unfold val_main_v122 val_main_v120 val_main_v118 val_main_v117 val_main_v121 val_main_v119 val_main_v29 val_main_v28
    generalize val_main_v80 (F := Ideal) x = d
    pointwise
    exact congrArg (fun p => (d (ix2 n p) * w (ix3 c 0 5) : EReal)) (Fin.ext (Nat.add_comm _ _))
  rw [e, pad_x]

theorem tap6 (n : Fin 3072) (t : Fin 250) (c : Fin 64) :
    val_main_v129 (F := Ideal) x w (ix3 n t c) = (xpad (fun n t => x (ix2 n t)) n (4 * t.val + 6) * w (ix3 c 0 6) : EReal) := by
  have e : val_main_v129 (F := Ideal) x w (ix3 n t c)
      = (val_main_v80 (F := Ideal) x (ix2 n ⟨4 * t.val + 6, by omega⟩) * w (ix3 c 0 6) : EReal) := by
    unfold val_main_v129 val_main_v127 val_main_v125 val_main_v124 val_main_v128 val_main_v126 val_main_v31 val_main_v30
    generalize val_main_v80 (F := Ideal) x = d
    pointwise
    exact congrArg (fun p => (d (ix2 n p) * w (ix3 c 0 6) : EReal)) (Fin.ext (Nat.add_comm _ _))
  rw [e, pad_x]

theorem conv (n : Fin 3072) (t : Fin 250) (c : Fin 64) :
    val_main_v135 (F := Ideal) x w b (ix3 n t c)
      = max (conv1 (fun n t => x (ix2 n t)) (fun c k => w (ix3 c 0 k)) n t.val c + b (ix1 c)) (0 : EReal) := by
  unfold conv1
  rw [Fin.sum_univ_seven]
  unfold val_main_v135 val_main_v133 val_main_v134 val_main_v130 val_main_v132 val_main_v131 val_main_v123 val_main_v116 val_main_v109 val_main_v102 val_main_v95 val_main_v88 val_main_v87 val_main_cst_5 val_main_cst_6
  pointwise
  rw [tap0, tap1, tap2, tap3, tap4, tap5, tap6]
  rfl

theorem fold_four (f : Fin 4 → EReal) : Finset.fold max ⊥ f Finset.univ = max (max (f 0) (f 1)) (max (f 2) (f 3)) := by
  have e : (Finset.univ : Finset (Fin 4)) = {0, 1, 2, 3} := by decide
  rw [e]
  simp [max_assoc]

theorem four (a b c d e : EReal) :
    max (max (max (a + e) 0) (max (b + e) 0)) (max (max (c + e) 0) (max (d + e) 0)) = max (max (max a b) (max c d) + e) 0 := by
  rw [← max_add_add_right, ← max_add_add_right, ← max_add_add_right]
  rw [max_max_max_comm (a + e), max_max_max_comm (c + e), max_self, max_max_max_comm, max_self]

theorem pool (n : Fin 3072) (u : Fin 62) (c : Fin 64) :
    val_main_v138 (F := Ideal) x w b (ix3 n u c) = pooled (fun n t => x (ix2 n t)) (fun c k => w (ix3 c 0 k)) (fun i => b (ix1 i)) n u.val c := by
  unfold val_main_v138 val_main_v137 val_main_v136
  pointwise
  have z : val_main_cst_7 (F := Ideal) (Shape.Idx.first Gen.h_S_) = (⊥ : EReal) := by
    unfold val_main_cst_7
    simp [constant, Ideal.ofBits, Ideal.ieee]
  rw [z, fold_four]
  simp only [conv]
  rw [four]
  simp only [Nat.mul_comm u.val 4]
  rfl

end Cert.ReferenceIdeal.Conv

end
-- ==== Proof.RefEnc.lean ====
/- The reference's encoder, element by element. -/
module

public import proofs.«01_k».proof.Proof.RefConv

@[expose] public section

set_option maxRecDepth 16384

noncomputable section

namespace Cert.ReferenceIdeal.Conv

open Idealize.ShloMosaic Idealize.ShloMosaic.TcCoe Cert.ReferenceIdeal.Read Cert.Spec

variable (x : FVec Ideal S3072x1000 .f32) (w : FVec Ideal S64x1x7 .f32) (b : FVec Ideal S64 .f32)
  (w1 : FVec Ideal S64x64x3 .f32) (b1 : FVec Ideal S64 .f32) (w2 : FVec Ideal S64x64x3 .f32) (b2 : FVec Ideal S64 .f32)
  (hw : FVec Ideal S64x64 .f32) (hb : FVec Ideal S64 .f32)

theorem rows1 (h : ℕ → Fin 64 → EReal) (n : Fin 3072) (hh : ∀ (u : Fin 62) (i : Fin 64), val_main_v138 (F := Ideal) x w b (ix3 n u i) = h u.val i)
    (p : Fin 64) (i : Fin 64) : val_main_v139 (F := Ideal) x w b (ix3 n p i) = padRow h p.val i := by
  have z : val_main_call1_v0 (F := Ideal) (Shape.Idx.first Gen.h_S_) = (0 : EReal) := by
    simp [val_main_call1_v0, val_main_c_8, sitofp, FloatOps.sitofp, constantI]
  unfold padRow val_main_v139
  revert hh
  generalize val_main_v138 (F := Ideal) x w b = d
  intro hh
  pointwise
  by_cases q : 1 ≤ p.val ∧ p.val - 1 < 62
  · rw [dif_pos q, if_pos (by omega)]
    exact hh _ _
  · rw [dif_neg q, if_neg (by omega)]
    exact z

theorem taps1 (h : ℕ → Fin 64 → EReal) (n : Fin 3072) (hh : ∀ (u : Fin 62) (i : Fin 64), val_main_v138 (F := Ideal) x w b (ix3 n u i) = h u.val i)
    (u : Fin 62) (c : Fin 64) : val_main_v152 (F := Ideal) x w b w1 b1 (ix3 n u c)
      = conv3 h (fun o i k => w1 (ix3 o i k)) (fun i => b1 (ix1 i)) u.val c := by
  have hp := rows1 x w b h n hh
  unfold conv3
  unfold val_main_v152 val_main_v151 val_main_v150 val_main_v149 val_main_v148 val_main_v37 val_main_v36 val_main_v147 val_main_v146 val_main_v145 val_main_v35 val_main_v34 val_main_v144 val_main_v143 val_main_v142 val_main_v141 val_main_v33 val_main_v32 val_main_v140 val_main_cst_9
  revert hp
  generalize val_main_v139 (F := Ideal) x w b = d
  intro hp
  pointwise
  simp only [hp, Nat.add_comm 1 u.val, Nat.add_comm 2 u.val]

theorem rows2 (h : ℕ → Fin 64 → EReal) (n : Fin 3072) (hh : ∀ (u : Fin 62) (i : Fin 64), val_main_v154 (F := Ideal) x w b w1 b1 (ix3 n u i) = h u.val i)
    (p : Fin 64) (i : Fin 64) : val_main_v155 (F := Ideal) x w b w1 b1 (ix3 n p i) = padRow h p.val i := by
  have z : val_main_call2_v0 (F := Ideal) (Shape.Idx.first Gen.h_S_) = (0 : EReal) := by
    simp [val_main_call2_v0, val_main_c_11, sitofp, FloatOps.sitofp, constantI]
  unfold padRow val_main_v155
  revert hh
  generalize val_main_v154 (F := Ideal) x w b w1 b1 = d
  intro hh
  pointwise
  by_cases q : 1 ≤ p.val ∧ p.val - 1 < 62
  · rw [dif_pos q, if_pos (by omega)]
    exact hh _ _
  · rw [dif_neg q, if_neg (by omega)]
    exact z

theorem taps2 (h : ℕ → Fin 64 → EReal) (n : Fin 3072) (hh : ∀ (u : Fin 62) (i : Fin 64), val_main_v154 (F := Ideal) x w b w1 b1 (ix3 n u i) = h u.val i)
    (u : Fin 62) (c : Fin 64) : val_main_v168 (F := Ideal) x w b w1 b1 w2 b2 (ix3 n u c)
      = conv3 h (fun o i k => w2 (ix3 o i k)) (fun i => b2 (ix1 i)) u.val c := by
  have hp := rows2 x w b w1 b1 h n hh
  unfold conv3
  unfold val_main_v168 val_main_v167 val_main_v166 val_main_v165 val_main_v164 val_main_v43 val_main_v42 val_main_v163 val_main_v162 val_main_v161 val_main_v41 val_main_v40 val_main_v160 val_main_v159 val_main_v158 val_main_v157 val_main_v39 val_main_v38 val_main_v156 val_main_cst_12
  revert hp
  generalize val_main_v155 (F := Ideal) x w b w1 b1 = d
  intro hp
  pointwise
  simp only [hp, Nat.add_comm 1 u.val, Nat.add_comm 2 u.val]

end Cert.ReferenceIdeal.Conv

end
-- ==== Proof.RefFeat.lean ====
/- The reference's node features. -/
module

public import proofs.«01_k».proof.Proof.RefEnc

@[expose] public section

set_option maxRecDepth 16384

noncomputable section

namespace Cert.ReferenceIdeal.Conv

open Idealize.ShloMosaic Idealize.ShloMosaic.TcCoe Cert.ReferenceIdeal.Read Cert.Spec

variable (x : FVec Ideal S3072x1000 .f32) (w : FVec Ideal S64x1x7 .f32) (b : FVec Ideal S64 .f32)
  (w1 : FVec Ideal S64x64x3 .f32) (b1 : FVec Ideal S64 .f32) (w2 : FVec Ideal S64x64x3 .f32) (b2 : FVec Ideal S64 .f32)
  (hw : FVec Ideal S64x64 .f32) (hb : FVec Ideal S64 .f32)

theorem inner (n : Fin 3072) (u : Fin 62) (i : Fin 64) : val_main_v154 (F := Ideal) x w b w1 b1 (ix3 n u i)
    = max (conv3 (pooled (fun n t => x (ix2 n t)) (fun c k => w (ix3 c 0 k)) (fun i => b (ix1 i)) n) (fun o i k => w1 (ix3 o i k)) (fun i => b1 (ix1 i)) u.val i) (0 : EReal) := by
  have e := taps1 x w b w1 b1 _ n (pool x w b n) u i
  rw [← e]
  unfold val_main_v154 val_main_v153 val_main_cst_10
  generalize val_main_v152 (F := Ideal) x w b w1 b1 = d
  pointwise

theorem outer_sum (n : Fin 3072) (u : Fin 62) (i : Fin 64) : val_main_v171 (F := Ideal) x w b w1 b1 w2 b2 (ix3 n u i)
    = max (val_main_v138 (F := Ideal) x w b (ix3 n u i) + val_main_v168 (F := Ideal) x w b w1 b1 w2 b2 (ix3 n u i)) (0 : EReal) := by
  rw [val_main_v171_apply, val_main_v169_apply]
  have z : val_main_v170 (F := Ideal) (ix3 n u i) = (0 : EReal) := by
    pointwise [val_main_v170, val_main_cst_13]
  rw [z]
  rfl

theorem outer_of (n : Fin 3072) (h0 h1 : ℕ → Fin 64 → EReal)
    (e0 : ∀ (u : Fin 62) (i : Fin 64), val_main_v138 (F := Ideal) x w b (ix3 n u i) = h0 u.val i)
    (e1 : ∀ (u : Fin 62) (i : Fin 64), val_main_v154 (F := Ideal) x w b w1 b1 (ix3 n u i) = h1 u.val i) (u : Fin 62) (i : Fin 64) :
    val_main_v171 (F := Ideal) x w b w1 b1 w2 b2 (ix3 n u i) = max (h0 u.val i + conv3 h1 (fun o i k => w2 (ix3 o i k)) (fun i => b2 (ix1 i)) u.val i) (0 : EReal) := by
  rw [outer_sum, e0, taps2 x w b w1 b1 w2 b2 h1 n e1]

theorem outer (n : Fin 3072) (u : Fin 62) (i : Fin 64) : val_main_v171 (F := Ideal) x w b w1 b1 w2 b2 (ix3 n u i)
    = resid (pooled (fun n t => x (ix2 n t)) (fun c k => w (ix3 c 0 k)) (fun i => b (ix1 i)) n) (fun o i k => w1 (ix3 o i k)) (fun i => b1 (ix1 i)) (fun o i k => w2 (ix3 o i k)) (fun i => b2 (ix1 i)) u.val i := by
  unfold resid
  exact outer_of x w b w1 b1 w2 b2 n _ _ (pool x w b n) (inner x w b w1 b1 n) u i

theorem sixty_two : (Ideal.ofBits .f32 0x42780000#32 : EReal) = ((62 : ℝ) : EReal) := by
  simp [Ideal.ofBits, Ideal.ieee]
  rw [← EReal.coe_mul]
  norm_num

theorem mean (n : Fin 3072) (i : Fin 64) : val_main_v174 (F := Ideal) x w b w1 b1 w2 b2 (ix2 n i)
    = ((∑ u : Fin 62, val_main_v171 (F := Ideal) x w b w1 b1 w2 b2 (ix3 n u i)) * ((1 / 62 : ℝ) : EReal) : EReal) := by
  unfold val_main_v174 val_main_v173 val_main_v172 val_main_cst_14 val_main_cst_15
  generalize val_main_v171 (F := Ideal) x w b w1 b1 w2 b2 = d
  pointwise
  rw [sixty_two, Ideal.div_coe (by norm_num)]

/-- The reference's node features. -/
theorem features (n : Fin 3072) (o : Fin 64) :
    val_main_v180 (F := Ideal) x w b w1 b1 w2 b2 hw hb (ix2 n o)
      = feature (fun n t => x (ix2 n t)) (fun c k => w (ix3 c 0 k)) (fun i => b (ix1 i)) (fun o i k => w1 (ix3 o i k)) (fun i => b1 (ix1 i))
        (fun o i k => w2 (ix3 o i k)) (fun i => b2 (ix1 i)) (fun i o => hw (ix2 i o)) (fun i => hb (ix1 i)) n o := by
  have e : val_main_v180 (F := Ideal) x w b w1 b1 w2 b2 hw hb (ix2 n o)
      = max ((∑ i : Fin 64, val_main_v174 (F := Ideal) x w b w1 b1 w2 b2 (ix2 n i) * hw (ix2 i o)) + hb (ix1 o)) (0 : EReal) := by
    unfold val_main_v180 val_main_v179 val_main_v178 val_main_v177 val_main_v176 val_main_v175 val_main_cst_16
    generalize val_main_v174 (F := Ideal) x w b w1 b1 w2 b2 = d
    pointwise
  rw [e]
  unfold feature
  refine congrArg (max · (0 : EReal)) (congrArg (fun z : EReal => z + hb (ix1 o)) (Finset.sum_congr rfl fun i _ => congrArg (fun z : EReal => z * hw (ix2 i o)) ?_))
  rw [mean]
  exact congrArg (fun z : EReal => z * ((1 / 62 : ℝ) : EReal)) (Finset.sum_congr rfl fun u _ => outer x w b w1 b1 w2 b2 n u i)

end Cert.ReferenceIdeal.Conv

end
-- ==== Proof.RefRows.lean ====
/- Where the reference's scattered rows land, and what its gathered rows are. -/
module

public import proofs.«01_k».proof.Proof.Gen.ReferenceIdeal.Read
public import proofs.«01_k».proof.Proof.Spec
public import Idealize.ShloMosaic.Lib.Pointwise
public import Idealize.ShloMosaic.Lib.Routing.OpsPair
public import Idealize.ShloMosaic.Lib.Routing.Ops

@[expose] public section

set_option maxRecDepth 16384

noncomputable section

namespace Cert.ReferenceIdeal.Rows

open Idealize.ShloMosaic Idealize.ShloMosaic.TcCoe Cert.ReferenceIdeal.Read Cert.Spec

theorem lands_3072_64 (e : Fin 33792) (c c' : Fin 64) (r : Fin 3072) (idx : IVec S33792x1 32) :
    scatter_S3072x64_S33792x1_S33792x64_1_0_0_1.resultIdx? (ix2 e c) idx = some (ix2 r c') ↔ (idx (ix2 e 0)).toInt = (r.val : Int) ∧ c = c' := by
  rw [Routing.resultIdx?_eq_some]
  have s0 : scatter_S3072x64_S33792x1_S33792x64_1_0_0_1.start (ix2 e c) idx (0 : Fin 2) = (idx (ix2 e 0)).toInt := by
    unfold ScatterDims.start
    rw [dif_pos (by decide)]
    refine congrArg (fun i => (idx i).toInt) (funext fun a => Fin.ext ?_)
    revert a
    exact Fin.forall_fin_two.mpr ⟨rfl, rfl⟩
  have s1 : scatter_S3072x64_S33792x1_S33792x64_1_0_0_1.start (ix2 e c) idx (1 : Fin 2) = 0 := rfl
  have w0 : scatter_S3072x64_S33792x1_S33792x64_1_0_0_1.window (ix2 e c) (0 : Fin 2) = 0 := rfl
  have w1 : scatter_S3072x64_S33792x1_S33792x64_1_0_0_1.window (ix2 e c) (1 : Fin 2) = c.val := rfl
  refine Fin.forall_fin_two.trans ?_
  rw [s0, s1, w0, w1]
  show (idx (ix2 e 0)).toInt + ((0 : ℕ) : Int) = (r.val : Int) ∧ (0 : Int) + (c.val : Int) = (c'.val : Int) ↔ _
  rw [Fin.ext_iff]
  omega

theorem scatter_3072_64 (x : FVec Ideal S3072x64 .f32) (idx : IVec S33792x1 32) (u : FVec Ideal S33792x64 .f32) (r : Fin 3072) (c : Fin 64) :
    Host.scatterAdd scatter_S3072x64_S33792x1_S33792x64_1_0_0_1 x idx u (ix2 r c)
      = (x (ix2 r c) + ∑ e : Fin 33792, if (idx (ix2 e 0)).toInt = (r.val : Int) then u (ix2 e c) else 0 : EReal) := by
  refine congrArg (fun z : EReal => x (ix2 r c) + z) ?_
  rw [← Finset.sum_filter]
  have at_row : ∀ j : S33792x64.Idx, scatter_S3072x64_S33792x1_S33792x64_1_0_0_1.resultIdx? j idx = some (ix2 r c) →
      (idx (ix2 (j 0) 0)).toInt = (r.val : Int) ∧ j = ix2 (j 0) c := fun j h => by
    idx_vars j
    obtain ⟨h1, h2⟩ := (lands_3072_64 j0 j1 c r idx).mp h
    exact ⟨h1, congrArg (ix2 j0) h2⟩
  refine Finset.sum_nbij' (fun j => j 0) (fun e => ix2 e c) ?_ ?_ ?_ ?_ ?_
  · intro j hj
    exact Finset.mem_filter.mpr ⟨Finset.mem_univ _, (at_row j (Finset.mem_filter.mp hj).2).1⟩
  · intro e he
    exact Finset.mem_filter.mpr ⟨Finset.mem_univ _, (lands_3072_64 e c c r idx).mpr ⟨(Finset.mem_filter.mp he).2, rfl⟩⟩
  · intro j hj
    exact (at_row j (Finset.mem_filter.mp hj).2).2.symm
  · intro e he
    rfl
  · intro j hj
    exact congrArg u (at_row j (Finset.mem_filter.mp hj).2).2

theorem lands_3072_384 (e : Fin 33792) (c c' : Fin 384) (r : Fin 3072) (idx : IVec S33792x1 32) :
    scatter_S3072x384_S33792x1_S33792x384_1_0_0_1.resultIdx? (ix2 e c) idx = some (ix2 r c') ↔ (idx (ix2 e 0)).toInt = (r.val : Int) ∧ c = c' := by
  rw [Routing.resultIdx?_eq_some]
  have s0 : scatter_S3072x384_S33792x1_S33792x384_1_0_0_1.start (ix2 e c) idx (0 : Fin 2) = (idx (ix2 e 0)).toInt := by
    unfold ScatterDims.start
    rw [dif_pos (by decide)]
    refine congrArg (fun i => (idx i).toInt) (funext fun a => Fin.ext ?_)
    revert a
    exact Fin.forall_fin_two.mpr ⟨rfl, rfl⟩
  have s1 : scatter_S3072x384_S33792x1_S33792x384_1_0_0_1.start (ix2 e c) idx (1 : Fin 2) = 0 := rfl
  have w0 : scatter_S3072x384_S33792x1_S33792x384_1_0_0_1.window (ix2 e c) (0 : Fin 2) = 0 := rfl
  have w1 : scatter_S3072x384_S33792x1_S33792x384_1_0_0_1.window (ix2 e c) (1 : Fin 2) = c.val := rfl
  refine Fin.forall_fin_two.trans ?_
  rw [s0, s1, w0, w1]
  show (idx (ix2 e 0)).toInt + ((0 : ℕ) : Int) = (r.val : Int) ∧ (0 : Int) + (c.val : Int) = (c'.val : Int) ↔ _
  rw [Fin.ext_iff]
  omega

theorem scatter_3072_384 (x : FVec Ideal S3072x384 .f32) (idx : IVec S33792x1 32) (u : FVec Ideal S33792x384 .f32) (r : Fin 3072) (c : Fin 384) :
    Host.scatterAdd scatter_S3072x384_S33792x1_S33792x384_1_0_0_1 x idx u (ix2 r c)
      = (x (ix2 r c) + ∑ e : Fin 33792, if (idx (ix2 e 0)).toInt = (r.val : Int) then u (ix2 e c) else 0 : EReal) := by
  refine congrArg (fun z : EReal => x (ix2 r c) + z) ?_
  rw [← Finset.sum_filter]
  have at_row : ∀ j : S33792x384.Idx, scatter_S3072x384_S33792x1_S33792x384_1_0_0_1.resultIdx? j idx = some (ix2 r c) →
      (idx (ix2 (j 0) 0)).toInt = (r.val : Int) ∧ j = ix2 (j 0) c := fun j h => by
    idx_vars j
    obtain ⟨h1, h2⟩ := (lands_3072_384 j0 j1 c r idx).mp h
    exact ⟨h1, congrArg (ix2 j0) h2⟩
  refine Finset.sum_nbij' (fun j => j 0) (fun e => ix2 e c) ?_ ?_ ?_ ?_ ?_
  · intro j hj
    exact Finset.mem_filter.mpr ⟨Finset.mem_univ _, (at_row j (Finset.mem_filter.mp hj).2).1⟩
  · intro e he
    exact Finset.mem_filter.mpr ⟨Finset.mem_univ _, (lands_3072_384 e c c r idx).mpr ⟨(Finset.mem_filter.mp he).2, rfl⟩⟩
  · intro j hj
    exact (at_row j (Finset.mem_filter.mp hj).2).2.symm
  · intro e he
    rfl
  · intro j hj
    exact congrArg u (at_row j (Finset.mem_filter.mp hj).2).2

theorem lands_256_384 (e : Fin 3072) (c c' : Fin 384) (r : Fin 256) (idx : IVec S3072x1 32) :
    scatter_S256x384_S3072x1_S3072x384_1_0_0_1.resultIdx? (ix2 e c) idx = some (ix2 r c') ↔ (idx (ix2 e 0)).toInt = (r.val : Int) ∧ c = c' := by
  rw [Routing.resultIdx?_eq_some]
  have s0 : scatter_S256x384_S3072x1_S3072x384_1_0_0_1.start (ix2 e c) idx (0 : Fin 2) = (idx (ix2 e 0)).toInt := by
    unfold ScatterDims.start
    rw [dif_pos (by decide)]
    refine congrArg (fun i => (idx i).toInt) (funext fun a => Fin.ext ?_)
    revert a
    exact Fin.forall_fin_two.mpr ⟨rfl, rfl⟩
  have s1 : scatter_S256x384_S3072x1_S3072x384_1_0_0_1.start (ix2 e c) idx (1 : Fin 2) = 0 := rfl
  have w0 : scatter_S256x384_S3072x1_S3072x384_1_0_0_1.window (ix2 e c) (0 : Fin 2) = 0 := rfl
  have w1 : scatter_S256x384_S3072x1_S3072x384_1_0_0_1.window (ix2 e c) (1 : Fin 2) = c.val := rfl
  refine Fin.forall_fin_two.trans ?_
  rw [s0, s1, w0, w1]
  show (idx (ix2 e 0)).toInt + ((0 : ℕ) : Int) = (r.val : Int) ∧ (0 : Int) + (c.val : Int) = (c'.val : Int) ↔ _
  rw [Fin.ext_iff]
  omega

theorem scatter_256_384 (x : FVec Ideal S256x384 .f32) (idx : IVec S3072x1 32) (u : FVec Ideal S3072x384 .f32) (r : Fin 256) (c : Fin 384) :
    Host.scatterAdd scatter_S256x384_S3072x1_S3072x384_1_0_0_1 x idx u (ix2 r c)
      = (x (ix2 r c) + ∑ e : Fin 3072, if (idx (ix2 e 0)).toInt = (r.val : Int) then u (ix2 e c) else 0 : EReal) := by
  refine congrArg (fun z : EReal => x (ix2 r c) + z) ?_
  rw [← Finset.sum_filter]
  have at_row : ∀ j : S3072x384.Idx, scatter_S256x384_S3072x1_S3072x384_1_0_0_1.resultIdx? j idx = some (ix2 r c) →
      (idx (ix2 (j 0) 0)).toInt = (r.val : Int) ∧ j = ix2 (j 0) c := fun j h => by
    idx_vars j
    obtain ⟨h1, h2⟩ := (lands_256_384 j0 j1 c r idx).mp h
    exact ⟨h1, congrArg (ix2 j0) h2⟩
  refine Finset.sum_nbij' (fun j => j 0) (fun e => ix2 e c) ?_ ?_ ?_ ?_ ?_
  · intro j hj
    exact Finset.mem_filter.mpr ⟨Finset.mem_univ _, (at_row j (Finset.mem_filter.mp hj).2).1⟩
  · intro e he
    exact Finset.mem_filter.mpr ⟨Finset.mem_univ _, (lands_256_384 e c c r idx).mpr ⟨(Finset.mem_filter.mp he).2, rfl⟩⟩
  · intro j hj
    exact (at_row j (Finset.mem_filter.mp hj).2).2.symm
  · intro e he
    rfl
  · intro j hj
    exact congrArg u (at_row j (Finset.mem_filter.mp hj).2).2

theorem lands_3072 (e : Fin 33792) (r : Fin 3072) (idx : IVec S33792x1 32) :
    scatter_S3072_S33792x1_S33792_n_0_0_1.resultIdx? (ix1 e) idx = some (ix1 r) ↔ (idx (ix2 e 0)).toInt = (r.val : Int) := by
  rw [Routing.resultIdx?_eq_some]
  have s0 : scatter_S3072_S33792x1_S33792_n_0_0_1.start (ix1 e) idx (0 : Fin 1) = (idx (ix2 e 0)).toInt := by
    unfold ScatterDims.start
    rw [dif_pos (by decide)]
    refine congrArg (fun i => (idx i).toInt) (funext fun a => Fin.ext ?_)
    revert a
    exact Fin.forall_fin_two.mpr ⟨rfl, rfl⟩
  have w0 : scatter_S3072_S33792x1_S33792_n_0_0_1.window (ix1 e) (0 : Fin 1) = 0 := rfl
  refine Fin.forall_fin_one.trans ?_
  rw [s0, w0]
  show (idx (ix2 e 0)).toInt + ((0 : ℕ) : Int) = (r.val : Int) ↔ _
  omega

theorem scatter_3072 (x : FVec Ideal S3072 .f32) (idx : IVec S33792x1 32) (u : FVec Ideal S33792 .f32) (r : Fin 3072) :
    Host.scatterAdd scatter_S3072_S33792x1_S33792_n_0_0_1 x idx u (ix1 r)
      = (x (ix1 r) + ∑ e : Fin 33792, if (idx (ix2 e 0)).toInt = (r.val : Int) then u (ix1 e) else 0 : EReal) := by
  refine congrArg (fun z : EReal => x (ix1 r) + z) ?_
  rw [← Finset.sum_filter]
  have at_row : ∀ j : S33792.Idx, scatter_S3072_S33792x1_S33792_n_0_0_1.resultIdx? j idx = some (ix1 r) →
      (idx (ix2 (j 0) 0)).toInt = (r.val : Int) ∧ j = ix1 (j 0) := fun j h => by
    idx_vars j
    exact ⟨(lands_3072 j0 r idx).mp h, rfl⟩
  refine Finset.sum_nbij' (fun j => j 0) (fun e => ix1 e) ?_ ?_ ?_ ?_ ?_
  · intro j hj
    exact Finset.mem_filter.mpr ⟨Finset.mem_univ _, (at_row j (Finset.mem_filter.mp hj).2).1⟩
  · intro e he
    exact Finset.mem_filter.mpr ⟨Finset.mem_univ _, (lands_3072 e r idx).mpr (Finset.mem_filter.mp he).2⟩
  · intro j hj
    exact (at_row j (Finset.mem_filter.mp hj).2).2.symm
  · intro e he
    rfl
  · intro j hj
    exact congrArg u (at_row j (Finset.mem_filter.mp hj).2).2

theorem lands_256 (e : Fin 3072) (r : Fin 256) (idx : IVec S3072x1 32) :
    scatter_S256_S3072x1_S3072_n_0_0_1.resultIdx? (ix1 e) idx = some (ix1 r) ↔ (idx (ix2 e 0)).toInt = (r.val : Int) := by
  rw [Routing.resultIdx?_eq_some]
  have s0 : scatter_S256_S3072x1_S3072_n_0_0_1.start (ix1 e) idx (0 : Fin 1) = (idx (ix2 e 0)).toInt := by
    unfold ScatterDims.start
    rw [dif_pos (by decide)]
    refine congrArg (fun i => (idx i).toInt) (funext fun a => Fin.ext ?_)
    revert a
    exact Fin.forall_fin_two.mpr ⟨rfl, rfl⟩
  have w0 : scatter_S256_S3072x1_S3072_n_0_0_1.window (ix1 e) (0 : Fin 1) = 0 := rfl
  refine Fin.forall_fin_one.trans ?_
  rw [s0, w0]
  show (idx (ix2 e 0)).toInt + ((0 : ℕ) : Int) = (r.val : Int) ↔ _
  omega

theorem scatter_256 (x : FVec Ideal S256 .f32) (idx : IVec S3072x1 32) (u : FVec Ideal S3072 .f32) (r : Fin 256) :
    Host.scatterAdd scatter_S256_S3072x1_S3072_n_0_0_1 x idx u (ix1 r)
      = (x (ix1 r) + ∑ e : Fin 3072, if (idx (ix2 e 0)).toInt = (r.val : Int) then u (ix1 e) else 0 : EReal) := by
  refine congrArg (fun z : EReal => x (ix1 r) + z) ?_
  rw [← Finset.sum_filter]
  have at_row : ∀ j : S3072.Idx, scatter_S256_S3072x1_S3072_n_0_0_1.resultIdx? j idx = some (ix1 r) →
      (idx (ix2 (j 0) 0)).toInt = (r.val : Int) ∧ j = ix1 (j 0) := fun j h => by
    idx_vars j
    exact ⟨(lands_256 j0 r idx).mp h, rfl⟩
  refine Finset.sum_nbij' (fun j => j 0) (fun e => ix1 e) ?_ ?_ ?_ ?_ ?_
  · intro j hj
    exact Finset.mem_filter.mpr ⟨Finset.mem_univ _, (at_row j (Finset.mem_filter.mp hj).2).1⟩
  · intro e he
    exact Finset.mem_filter.mpr ⟨Finset.mem_univ _, (lands_256 e r idx).mpr (Finset.mem_filter.mp he).2⟩
  · intro j hj
    exact (at_row j (Finset.mem_filter.mp hj).2).2.symm
  · intro e he
    rfl
  · intro j hj
    exact congrArg u (at_row j (Finset.mem_filter.mp hj).2).2

theorem gather_64 (x : FVec Ideal S3072x64 .f32) (idx : IVec S33792x1 32) (e : Fin 33792) (c : Fin 64) (r : Fin 3072)
    (h : idx (ix2 e 0) = BitVec.ofNat 32 r.val) :
    Host.gather gather_S3072x64_S33792x1_S33792x64_1_0_n_n_0_1_164 x idx (ix2 e c) = x (ix2 r c) := by
  have := Routing.gather_row gather_S3072x64_S33792x1_S33792x64_1_0_n_n_0_1_164 rfl rfl rfl rfl rfl x idx e c r
  simp only [← ix2_eq_valueIdx] at this
  exact this h (by norm_num)

theorem gather_384 (x : FVec Ideal S3072x384 .f32) (idx : IVec S33792x1 32) (e : Fin 33792) (c : Fin 384) (r : Fin 3072)
    (h : idx (ix2 e 0) = BitVec.ofNat 32 r.val) :
    Host.gather gather_S3072x384_S33792x1_S33792x384_1_0_n_n_0_1_1384 x idx (ix2 e c) = x (ix2 r c) := by
  have := Routing.gather_row gather_S3072x384_S33792x1_S33792x384_1_0_n_n_0_1_1384 rfl rfl rfl rfl rfl x idx e c r
  simp only [← ix2_eq_valueIdx] at this
  exact this h (by norm_num)

end Cert.ReferenceIdeal.Rows

end
-- ==== Proof.RefEdges.lean ====
/- The sums over the edges of graphs of twelve, every node joined to each of the eleven others. -/
module

public import proofs.«01_k».proof.Proof.RefRows

@[expose] public section

set_option maxRecDepth 16384

noncomputable section

namespace Cert.ReferenceIdeal.Edges

open Idealize.ShloMosaic Idealize.ShloMosaic.TcCoe Cert.ReferenceIdeal.Read Cert.Spec

/-- The node that edge `e` starts from. -/
def source (e : Fin 33792) : Fin 3072 := ⟨e.val / 11, by omega⟩

/-- The node that edge `e` ends at. -/
def target (e : Fin 33792) : ℕ :=
  12 * (e.val / 11 / 12) + if e.val % 11 < e.val / 11 % 12 then e.val % 11 else e.val % 11 + 1

theorem others (f : Fin 3072 → EReal) (n : Fin 3072) :
    (∑ e : Fin 33792, if target e = n.val then f (source e) else 0) = ∑ i : Fin 12, if mate n i = n then 0 else f (mate n i) := by
  have flip : ∀ i : Fin 12, (if mate n i = n then 0 else f (mate n i)) = if ¬ mate n i = n then f (mate n i) else 0 := fun i => by
    split <;> rfl
  simp only [flip]
  rw [← Finset.sum_filter, ← Finset.sum_filter]
  have hn := n.isLt
  refine Finset.sum_nbij' (fun e => ⟨e.val / 11 % 12, by omega⟩)
    (fun i => ⟨11 * (12 * (n.val / 12) + i.val) + (if n.val % 12 < i.val then n.val % 12 else n.val % 12 - 1), by split <;> omega⟩) ?_ ?_ ?_ ?_ ?_
  · intro e he
    have h := (Finset.mem_filter.mp he).2
    refine Finset.mem_filter.mpr ⟨Finset.mem_univ _, fun q => ?_⟩
    have q' : 12 * (n.val / 12) + e.val / 11 % 12 = n.val := congrArg Fin.val q
    unfold target at h
    split at h <;> omega
  · intro i hi
    have h : ¬ 12 * (n.val / 12) + i.val = n.val := fun q => (Finset.mem_filter.mp hi).2 (Fin.ext q)
    refine Finset.mem_filter.mpr ⟨Finset.mem_univ _, ?_⟩
    have hi := i.isLt
    unfold target
    simp only
    obtain ⟨k, hk⟩ : ∃ k, k = if n.val % 12 < i.val then n.val % 12 else n.val % 12 - 1 := ⟨_, rfl⟩
    rw [← hk]
    have d : (11 * (12 * (n.val / 12) + i.val) + k) / 11 = 12 * (n.val / 12) + i.val := by
      split at hk <;> omega
    have r : (11 * (12 * (n.val / 12) + i.val) + k) % 11 = k := by
      split at hk <;> omega
    have r2 : (12 * (n.val / 12) + i.val) % 12 = i.val := by omega
    have d2 : (12 * (n.val / 12) + i.val) / 12 = n.val / 12 := by omega
    rw [d, r, r2, d2]
    split at hk <;> split <;> omega
  · intro e he
    have h := (Finset.mem_filter.mp he).2
    refine Fin.ext ?_
    have he := e.isLt
    show 11 * (12 * (n.val / 12) + e.val / 11 % 12) + (if n.val % 12 < e.val / 11 % 12 then n.val % 12 else n.val % 12 - 1) = e.val
    unfold target at h
    split at h
    · rw [if_pos (by omega)]
      omega
    · rw [if_neg (by omega)]
      omega
  · intro i hi
    have h : ¬ 12 * (n.val / 12) + i.val = n.val := fun q => (Finset.mem_filter.mp hi).2 (Fin.ext q)
    refine Fin.ext ?_
    have hi := i.isLt
    show (11 * (12 * (n.val / 12) + i.val) + (if n.val % 12 < i.val then n.val % 12 else n.val % 12 - 1)) / 11 % 12 = i.val
    obtain ⟨k, hk⟩ : ∃ k, k = if n.val % 12 < i.val then n.val % 12 else n.val % 12 - 1 := ⟨_, rfl⟩
    rw [← hk]
    have d : (11 * (12 * (n.val / 12) + i.val) + k) / 11 = 12 * (n.val / 12) + i.val := by
      split at hk <;> omega
    rw [d]
    omega
  · intro e he
    have h := (Finset.mem_filter.mp he).2
    refine congrArg f (Fin.ext ?_)
    have he := e.isLt
    show e.val / 11 = 12 * (n.val / 12) + e.val / 11 % 12
    unfold target at h
    split at h <;> omega

theorem coe_sum {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The sum over the edges that end at a node, of a real at their start: the others of its graph. -/
theorem around (z : Fin 3072 → ℝ) (n : Fin 3072) :
    (∑ e : Fin 33792, if target e = n.val then (z (source e) : EReal) else 0) = ((whole z n - z n : ℝ) : EReal) := by
  refine (others (fun k => (z k : EReal)) n).trans ?_
  have split_off : ∀ i : Fin 12, (if mate n i = n then (0 : EReal) else (z (mate n i) : EReal))
      = ((z (mate n i) - if i = ⟨n.val % 12, by omega⟩ then z n else 0 : ℝ) : EReal) := fun i => by
    by_cases q : mate n i = n
    · have q' : 12 * (n.val / 12) + i.val = n.val := congrArg Fin.val q
      rw [if_pos q, if_pos (Fin.ext (show i.val = n.val % 12 by omega)), q, sub_self, EReal.coe_zero]
    · have q' : ¬ i = ⟨n.val % 12, by omega⟩ := fun h => q (Fin.ext (show 12 * (n.val / 12) + i.val = n.val by
        have := congrArg Fin.val h
        simp only at this
        omega))
      rw [if_neg q, if_neg q', sub_zero]
  rw [Finset.sum_congr rfl fun i _ => split_off i, coe_sum, Finset.sum_sub_distrib]
  rw [Finset.sum_ite_eq' Finset.univ, if_pos (Finset.mem_univ _)]
  rfl

theorem toInt_small (t : ℕ) (h : t < 2147483648) : (BitVec.ofNat 32 t).toInt = (t : Int) := by
  rw [BitVec.toInt_eq_toNat_of_lt (by rw [BitVec.toNat_ofNat]; omega), BitVec.toNat_ofNat]
  omega

theorem target_lt (e : Fin 33792) : target e < 3072 := by
  have := e.isLt
  unfold target
  split <;> omega

/-- The words of the edges' ends: a row of the edge list is what the edges say. -/
theorem landing (idx : IVec S33792x1 32) (h : ∀ e : Fin 33792, idx (ix2 e 0) = BitVec.ofNat 32 (target e)) (u : Fin 33792 → EReal) (n : Fin 3072) :
    (∑ e : Fin 33792, if (idx (ix2 e 0)).toInt = (n.val : Int) then u e else 0) = ∑ e : Fin 33792, if target e = n.val then u e else 0 := by
  refine Finset.sum_congr rfl fun e _ => if_congr ?_ rfl rfl
  rw [h, toInt_small _ (lt_trans (target_lt e) (by norm_num))]
  exact Int.ofNat_inj

end Cert.ReferenceIdeal.Edges

end
-- ==== Proof.RefTail.lean ====
/- The reference after its graph layers: the graph means, the normalisation and the dense layers. -/
module

public import proofs.«01_k».proof.Proof.RefRows
public import proofs.«01_k».proof.Proof.RefEdges
public import proofs.«01_k».proof.Proof.Graph0
public import proofs.«01_k».proof.Proof.Net

@[expose] public section

set_option maxRecDepth 16384

noncomputable section

namespace Cert.ReferenceIdeal.Tail

open Idealize.ShloMosaic Idealize.ShloMosaic.TcCoe Cert.ReferenceIdeal.Read Cert.Spec

theorem landing (x2 : IVec S3072 32) (idx : IVec S3072x1 32) (hi : ∀ n : Fin 3072, idx (ix2 n 0) = x2 (ix1 n))
    (hb : ∀ n : Fin 3072, x2 (ix1 n) = BitVec.ofNat 32 (n.val / 12)) (u : Fin 3072 → EReal) (g : Fin 256) :
    (∑ n : Fin 3072, if (idx (ix2 n 0)).toInt = (g.val : Int) then u n else 0)
      = ∑ i : Fin 12, u ⟨12 * g.val + i.val, by omega⟩ := by
  rw [← KernelIdeal.Graph.sum_graph]
  refine Finset.sum_congr rfl fun n _ => ?_
  rw [hi, hb, Edges.toInt_small _ (by omega)]
  by_cases q : n.val / 12 = g.val
  · rw [if_pos (by exact_mod_cast q), if_pos q, one_mul]
  · rw [if_neg (by exact_mod_cast q), if_neg q, zero_mul]

/-- Each graph has twelve nodes. -/
theorem count (x2 : IVec S3072 32) (hb : ∀ n : Fin 3072, x2 (ix1 n) = BitVec.ofNat 32 (n.val / 12)) (g : Fin 256)
    (j : Fin 384) : val_main_v337 (F := Ideal) x2 (ix2 g j) = ((12 : ℝ) : EReal) := by
  have s : val_main_v14 (F := Ideal) x2 (ix1 g) = ((12 : ℝ) : EReal) := by
    unfold val_main_v14
    rw [Rows.scatter_256, landing x2 _ (fun n => by pointwise [val_main_v13]) hb fun n => val_main_v11 (F := Ideal)  (ix1 n)]
    have z : val_main_v12 (F := Ideal)  (ix1 g) = (0 : EReal) := by
      pointwise [val_main_v12, val_main_cst_3]
    have u : ∀ n : Fin 3072, val_main_v11 (F := Ideal)  (ix1 n) = ((1 : ℝ) : EReal) := fun n => by
      pointwise [val_main_v11, val_main_cst_2]
      exact EReal.coe_one.symm
    rw [z, zero_add]
    simp only [u]
    rw [Edges.coe_sum]
    norm_num
  have r : val_main_v337 (F := Ideal) x2 (ix2 g j) = max (val_main_v14 (F := Ideal) x2 (ix1 g)) (1 : EReal) := by
    unfold val_main_v337 val_main_v17 val_main_v15
    generalize val_main_v14 (F := Ideal) x2 = d
    pointwise [val_main_v16, val_main_cst_4]
  rw [r, s, ← EReal.coe_one]
  exact max_eq_left (EReal.coe_le_coe_iff.mpr (by norm_num))

/-- The graph means. -/
theorem means (x0 : FVec Ideal S3072x1000 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32)
    (hb : ∀ n : Fin 3072, x2 (ix1 n) = BitVec.ofNat 32 (n.val / 12)) (g : Fin 256) (j : Fin 384) :
    val_main_v338 (F := Ideal) x0 x2 x3 x4 x5 x6 x7 x8 x9 x10 x11 x12 x13 x14 x15 x16 x17 (ix2 g j) = graphMean (fun n j => val_main_v333 (F := Ideal) x0 x3 x4 x5 x6 x7 x8 x9 x10 x11 x12 x13 x14 x15 x16 x17 (ix2 n j)) g j := by
  show Ideal.div (val_main_v336 (F := Ideal) x0 x2 x3 x4 x5 x6 x7 x8 x9 x10 x11 x12 x13 x14 x15 x16 x17 (ix2 g j)) (val_main_v337 (F := Ideal) x2 (ix2 g j)) = _
  rw [count x2 hb]
  unfold val_main_v336
  rw [Rows.scatter_256_384, landing x2 _ (fun n => by pointwise [val_main_v335]) hb fun n => val_main_v333 (F := Ideal) x0 x3 x4 x5 x6 x7 x8 x9 x10 x11 x12 x13 x14 x15 x16 x17 (ix2 n j)]
  have z : val_main_v334 (F := Ideal)  (ix2 g j) = (0 : EReal) := by
    pointwise [val_main_v334, val_main_cst_47]
  rw [z, zero_add]
  rfl

/-- The mean of a graph's columns. -/
theorem centre (x0 : FVec Ideal S3072x1000 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (g : Fin 256) (i : Fin 1) :
    val_main_v342 (F := Ideal) x0 x2 x3 x4 x5 x6 x7 x8 x9 x10 x11 x12 x13 x14 x15 x16 x17 (ix2 g i) = Ideal.div (∑ k : Fin 384, val_main_v338 (F := Ideal) x0 x2 x3 x4 x5 x6 x7 x8 x9 x10 x11 x12 x13 x14 x15 x16 x17 (ix2 g k)) cols := by
  unfold val_main_v342 val_main_v340 val_main_v339
  generalize val_main_v338 (F := Ideal) x0 x2 x3 x4 x5 x6 x7 x8 x9 x10 x11 x12 x13 x14 x15 x16 x17 = d
  pointwise [val_main_v341, val_main_cst_49, val_main_cst_48]
  rfl

theorem centred₁ (x0 : FVec Ideal S3072x1000 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (g : Fin 256) (j : Fin 384) :
    val_main_v344 (F := Ideal) x0 x2 x3 x4 x5 x6 x7 x8 x9 x10 x11 x12 x13 x14 x15 x16 x17 (ix2 g j) = centred (fun g j => val_main_v338 (F := Ideal) x0 x2 x3 x4 x5 x6 x7 x8 x9 x10 x11 x12 x13 x14 x15 x16 x17 (ix2 g j)) g j := by
  have c := centre x0 x2 x3 x4 x5 x6 x7 x8 x9 x10 x11 x12 x13 x14 x15 x16 x17 g 0
  unfold centred
  rw [← c]
  unfold val_main_v344 val_main_v343
  generalize val_main_v342 (F := Ideal) x0 x2 x3 x4 x5 x6 x7 x8 x9 x10 x11 x12 x13 x14 x15 x16 x17 = e
  generalize val_main_v338 (F := Ideal) x0 x2 x3 x4 x5 x6 x7 x8 x9 x10 x11 x12 x13 x14 x15 x16 x17 = d
  pointwise

theorem centred₂ (x0 : FVec Ideal S3072x1000 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (g : Fin 256) (j : Fin 384) :
    val_main_v346 (F := Ideal) x0 x2 x3 x4 x5 x6 x7 x8 x9 x10 x11 x12 x13 x14 x15 x16 x17 (ix2 g j) = centred (fun g j => val_main_v338 (F := Ideal) x0 x2 x3 x4 x5 x6 x7 x8 x9 x10 x11 x12 x13 x14 x15 x16 x17 (ix2 g j)) g j := by
  have c := centre x0 x2 x3 x4 x5 x6 x7 x8 x9 x10 x11 x12 x13 x14 x15 x16 x17 g 0
  unfold centred
  rw [← c]
  unfold val_main_v346 val_main_v345
  generalize val_main_v342 (F := Ideal) x0 x2 x3 x4 x5 x6 x7 x8 x9 x10 x11 x12 x13 x14 x15 x16 x17 = e
  generalize val_main_v338 (F := Ideal) x0 x2 x3 x4 x5 x6 x7 x8 x9 x10 x11 x12 x13 x14 x15 x16 x17 = d
  pointwise

theorem centred₃ (x0 : FVec Ideal S3072x1000 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (g : Fin 256) (j : Fin 384) :
    val_main_v353 (F := Ideal) x0 x2 x3 x4 x5 x6 x7 x8 x9 x10 x11 x12 x13 x14 x15 x16 x17 (ix2 g j) = centred (fun g j => val_main_v338 (F := Ideal) x0 x2 x3 x4 x5 x6 x7 x8 x9 x10 x11 x12 x13 x14 x15 x16 x17 (ix2 g j)) g j := by
  have c := centre x0 x2 x3 x4 x5 x6 x7 x8 x9 x10 x11 x12 x13 x14 x15 x16 x17 g 0
  unfold centred
  rw [← c]
  unfold val_main_v353 val_main_v352
  generalize val_main_v342 (F := Ideal) x0 x2 x3 x4 x5 x6 x7 x8 x9 x10 x11 x12 x13 x14 x15 x16 x17 = e
  generalize val_main_v338 (F := Ideal) x0 x2 x3 x4 x5 x6 x7 x8 x9 x10 x11 x12 x13 x14 x15 x16 x17 = d
  pointwise

/-- The root of the mean square. -/
theorem root (x0 : FVec Ideal S3072x1000 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (g : Fin 256) (i : Fin 1) :
    val_main_v356 (F := Ideal) x0 x2 x3 x4 x5 x6 x7 x8 x9 x10 x11 x12 x13 x14 x15 x16 x17 (ix2 g i) = Ideal.sqrt (scatter (fun g j => val_main_v338 (F := Ideal) x0 x2 x3 x4 x5 x6 x7 x8 x9 x10 x11 x12 x13 x14 x15 x16 x17 (ix2 g j)) g) := by
  have a := centred₁ x0 x2 x3 x4 x5 x6 x7 x8 x9 x10 x11 x12 x13 x14 x15 x16 x17 g
  have b := centred₂ x0 x2 x3 x4 x5 x6 x7 x8 x9 x10 x11 x12 x13 x14 x15 x16 x17 g
  unfold scatter
  simp only [← a]
  have e : val_main_v348 (F := Ideal) x0 x2 x3 x4 x5 x6 x7 x8 x9 x10 x11 x12 x13 x14 x15 x16 x17 (ix1 g) = ∑ j : Fin 384, val_main_v344 (F := Ideal) x0 x2 x3 x4 x5 x6 x7 x8 x9 x10 x11 x12 x13 x14 x15 x16 x17 (ix2 g j) * val_main_v344 (F := Ideal) x0 x2 x3 x4 x5 x6 x7 x8 x9 x10 x11 x12 x13 x14 x15 x16 x17 (ix2 g j) := by
    have p : ∀ j, val_main_v347 (F := Ideal) x0 x2 x3 x4 x5 x6 x7 x8 x9 x10 x11 x12 x13 x14 x15 x16 x17 (ix2 g j) = val_main_v344 (F := Ideal) x0 x2 x3 x4 x5 x6 x7 x8 x9 x10 x11 x12 x13 x14 x15 x16 x17 (ix2 g j) * val_main_v344 (F := Ideal) x0 x2 x3 x4 x5 x6 x7 x8 x9 x10 x11 x12 x13 x14 x15 x16 x17 (ix2 g j) := fun j => by
      have q := (b j).trans (a j).symm
      show val_main_v344 (F := Ideal) x0 x2 x3 x4 x5 x6 x7 x8 x9 x10 x11 x12 x13 x14 x15 x16 x17 (ix2 g j) * val_main_v346 (F := Ideal) x0 x2 x3 x4 x5 x6 x7 x8 x9 x10 x11 x12 x13 x14 x15 x16 x17 (ix2 g j) = _
      rw [q]
    simp only [← p]
    unfold val_main_v348
    generalize val_main_v347 (F := Ideal) x0 x2 x3 x4 x5 x6 x7 x8 x9 x10 x11 x12 x13 x14 x15 x16 x17 = d
    pointwise [val_main_cst_50]
  rw [← e]
  unfold val_main_v356 val_main_v355 val_main_v351 val_main_v349
  generalize val_main_v348 (F := Ideal) x0 x2 x3 x4 x5 x6 x7 x8 x9 x10 x11 x12 x13 x14 x15 x16 x17 = d
  pointwise [val_main_v350, val_main_v354, val_main_cst_51, val_main_cst_52]
  rfl

/-- The normalised graph means. -/
theorem normal (x0 : FVec Ideal S3072x1000 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (x18 : FVec Ideal S384 .f32) (x19 : FVec Ideal S384 .f32) (g : Fin 256) (j : Fin 384) :
    val_main_v364 (F := Ideal) x0 x2 x3 x4 x5 x6 x7 x8 x9 x10 x11 x12 x13 x14 x15 x16 x17 x18 x19 (ix2 g j)
      = normed (fun g j => val_main_v338 (F := Ideal) x0 x2 x3 x4 x5 x6 x7 x8 x9 x10 x11 x12 x13 x14 x15 x16 x17 (ix2 g j)) (fun j => x18 (ix1 j)) (fun j => x19 (ix1 j)) g j := by
  have c := centred₃ x0 x2 x3 x4 x5 x6 x7 x8 x9 x10 x11 x12 x13 x14 x15 x16 x17 g j
  have r := root x0 x2 x3 x4 x5 x6 x7 x8 x9 x10 x11 x12 x13 x14 x15 x16 x17 g 0
  unfold normed
  rw [← c, ← r]
  unfold val_main_v364 val_main_v361 val_main_v358 val_main_v357
  generalize val_main_v356 (F := Ideal) x0 x2 x3 x4 x5 x6 x7 x8 x9 x10 x11 x12 x13 x14 x15 x16 x17 = e
  generalize val_main_v353 (F := Ideal) x0 x2 x3 x4 x5 x6 x7 x8 x9 x10 x11 x12 x13 x14 x15 x16 x17 = d
  pointwise [val_main_v360, val_main_v359, val_main_v363, val_main_v362]

/-- The dense layers. -/
theorem dense (x0 : FVec Ideal S3072x1000 .f32) (x1 : FVec Ideal S256x32 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (x18 : FVec Ideal S384 .f32) (x19 : FVec Ideal S384 .f32) (x20 : FVec Ideal S416x128 .f32) (x21 : FVec Ideal S128 .f32) (x22 : FVec Ideal S128x5 .f32) (x23 : FVec Ideal S5 .f32) (g : Fin 256) (o : Fin 5) :
    val_main_v375 (F := Ideal) x0 x1 x2 x3 x4 x5 x6 x7 x8 x9 x10 x11 x12 x13 x14 x15 x16 x17 x18 x19 x20 x21 x22 x23 (ix2 g o)
      = head (fun g j => val_main_v364 (F := Ideal) x0 x2 x3 x4 x5 x6 x7 x8 x9 x10 x11 x12 x13 x14 x15 x16 x17 x18 x19 (ix2 g j)) (fun g k => x1 (ix2 g k)) (fun j c => x20 (ix2 j c)) (fun c => x21 (ix1 c))
          (fun c o => x22 (ix2 c o)) (fun o => x23 (ix1 o)) g o := by
  have f : ∀ c : Fin 128, val_main_v366 (F := Ideal) x0 x1 x2 x3 x4 x5 x6 x7 x8 x9 x10 x11 x12 x13 x14 x15 x16 x17 x18 x19 x20 (ix2 g c)
      = (∑ j : Fin 384, val_main_v364 (F := Ideal) x0 x2 x3 x4 x5 x6 x7 x8 x9 x10 x11 x12 x13 x14 x15 x16 x17 x18 x19 (ix2 g j) * x20 (ix2 ⟨j.val, by omega⟩ c))
        + ∑ k : Fin 32, x1 (ix2 g k) * x20 (ix2 ⟨384 + k.val, by omega⟩ c) := fun c => by
    unfold val_main_v366 val_main_v365
    generalize val_main_v364 (F := Ideal) x0 x2 x3 x4 x5 x6 x7 x8 x9 x10 x11 x12 x13 x14 x15 x16 x17 x18 x19 = d
    pointwise
  unfold head
  simp only [← f]
  unfold val_main_v375 val_main_v372 val_main_v371 val_main_v369
  generalize val_main_v366 (F := Ideal) x0 x1 x2 x3 x4 x5 x6 x7 x8 x9 x10 x11 x12 x13 x14 x15 x16 x17 x18 x19 x20 = d
  pointwise [val_main_v370, val_main_cst_53, val_main_v368, val_main_v367, val_main_v374, val_main_v373]

end Cert.ReferenceIdeal.Tail

end
-- ==== Proof.RefSteps.lean ====
/- One step of the reference's propagation, and the words of its edge list. -/
module

public import proofs.«01_k».proof.Proof.RefEdges

@[expose] public section

set_option maxRecDepth 16384

noncomputable section

namespace Cert.ReferenceIdeal.Steps

open Idealize.ShloMosaic Idealize.ShloMosaic.TcCoe Cert.ReferenceIdeal.Read Cert.Spec

theorem prop_64 (x zero deg : FVec Ideal S3072x64 .f32) (src dst : IVec S33792x1 32) (z : Fin 3072 → Fin 64 → ℝ)
    (hz : ∀ (n : Fin 3072) (j : Fin 64), x (ix2 n j) = (z n j : EReal))
    (hs : ∀ e : Fin 33792, src (ix2 e 0) = BitVec.ofNat 32 (Edges.source e).val)
    (hd : ∀ e : Fin 33792, dst (ix2 e 0) = BitVec.ofNat 32 (Edges.target e))
    (h0 : ∀ (n : Fin 3072) (j : Fin 64), zero (ix2 n j) = (0 : EReal))
    (hg : ∀ (n : Fin 3072) (j : Fin 64), deg (ix2 n j) = ((11 : ℝ) : EReal)) (n : Fin 3072) (j : Fin 64) :
    Host.divf (Host.scatterAdd scatter_S3072x64_S33792x1_S33792x64_1_0_0_1 zero dst
      (Host.gather gather_S3072x64_S33792x1_S33792x64_1_0_n_n_0_1_164 x src)) deg (ix2 n j)
      = (prop (fun n => z n j) n : EReal) := by
  show Ideal.div (Host.scatterAdd scatter_S3072x64_S33792x1_S33792x64_1_0_0_1 zero dst
      (Host.gather gather_S3072x64_S33792x1_S33792x64_1_0_n_n_0_1_164 x src) (ix2 n j)) (deg (ix2 n j)) = _
  rw [Rows.scatter_3072_64, h0, hg, zero_add, Edges.landing dst hd]
  have g : ∀ e : Fin 33792, Host.gather gather_S3072x64_S33792x1_S33792x64_1_0_n_n_0_1_164 x src (ix2 e j)
      = (z (Edges.source e) j : EReal) := fun e => (Rows.gather_64 x src e j (Edges.source e) (hs e)).trans (hz _ _)
  simp only [g]
  rw [Edges.around fun n => z n j, Ideal.div_coe (by norm_num), ← EReal.coe_mul]
  unfold prop whole
  rw [mul_one_div]

theorem prop_384 (x zero deg : FVec Ideal S3072x384 .f32) (src dst : IVec S33792x1 32) (z : Fin 3072 → Fin 384 → ℝ)
    (hz : ∀ (n : Fin 3072) (j : Fin 384), x (ix2 n j) = (z n j : EReal))
    (hs : ∀ e : Fin 33792, src (ix2 e 0) = BitVec.ofNat 32 (Edges.source e).val)
    (hd : ∀ e : Fin 33792, dst (ix2 e 0) = BitVec.ofNat 32 (Edges.target e))
    (h0 : ∀ (n : Fin 3072) (j : Fin 384), zero (ix2 n j) = (0 : EReal))
    (hg : ∀ (n : Fin 3072) (j : Fin 384), deg (ix2 n j) = ((11 : ℝ) : EReal)) (n : Fin 3072) (j : Fin 384) :
    Host.divf (Host.scatterAdd scatter_S3072x384_S33792x1_S33792x384_1_0_0_1 zero dst
      (Host.gather gather_S3072x384_S33792x1_S33792x384_1_0_n_n_0_1_1384 x src)) deg (ix2 n j)
      = (prop (fun n => z n j) n : EReal) := by
  show Ideal.div (Host.scatterAdd scatter_S3072x384_S33792x1_S33792x384_1_0_0_1 zero dst
      (Host.gather gather_S3072x384_S33792x1_S33792x384_1_0_n_n_0_1_1384 x src) (ix2 n j)) (deg (ix2 n j)) = _
  rw [Rows.scatter_3072_384, h0, hg, zero_add, Edges.landing dst hd]
  have g : ∀ e : Fin 33792, Host.gather gather_S3072x384_S33792x1_S33792x384_1_0_n_n_0_1_1384 x src (ix2 e j)
      = (z (Edges.source e) j : EReal) := fun e => (Rows.gather_384 x src e j (Edges.source e) (hs e)).trans (hz _ _)
  simp only [g]
  rw [Edges.around fun n => z n j, Ideal.div_coe (by norm_num), ← EReal.coe_mul]
  unfold prop whole
  rw [mul_one_div]

theorem wrap (t : ℕ) (h : t < 3072) : Scalar.select (IntOp.cmpi .slt (BitVec.ofNat 32 t) 0#32) (IntOp.addi (BitVec.ofNat 32 t) 3072#32) (BitVec.ofNat 32 t)
    = BitVec.ofNat 32 t :=
  Routing.wrap_of_lt _ _ (by rw [BitVec.toNat_ofNat]; omega)

variable (x3 : IVec S2x33792 32)

theorem src_1_1 (h : ∀ e : Fin 33792, x3 (ix2 0 e) = BitVec.ofNat 32 (Edges.source e).val) (e : Fin 33792) :
    val_main_v186 (F := Ideal) x3 (ix2 e 0) = BitVec.ofNat 32 (Edges.source e).val := by
  have w := wrap (Edges.source e).val (Edges.source e).isLt
  rw [← h e] at w
  refine Eq.trans ?_ (w.trans (h e))
  pointwise [val_main_v186, val_main_v185, val_main_v184, val_main_v183, val_main_v182, val_main_v181, val_main_v1, val_main_v0, val_main_c_17, val_main_c_18]

theorem dst_1_1 (h : ∀ e : Fin 33792, x3 (ix2 1 e) = BitVec.ofNat 32 (Edges.target e)) (e : Fin 33792) :
    val_main_v189 (F := Ideal) x3 (ix2 e 0) = BitVec.ofNat 32 (Edges.target e) := by
  refine Eq.trans ?_ (h e)
  pointwise [val_main_v189, val_main_v3, val_main_v2]

theorem src_1_2 (h : ∀ e : Fin 33792, x3 (ix2 0 e) = BitVec.ofNat 32 (Edges.source e).val) (e : Fin 33792) :
    val_main_v202 (F := Ideal) x3 (ix2 e 0) = BitVec.ofNat 32 (Edges.source e).val := by
  have w := wrap (Edges.source e).val (Edges.source e).isLt
  rw [← h e] at w
  refine Eq.trans ?_ (w.trans (h e))
  pointwise [val_main_v202, val_main_v201, val_main_v200, val_main_v199, val_main_v198, val_main_v197, val_main_v1, val_main_v0, val_main_c_20, val_main_c_21]

theorem dst_1_2 (h : ∀ e : Fin 33792, x3 (ix2 1 e) = BitVec.ofNat 32 (Edges.target e)) (e : Fin 33792) :
    val_main_v205 (F := Ideal) x3 (ix2 e 0) = BitVec.ofNat 32 (Edges.target e) := by
  refine Eq.trans ?_ (h e)
  pointwise [val_main_v205, val_main_v3, val_main_v2]

theorem src_1_3 (h : ∀ e : Fin 33792, x3 (ix2 0 e) = BitVec.ofNat 32 (Edges.source e).val) (e : Fin 33792) :
    val_main_v218 (F := Ideal) x3 (ix2 e 0) = BitVec.ofNat 32 (Edges.source e).val := by
  have w := wrap (Edges.source e).val (Edges.source e).isLt
  rw [← h e] at w
  refine Eq.trans ?_ (w.trans (h e))
  pointwise [val_main_v218, val_main_v217, val_main_v216, val_main_v215, val_main_v214, val_main_v213, val_main_v1, val_main_v0, val_main_c_23, val_main_c_24]

theorem dst_1_3 (h : ∀ e : Fin 33792, x3 (ix2 1 e) = BitVec.ofNat 32 (Edges.target e)) (e : Fin 33792) :
    val_main_v221 (F := Ideal) x3 (ix2 e 0) = BitVec.ofNat 32 (Edges.target e) := by
  refine Eq.trans ?_ (h e)
  pointwise [val_main_v221, val_main_v3, val_main_v2]

theorem src_2_1 (h : ∀ e : Fin 33792, x3 (ix2 0 e) = BitVec.ofNat 32 (Edges.source e).val) (e : Fin 33792) :
    val_main_v237 (F := Ideal) x3 (ix2 e 0) = BitVec.ofNat 32 (Edges.source e).val := by
  have w := wrap (Edges.source e).val (Edges.source e).isLt
  rw [← h e] at w
  refine Eq.trans ?_ (w.trans (h e))
  pointwise [val_main_v237, val_main_v236, val_main_v235, val_main_v234, val_main_v233, val_main_v232, val_main_v1, val_main_v0, val_main_c_27, val_main_c_28]

theorem dst_2_1 (h : ∀ e : Fin 33792, x3 (ix2 1 e) = BitVec.ofNat 32 (Edges.target e)) (e : Fin 33792) :
    val_main_v240 (F := Ideal) x3 (ix2 e 0) = BitVec.ofNat 32 (Edges.target e) := by
  refine Eq.trans ?_ (h e)
  pointwise [val_main_v240, val_main_v3, val_main_v2]

theorem src_2_2 (h : ∀ e : Fin 33792, x3 (ix2 0 e) = BitVec.ofNat 32 (Edges.source e).val) (e : Fin 33792) :
    val_main_v253 (F := Ideal) x3 (ix2 e 0) = BitVec.ofNat 32 (Edges.source e).val := by
  have w := wrap (Edges.source e).val (Edges.source e).isLt
  rw [← h e] at w
  refine Eq.trans ?_ (w.trans (h e))
  pointwise [val_main_v253, val_main_v252, val_main_v251, val_main_v250, val_main_v249, val_main_v248, val_main_v1, val_main_v0, val_main_c_30, val_main_c_31]

theorem dst_2_2 (h : ∀ e : Fin 33792, x3 (ix2 1 e) = BitVec.ofNat 32 (Edges.target e)) (e : Fin 33792) :
    val_main_v256 (F := Ideal) x3 (ix2 e 0) = BitVec.ofNat 32 (Edges.target e) := by
  refine Eq.trans ?_ (h e)
  pointwise [val_main_v256, val_main_v3, val_main_v2]

theorem src_2_3 (h : ∀ e : Fin 33792, x3 (ix2 0 e) = BitVec.ofNat 32 (Edges.source e).val) (e : Fin 33792) :
    val_main_v269 (F := Ideal) x3 (ix2 e 0) = BitVec.ofNat 32 (Edges.source e).val := by
  have w := wrap (Edges.source e).val (Edges.source e).isLt
  rw [← h e] at w
  refine Eq.trans ?_ (w.trans (h e))
  pointwise [val_main_v269, val_main_v268, val_main_v267, val_main_v266, val_main_v265, val_main_v264, val_main_v1, val_main_v0, val_main_c_33, val_main_c_34]

theorem dst_2_3 (h : ∀ e : Fin 33792, x3 (ix2 1 e) = BitVec.ofNat 32 (Edges.target e)) (e : Fin 33792) :
    val_main_v272 (F := Ideal) x3 (ix2 e 0) = BitVec.ofNat 32 (Edges.target e) := by
  refine Eq.trans ?_ (h e)
  pointwise [val_main_v272, val_main_v3, val_main_v2]

theorem src_3_1 (h : ∀ e : Fin 33792, x3 (ix2 0 e) = BitVec.ofNat 32 (Edges.source e).val) (e : Fin 33792) :
    val_main_v288 (F := Ideal) x3 (ix2 e 0) = BitVec.ofNat 32 (Edges.source e).val := by
  have w := wrap (Edges.source e).val (Edges.source e).isLt
  rw [← h e] at w
  refine Eq.trans ?_ (w.trans (h e))
  pointwise [val_main_v288, val_main_v287, val_main_v286, val_main_v285, val_main_v284, val_main_v283, val_main_v1, val_main_v0, val_main_c_37, val_main_c_38]

theorem dst_3_1 (h : ∀ e : Fin 33792, x3 (ix2 1 e) = BitVec.ofNat 32 (Edges.target e)) (e : Fin 33792) :
    val_main_v291 (F := Ideal) x3 (ix2 e 0) = BitVec.ofNat 32 (Edges.target e) := by
  refine Eq.trans ?_ (h e)
  pointwise [val_main_v291, val_main_v3, val_main_v2]

theorem src_3_2 (h : ∀ e : Fin 33792, x3 (ix2 0 e) = BitVec.ofNat 32 (Edges.source e).val) (e : Fin 33792) :
    val_main_v304 (F := Ideal) x3 (ix2 e 0) = BitVec.ofNat 32 (Edges.source e).val := by
  have w := wrap (Edges.source e).val (Edges.source e).isLt
  rw [← h e] at w
  refine Eq.trans ?_ (w.trans (h e))
  pointwise [val_main_v304, val_main_v303, val_main_v302, val_main_v301, val_main_v300, val_main_v299, val_main_v1, val_main_v0, val_main_c_40, val_main_c_41]

theorem dst_3_2 (h : ∀ e : Fin 33792, x3 (ix2 1 e) = BitVec.ofNat 32 (Edges.target e)) (e : Fin 33792) :
    val_main_v307 (F := Ideal) x3 (ix2 e 0) = BitVec.ofNat 32 (Edges.target e) := by
  refine Eq.trans ?_ (h e)
  pointwise [val_main_v307, val_main_v3, val_main_v2]

theorem src_3_3 (h : ∀ e : Fin 33792, x3 (ix2 0 e) = BitVec.ofNat 32 (Edges.source e).val) (e : Fin 33792) :
    val_main_v320 (F := Ideal) x3 (ix2 e 0) = BitVec.ofNat 32 (Edges.source e).val := by
  have w := wrap (Edges.source e).val (Edges.source e).isLt
  rw [← h e] at w
  refine Eq.trans ?_ (w.trans (h e))
  pointwise [val_main_v320, val_main_v319, val_main_v318, val_main_v317, val_main_v316, val_main_v315, val_main_v1, val_main_v0, val_main_c_43, val_main_c_44]

theorem dst_3_3 (h : ∀ e : Fin 33792, x3 (ix2 1 e) = BitVec.ofNat 32 (Edges.target e)) (e : Fin 33792) :
    val_main_v323 (F := Ideal) x3 (ix2 e 0) = BitVec.ofNat 32 (Edges.target e) := by
  refine Eq.trans ?_ (h e)
  pointwise [val_main_v323, val_main_v3, val_main_v2]

theorem degree (h : ∀ e : Fin 33792, x3 (ix2 1 e) = BitVec.ofNat 32 (Edges.target e)) (n : Fin 3072) (i : Fin 1) :
    val_main_v10 (F := Ideal) x3 (ix2 n i) = ((11 : ℝ) : EReal) := by
  have hd : ∀ e : Fin 33792, val_main_v6 (F := Ideal) x3 (ix2 e 0) = BitVec.ofNat 32 (Edges.target e) := fun e => by
    refine Eq.trans ?_ (h e)
    pointwise [val_main_v6, val_main_v3, val_main_v2]
  have one : (Ideal.ofBits .f32 0x3F800000#32 : EReal) = ((1 : ℝ) : EReal) := by
    simp [Ideal.ofBits, Ideal.ieee]
    rw [← EReal.coe_mul]
    norm_num
  have s : val_main_v7 (F := Ideal) x3 (ix1 n) = ((11 : ℝ) : EReal) := by
    unfold val_main_v7
    rw [Rows.scatter_3072, Edges.landing _ hd]
    have z : val_main_v5 (F := Ideal) (ix1 n) = (0 : EReal) := by
      pointwise [val_main_v5, val_main_cst_0]
    have u : ∀ e : Fin 33792, val_main_v4 (F := Ideal) (ix1 e) = ((1 : ℝ) : EReal) := fun e => by
      pointwise [val_main_v4, val_main_cst]
      exact EReal.coe_one.symm
    rw [z, zero_add]
    simp only [u]
    rw [Edges.around (fun _ => 1) n]
    refine congrArg _ ?_
    unfold whole
    norm_num
  have r : val_main_v10 (F := Ideal) x3 (ix2 n i) = max (val_main_v7 (F := Ideal) x3 (ix1 n)) ((1 : ℝ) : EReal) := by
    rw [← one]
    unfold val_main_v10 val_main_v9 val_main_v8 val_main_cst_1
    generalize val_main_v7 (F := Ideal) x3 = d
    pointwise
  rw [r, s]
  exact max_eq_left (EReal.coe_le_coe_iff.mpr (by norm_num))

end Cert.ReferenceIdeal.Steps

end
-- ==== Proof.RefLayers.lean ====
/- The reference's three graph layers, each over features that are real numbers. -/
module

public import proofs.«01_k».proof.Proof.RefSteps

@[expose] public section

set_option maxRecDepth 16384

noncomputable section

namespace Cert.ReferenceIdeal.Layers

open Idealize.ShloMosaic Idealize.ShloMosaic.TcCoe Cert.ReferenceIdeal.Read Cert.Spec

open Cert.ReferenceIdeal.Steps

/-- Hop 1 of layer 1. -/
theorem hop_1_1 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32)
    (hs : ∀ e : Fin 33792, x3 (ix2 0 e) = BitVec.ofNat 32 (Edges.source e).val)
    (hd : ∀ e : Fin 33792, x3 (ix2 1 e) = BitVec.ofNat 32 (Edges.target e)) (z : Fin 3072 → Fin 64 → ℝ)
    (hz : ∀ (n : Fin 3072) (j : Fin 64), val_main_v180 (F := Ideal) x0 x4 x5 x6 x7 x8 x9 x10 x11 (ix2 n j) = (z n j : EReal)) (n : Fin 3072) (j : Fin 64) :
    val_main_v192 (F := Ideal) x0 x3 x4 x5 x6 x7 x8 x9 x10 x11 (ix2 n j) = (prop (fun n => z n j) n : EReal) := by
  unfold val_main_v192 val_main_v190 val_main_v187
  refine prop_64 _ _ _ _ _ z hz (src_1_1 x3 hs) (dst_1_1 x3 hd) (fun n j => ?_) (fun n j => ?_) n j
  · pointwise [val_main_v188, val_main_cst_19]
  · refine Eq.trans ?_ (degree x3 hd n 0)
    unfold val_main_v191
    generalize val_main_v10 (F := Ideal) x3 = d
    pointwise

/-- Slab 1 of layer 1 before the cut. -/
theorem slab_1_1 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (z : Fin 3072 → Fin 64 → ℝ)
    (hz : ∀ (n : Fin 3072) (j : Fin 64), val_main_v192 (F := Ideal) x0 x3 x4 x5 x6 x7 x8 x9 x10 x11 (ix2 n j) = (z n j : EReal)) (n : Fin 3072) (q : Fin 128) :
    val_main_v196 (F := Ideal) x0 x3 x4 x5 x6 x7 x8 x9 x10 x11 x12 x13 (ix2 n q) = (∑ i : Fin 64, (z n i : EReal) * x12 (ix3 0 i q)) + x13 (ix2 0 q) := by
  revert hz
  unfold val_main_v196 val_main_v193
  generalize val_main_v192 (F := Ideal) x0 x3 x4 x5 x6 x7 x8 x9 x10 x11 = d
  intro hz
  pointwise [val_main_v45, val_main_v44, val_main_v46, val_main_v47, val_main_v194, val_main_v195]
  simp only [hz]

/-- Hop 2 of layer 1. -/
theorem hop_1_2 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32)
    (hs : ∀ e : Fin 33792, x3 (ix2 0 e) = BitVec.ofNat 32 (Edges.source e).val)
    (hd : ∀ e : Fin 33792, x3 (ix2 1 e) = BitVec.ofNat 32 (Edges.target e)) (z : Fin 3072 → Fin 64 → ℝ)
    (hz : ∀ (n : Fin 3072) (j : Fin 64), val_main_v192 (F := Ideal) x0 x3 x4 x5 x6 x7 x8 x9 x10 x11 (ix2 n j) = (z n j : EReal)) (n : Fin 3072) (j : Fin 64) :
    val_main_v208 (F := Ideal) x0 x3 x4 x5 x6 x7 x8 x9 x10 x11 (ix2 n j) = (prop (fun n => z n j) n : EReal) := by
  unfold val_main_v208 val_main_v206 val_main_v203
  refine prop_64 _ _ _ _ _ z hz (src_1_2 x3 hs) (dst_1_2 x3 hd) (fun n j => ?_) (fun n j => ?_) n j
  · pointwise [val_main_v204, val_main_cst_22]
  · refine Eq.trans ?_ (degree x3 hd n 0)
    unfold val_main_v207
    generalize val_main_v10 (F := Ideal) x3 = d
    pointwise

/-- Slab 2 of layer 1 before the cut. -/
theorem slab_1_2 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (z : Fin 3072 → Fin 64 → ℝ)
    (hz : ∀ (n : Fin 3072) (j : Fin 64), val_main_v208 (F := Ideal) x0 x3 x4 x5 x6 x7 x8 x9 x10 x11 (ix2 n j) = (z n j : EReal)) (n : Fin 3072) (q : Fin 128) :
    val_main_v212 (F := Ideal) x0 x3 x4 x5 x6 x7 x8 x9 x10 x11 x12 x13 (ix2 n q) = (∑ i : Fin 64, (z n i : EReal) * x12 (ix3 1 i q)) + x13 (ix2 1 q) := by
  revert hz
  unfold val_main_v212 val_main_v209
  generalize val_main_v208 (F := Ideal) x0 x3 x4 x5 x6 x7 x8 x9 x10 x11 = d
  intro hz
  pointwise [val_main_v49, val_main_v48, val_main_v50, val_main_v51, val_main_v210, val_main_v211]
  simp only [hz]

/-- Hop 3 of layer 1. -/
theorem hop_1_3 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32)
    (hs : ∀ e : Fin 33792, x3 (ix2 0 e) = BitVec.ofNat 32 (Edges.source e).val)
    (hd : ∀ e : Fin 33792, x3 (ix2 1 e) = BitVec.ofNat 32 (Edges.target e)) (z : Fin 3072 → Fin 64 → ℝ)
    (hz : ∀ (n : Fin 3072) (j : Fin 64), val_main_v208 (F := Ideal) x0 x3 x4 x5 x6 x7 x8 x9 x10 x11 (ix2 n j) = (z n j : EReal)) (n : Fin 3072) (j : Fin 64) :
    val_main_v224 (F := Ideal) x0 x3 x4 x5 x6 x7 x8 x9 x10 x11 (ix2 n j) = (prop (fun n => z n j) n : EReal) := by
  unfold val_main_v224 val_main_v222 val_main_v219
  refine prop_64 _ _ _ _ _ z hz (src_1_3 x3 hs) (dst_1_3 x3 hd) (fun n j => ?_) (fun n j => ?_) n j
  · pointwise [val_main_v220, val_main_cst_25]
  · refine Eq.trans ?_ (degree x3 hd n 0)
    unfold val_main_v223
    generalize val_main_v10 (F := Ideal) x3 = d
    pointwise

/-- Slab 3 of layer 1 before the cut. -/
theorem slab_1_3 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (z : Fin 3072 → Fin 64 → ℝ)
    (hz : ∀ (n : Fin 3072) (j : Fin 64), val_main_v224 (F := Ideal) x0 x3 x4 x5 x6 x7 x8 x9 x10 x11 (ix2 n j) = (z n j : EReal)) (n : Fin 3072) (q : Fin 128) :
    val_main_v228 (F := Ideal) x0 x3 x4 x5 x6 x7 x8 x9 x10 x11 x12 x13 (ix2 n q) = (∑ i : Fin 64, (z n i : EReal) * x12 (ix3 2 i q)) + x13 (ix2 2 q) := by
  revert hz
  unfold val_main_v228 val_main_v225
  generalize val_main_v224 (F := Ideal) x0 x3 x4 x5 x6 x7 x8 x9 x10 x11 = d
  intro hz
  pointwise [val_main_v53, val_main_v52, val_main_v54, val_main_v55, val_main_v226, val_main_v227]
  simp only [hz]

/-- Layer 1. -/
theorem layer_1 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32)
    (hs : ∀ e : Fin 33792, x3 (ix2 0 e) = BitVec.ofNat 32 (Edges.source e).val)
    (hd : ∀ e : Fin 33792, x3 (ix2 1 e) = BitVec.ofNat 32 (Edges.target e)) (h : Fin 3072 → Fin 64 → ℝ)
    (hh : ∀ (n : Fin 3072) (j : Fin 64), val_main_v180 (F := Ideal) x0 x4 x5 x6 x7 x8 x9 x10 x11 (ix2 n j) = (h n j : EReal)) (n : Fin 3072) (j : Fin 384) :
    val_main_v231 (F := Ideal) x0 x3 x4 x5 x6 x7 x8 x9 x10 x11 x12 x13 (ix2 n j)
      = layer h (fun p i q => x12 (ix3 p i q)) (fun p q => x13 (ix2 p q)) n j := by
  have z₁ := hop_1_1 x0 x3 x4 x5 x6 x7 x8 x9 x10 x11 hs hd h hh
  have z₂ := hop_1_2 x0 x3 x4 x5 x6 x7 x8 x9 x10 x11 hs hd _ z₁
  have z₃ := hop_1_3 x0 x3 x4 x5 x6 x7 x8 x9 x10 x11 hs hd _ z₂
  have s₁ := slab_1_1 x0 x3 x4 x5 x6 x7 x8 x9 x10 x11 x12 x13 _ z₁ n
  have s₂ := slab_1_2 x0 x3 x4 x5 x6 x7 x8 x9 x10 x11 x12 x13 _ z₂ n
  have s₃ := slab_1_3 x0 x3 x4 x5 x6 x7 x8 x9 x10 x11 x12 x13 _ z₃ n
  rw [layer_eq]
  revert s₁ s₂ s₃
  unfold val_main_v231 val_main_v229
  generalize val_main_v196 (F := Ideal) x0 x3 x4 x5 x6 x7 x8 x9 x10 x11 x12 x13 = d₁
  generalize val_main_v212 (F := Ideal) x0 x3 x4 x5 x6 x7 x8 x9 x10 x11 x12 x13 = d₂
  generalize val_main_v228 (F := Ideal) x0 x3 x4 x5 x6 x7 x8 x9 x10 x11 x12 x13 = d₃
  intro s₁ s₂ s₃
  pointwise [val_main_v230, val_main_cst_26]
  simp only [s₁, s₂, s₃]
  rfl

/-- Hop 1 of layer 2. -/
theorem hop_2_1 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32)
    (hs : ∀ e : Fin 33792, x3 (ix2 0 e) = BitVec.ofNat 32 (Edges.source e).val)
    (hd : ∀ e : Fin 33792, x3 (ix2 1 e) = BitVec.ofNat 32 (Edges.target e)) (z : Fin 3072 → Fin 384 → ℝ)
    (hz : ∀ (n : Fin 3072) (j : Fin 384), val_main_v231 (F := Ideal) x0 x3 x4 x5 x6 x7 x8 x9 x10 x11 x12 x13 (ix2 n j) = (z n j : EReal)) (n : Fin 3072) (j : Fin 384) :
    val_main_v243 (F := Ideal) x0 x3 x4 x5 x6 x7 x8 x9 x10 x11 x12 x13 (ix2 n j) = (prop (fun n => z n j) n : EReal) := by
  unfold val_main_v243 val_main_v241 val_main_v238
  refine prop_384 _ _ _ _ _ z hz (src_2_1 x3 hs) (dst_2_1 x3 hd) (fun n j => ?_) (fun n j => ?_) n j
  · pointwise [val_main_v239, val_main_cst_29]
  · refine Eq.trans ?_ (degree x3 hd n 0)
    unfold val_main_v242
    generalize val_main_v10 (F := Ideal) x3 = d
    pointwise

/-- Slab 1 of layer 2 before the cut. -/
theorem slab_2_1 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (z : Fin 3072 → Fin 384 → ℝ)
    (hz : ∀ (n : Fin 3072) (j : Fin 384), val_main_v243 (F := Ideal) x0 x3 x4 x5 x6 x7 x8 x9 x10 x11 x12 x13 (ix2 n j) = (z n j : EReal)) (n : Fin 3072) (q : Fin 128) :
    val_main_v247 (F := Ideal) x0 x3 x4 x5 x6 x7 x8 x9 x10 x11 x12 x13 x14 x15 (ix2 n q) = (∑ i : Fin 384, (z n i : EReal) * x14 (ix3 0 i q)) + x15 (ix2 0 q) := by
  revert hz
  unfold val_main_v247 val_main_v244
  generalize val_main_v243 (F := Ideal) x0 x3 x4 x5 x6 x7 x8 x9 x10 x11 x12 x13 = d
  intro hz
  pointwise [val_main_v57, val_main_v56, val_main_v58, val_main_v59, val_main_v245, val_main_v246]
  simp only [hz]

/-- Hop 2 of layer 2. -/
theorem hop_2_2 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32)
    (hs : ∀ e : Fin 33792, x3 (ix2 0 e) = BitVec.ofNat 32 (Edges.source e).val)
    (hd : ∀ e : Fin 33792, x3 (ix2 1 e) = BitVec.ofNat 32 (Edges.target e)) (z : Fin 3072 → Fin 384 → ℝ)
    (hz : ∀ (n : Fin 3072) (j : Fin 384), val_main_v243 (F := Ideal) x0 x3 x4 x5 x6 x7 x8 x9 x10 x11 x12 x13 (ix2 n j) = (z n j : EReal)) (n : Fin 3072) (j : Fin 384) :
    val_main_v259 (F := Ideal) x0 x3 x4 x5 x6 x7 x8 x9 x10 x11 x12 x13 (ix2 n j) = (prop (fun n => z n j) n : EReal) := by
  unfold val_main_v259 val_main_v257 val_main_v254
  refine prop_384 _ _ _ _ _ z hz (src_2_2 x3 hs) (dst_2_2 x3 hd) (fun n j => ?_) (fun n j => ?_) n j
  · pointwise [val_main_v255, val_main_cst_32]
  · refine Eq.trans ?_ (degree x3 hd n 0)
    unfold val_main_v258
    generalize val_main_v10 (F := Ideal) x3 = d
    pointwise

/-- Slab 2 of layer 2 before the cut. -/
theorem slab_2_2 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (z : Fin 3072 → Fin 384 → ℝ)
    (hz : ∀ (n : Fin 3072) (j : Fin 384), val_main_v259 (F := Ideal) x0 x3 x4 x5 x6 x7 x8 x9 x10 x11 x12 x13 (ix2 n j) = (z n j : EReal)) (n : Fin 3072) (q : Fin 128) :
    val_main_v263 (F := Ideal) x0 x3 x4 x5 x6 x7 x8 x9 x10 x11 x12 x13 x14 x15 (ix2 n q) = (∑ i : Fin 384, (z n i : EReal) * x14 (ix3 1 i q)) + x15 (ix2 1 q) := by
  revert hz
  unfold val_main_v263 val_main_v260
  generalize val_main_v259 (F := Ideal) x0 x3 x4 x5 x6 x7 x8 x9 x10 x11 x12 x13 = d
  intro hz
  pointwise [val_main_v61, val_main_v60, val_main_v62, val_main_v63, val_main_v261, val_main_v262]
  simp only [hz]

/-- Hop 3 of layer 2. -/
theorem hop_2_3 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32)
    (hs : ∀ e : Fin 33792, x3 (ix2 0 e) = BitVec.ofNat 32 (Edges.source e).val)
    (hd : ∀ e : Fin 33792, x3 (ix2 1 e) = BitVec.ofNat 32 (Edges.target e)) (z : Fin 3072 → Fin 384 → ℝ)
    (hz : ∀ (n : Fin 3072) (j : Fin 384), val_main_v259 (F := Ideal) x0 x3 x4 x5 x6 x7 x8 x9 x10 x11 x12 x13 (ix2 n j) = (z n j : EReal)) (n : Fin 3072) (j : Fin 384) :
    val_main_v275 (F := Ideal) x0 x3 x4 x5 x6 x7 x8 x9 x10 x11 x12 x13 (ix2 n j) = (prop (fun n => z n j) n : EReal) := by
  unfold val_main_v275 val_main_v273 val_main_v270
  refine prop_384 _ _ _ _ _ z hz (src_2_3 x3 hs) (dst_2_3 x3 hd) (fun n j => ?_) (fun n j => ?_) n j
  · pointwise [val_main_v271, val_main_cst_35]
  · refine Eq.trans ?_ (degree x3 hd n 0)
    unfold val_main_v274
    generalize val_main_v10 (F := Ideal) x3 = d
    pointwise

/-- Slab 3 of layer 2 before the cut. -/
theorem slab_2_3 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (z : Fin 3072 → Fin 384 → ℝ)
    (hz : ∀ (n : Fin 3072) (j : Fin 384), val_main_v275 (F := Ideal) x0 x3 x4 x5 x6 x7 x8 x9 x10 x11 x12 x13 (ix2 n j) = (z n j : EReal)) (n : Fin 3072) (q : Fin 128) :
    val_main_v279 (F := Ideal) x0 x3 x4 x5 x6 x7 x8 x9 x10 x11 x12 x13 x14 x15 (ix2 n q) = (∑ i : Fin 384, (z n i : EReal) * x14 (ix3 2 i q)) + x15 (ix2 2 q) := by
  revert hz
  unfold val_main_v279 val_main_v276
  generalize val_main_v275 (F := Ideal) x0 x3 x4 x5 x6 x7 x8 x9 x10 x11 x12 x13 = d
  intro hz
  pointwise [val_main_v65, val_main_v64, val_main_v66, val_main_v67, val_main_v277, val_main_v278]
  simp only [hz]

/-- Layer 2. -/
theorem layer_2 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32)
    (hs : ∀ e : Fin 33792, x3 (ix2 0 e) = BitVec.ofNat 32 (Edges.source e).val)
    (hd : ∀ e : Fin 33792, x3 (ix2 1 e) = BitVec.ofNat 32 (Edges.target e)) (h : Fin 3072 → Fin 384 → ℝ)
    (hh : ∀ (n : Fin 3072) (j : Fin 384), val_main_v231 (F := Ideal) x0 x3 x4 x5 x6 x7 x8 x9 x10 x11 x12 x13 (ix2 n j) = (h n j : EReal)) (n : Fin 3072) (j : Fin 384) :
    val_main_v282 (F := Ideal) x0 x3 x4 x5 x6 x7 x8 x9 x10 x11 x12 x13 x14 x15 (ix2 n j)
      = layer h (fun p i q => x14 (ix3 p i q)) (fun p q => x15 (ix2 p q)) n j := by
  have z₁ := hop_2_1 x0 x3 x4 x5 x6 x7 x8 x9 x10 x11 x12 x13 hs hd h hh
  have z₂ := hop_2_2 x0 x3 x4 x5 x6 x7 x8 x9 x10 x11 x12 x13 hs hd _ z₁
  have z₃ := hop_2_3 x0 x3 x4 x5 x6 x7 x8 x9 x10 x11 x12 x13 hs hd _ z₂
  have s₁ := slab_2_1 x0 x3 x4 x5 x6 x7 x8 x9 x10 x11 x12 x13 x14 x15 _ z₁ n
  have s₂ := slab_2_2 x0 x3 x4 x5 x6 x7 x8 x9 x10 x11 x12 x13 x14 x15 _ z₂ n
  have s₃ := slab_2_3 x0 x3 x4 x5 x6 x7 x8 x9 x10 x11 x12 x13 x14 x15 _ z₃ n
  rw [layer_eq]
  revert s₁ s₂ s₃
  unfold val_main_v282 val_main_v280
  generalize val_main_v247 (F := Ideal) x0 x3 x4 x5 x6 x7 x8 x9 x10 x11 x12 x13 x14 x15 = d₁
  generalize val_main_v263 (F := Ideal) x0 x3 x4 x5 x6 x7 x8 x9 x10 x11 x12 x13 x14 x15 = d₂
  generalize val_main_v279 (F := Ideal) x0 x3 x4 x5 x6 x7 x8 x9 x10 x11 x12 x13 x14 x15 = d₃
  intro s₁ s₂ s₃
  pointwise [val_main_v281, val_main_cst_36]
  simp only [s₁, s₂, s₃]
  rfl

/-- Hop 1 of layer 3. -/
theorem hop_3_1 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32)
    (hs : ∀ e : Fin 33792, x3 (ix2 0 e) = BitVec.ofNat 32 (Edges.source e).val)
    (hd : ∀ e : Fin 33792, x3 (ix2 1 e) = BitVec.ofNat 32 (Edges.target e)) (z : Fin 3072 → Fin 384 → ℝ)
    (hz : ∀ (n : Fin 3072) (j : Fin 384), val_main_v282 (F := Ideal) x0 x3 x4 x5 x6 x7 x8 x9 x10 x11 x12 x13 x14 x15 (ix2 n j) = (z n j : EReal)) (n : Fin 3072) (j : Fin 384) :
    val_main_v294 (F := Ideal) x0 x3 x4 x5 x6 x7 x8 x9 x10 x11 x12 x13 x14 x15 (ix2 n j) = (prop (fun n => z n j) n : EReal) := by
  unfold val_main_v294 val_main_v292 val_main_v289
  refine prop_384 _ _ _ _ _ z hz (src_3_1 x3 hs) (dst_3_1 x3 hd) (fun n j => ?_) (fun n j => ?_) n j
  · pointwise [val_main_v290, val_main_cst_39]
  · refine Eq.trans ?_ (degree x3 hd n 0)
    unfold val_main_v293
    generalize val_main_v10 (F := Ideal) x3 = d
    pointwise

/-- Slab 1 of layer 3 before the cut. -/
theorem slab_3_1 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (z : Fin 3072 → Fin 384 → ℝ)
    (hz : ∀ (n : Fin 3072) (j : Fin 384), val_main_v294 (F := Ideal) x0 x3 x4 x5 x6 x7 x8 x9 x10 x11 x12 x13 x14 x15 (ix2 n j) = (z n j : EReal)) (n : Fin 3072) (q : Fin 128) :
    val_main_v298 (F := Ideal) x0 x3 x4 x5 x6 x7 x8 x9 x10 x11 x12 x13 x14 x15 x16 x17 (ix2 n q) = (∑ i : Fin 384, (z n i : EReal) * x16 (ix3 0 i q)) + x17 (ix2 0 q) := by
  revert hz
  unfold val_main_v298 val_main_v295
  generalize val_main_v294 (F := Ideal) x0 x3 x4 x5 x6 x7 x8 x9 x10 x11 x12 x13 x14 x15 = d
  intro hz
  pointwise [val_main_v69, val_main_v68, val_main_v70, val_main_v71, val_main_v296, val_main_v297]
  simp only [hz]

/-- Hop 2 of layer 3. -/
theorem hop_3_2 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32)
    (hs : ∀ e : Fin 33792, x3 (ix2 0 e) = BitVec.ofNat 32 (Edges.source e).val)
    (hd : ∀ e : Fin 33792, x3 (ix2 1 e) = BitVec.ofNat 32 (Edges.target e)) (z : Fin 3072 → Fin 384 → ℝ)
    (hz : ∀ (n : Fin 3072) (j : Fin 384), val_main_v294 (F := Ideal) x0 x3 x4 x5 x6 x7 x8 x9 x10 x11 x12 x13 x14 x15 (ix2 n j) = (z n j : EReal)) (n : Fin 3072) (j : Fin 384) :
    val_main_v310 (F := Ideal) x0 x3 x4 x5 x6 x7 x8 x9 x10 x11 x12 x13 x14 x15 (ix2 n j) = (prop (fun n => z n j) n : EReal) := by
  unfold val_main_v310 val_main_v308 val_main_v305
  refine prop_384 _ _ _ _ _ z hz (src_3_2 x3 hs) (dst_3_2 x3 hd) (fun n j => ?_) (fun n j => ?_) n j
  · pointwise [val_main_v306, val_main_cst_42]
  · refine Eq.trans ?_ (degree x3 hd n 0)
    unfold val_main_v309
    generalize val_main_v10 (F := Ideal) x3 = d
    pointwise

/-- Slab 2 of layer 3 before the cut. -/
theorem slab_3_2 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (z : Fin 3072 → Fin 384 → ℝ)
    (hz : ∀ (n : Fin 3072) (j : Fin 384), val_main_v310 (F := Ideal) x0 x3 x4 x5 x6 x7 x8 x9 x10 x11 x12 x13 x14 x15 (ix2 n j) = (z n j : EReal)) (n : Fin 3072) (q : Fin 128) :
    val_main_v314 (F := Ideal) x0 x3 x4 x5 x6 x7 x8 x9 x10 x11 x12 x13 x14 x15 x16 x17 (ix2 n q) = (∑ i : Fin 384, (z n i : EReal) * x16 (ix3 1 i q)) + x17 (ix2 1 q) := by
  revert hz
  unfold val_main_v314 val_main_v311
  generalize val_main_v310 (F := Ideal) x0 x3 x4 x5 x6 x7 x8 x9 x10 x11 x12 x13 x14 x15 = d
  intro hz
  pointwise [val_main_v73, val_main_v72, val_main_v74, val_main_v75, val_main_v312, val_main_v313]
  simp only [hz]

/-- Hop 3 of layer 3. -/
theorem hop_3_3 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32)
    (hs : ∀ e : Fin 33792, x3 (ix2 0 e) = BitVec.ofNat 32 (Edges.source e).val)
    (hd : ∀ e : Fin 33792, x3 (ix2 1 e) = BitVec.ofNat 32 (Edges.target e)) (z : Fin 3072 → Fin 384 → ℝ)
    (hz : ∀ (n : Fin 3072) (j : Fin 384), val_main_v310 (F := Ideal) x0 x3 x4 x5 x6 x7 x8 x9 x10 x11 x12 x13 x14 x15 (ix2 n j) = (z n j : EReal)) (n : Fin 3072) (j : Fin 384) :
    val_main_v326 (F := Ideal) x0 x3 x4 x5 x6 x7 x8 x9 x10 x11 x12 x13 x14 x15 (ix2 n j) = (prop (fun n => z n j) n : EReal) := by
  unfold val_main_v326 val_main_v324 val_main_v321
  refine prop_384 _ _ _ _ _ z hz (src_3_3 x3 hs) (dst_3_3 x3 hd) (fun n j => ?_) (fun n j => ?_) n j
  · pointwise [val_main_v322, val_main_cst_45]
  · refine Eq.trans ?_ (degree x3 hd n 0)
    unfold val_main_v325
    generalize val_main_v10 (F := Ideal) x3 = d
    pointwise

/-- Slab 3 of layer 3 before the cut. -/
theorem slab_3_3 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (z : Fin 3072 → Fin 384 → ℝ)
    (hz : ∀ (n : Fin 3072) (j : Fin 384), val_main_v326 (F := Ideal) x0 x3 x4 x5 x6 x7 x8 x9 x10 x11 x12 x13 x14 x15 (ix2 n j) = (z n j : EReal)) (n : Fin 3072) (q : Fin 128) :
    val_main_v330 (F := Ideal) x0 x3 x4 x5 x6 x7 x8 x9 x10 x11 x12 x13 x14 x15 x16 x17 (ix2 n q) = (∑ i : Fin 384, (z n i : EReal) * x16 (ix3 2 i q)) + x17 (ix2 2 q) := by
  revert hz
  unfold val_main_v330 val_main_v327
  generalize val_main_v326 (F := Ideal) x0 x3 x4 x5 x6 x7 x8 x9 x10 x11 x12 x13 x14 x15 = d
  intro hz
  pointwise [val_main_v77, val_main_v76, val_main_v78, val_main_v79, val_main_v328, val_main_v329]
  simp only [hz]

/-- Layer 3. -/
theorem layer_3 (x0 : FVec Ideal S3072x1000 .f32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32)
    (hs : ∀ e : Fin 33792, x3 (ix2 0 e) = BitVec.ofNat 32 (Edges.source e).val)
    (hd : ∀ e : Fin 33792, x3 (ix2 1 e) = BitVec.ofNat 32 (Edges.target e)) (h : Fin 3072 → Fin 384 → ℝ)
    (hh : ∀ (n : Fin 3072) (j : Fin 384), val_main_v282 (F := Ideal) x0 x3 x4 x5 x6 x7 x8 x9 x10 x11 x12 x13 x14 x15 (ix2 n j) = (h n j : EReal)) (n : Fin 3072) (j : Fin 384) :
    val_main_v333 (F := Ideal) x0 x3 x4 x5 x6 x7 x8 x9 x10 x11 x12 x13 x14 x15 x16 x17 (ix2 n j)
      = layer h (fun p i q => x16 (ix3 p i q)) (fun p q => x17 (ix2 p q)) n j := by
  have z₁ := hop_3_1 x0 x3 x4 x5 x6 x7 x8 x9 x10 x11 x12 x13 x14 x15 hs hd h hh
  have z₂ := hop_3_2 x0 x3 x4 x5 x6 x7 x8 x9 x10 x11 x12 x13 x14 x15 hs hd _ z₁
  have z₃ := hop_3_3 x0 x3 x4 x5 x6 x7 x8 x9 x10 x11 x12 x13 x14 x15 hs hd _ z₂
  have s₁ := slab_3_1 x0 x3 x4 x5 x6 x7 x8 x9 x10 x11 x12 x13 x14 x15 x16 x17 _ z₁ n
  have s₂ := slab_3_2 x0 x3 x4 x5 x6 x7 x8 x9 x10 x11 x12 x13 x14 x15 x16 x17 _ z₂ n
  have s₃ := slab_3_3 x0 x3 x4 x5 x6 x7 x8 x9 x10 x11 x12 x13 x14 x15 x16 x17 _ z₃ n
  rw [layer_eq]
  revert s₁ s₂ s₃
  unfold val_main_v333 val_main_v331
  generalize val_main_v298 (F := Ideal) x0 x3 x4 x5 x6 x7 x8 x9 x10 x11 x12 x13 x14 x15 x16 x17 = d₁
  generalize val_main_v314 (F := Ideal) x0 x3 x4 x5 x6 x7 x8 x9 x10 x11 x12 x13 x14 x15 x16 x17 = d₂
  generalize val_main_v330 (F := Ideal) x0 x3 x4 x5 x6 x7 x8 x9 x10 x11 x12 x13 x14 x15 x16 x17 = d₃
  intro s₁ s₂ s₃
  pointwise [val_main_v332, val_main_cst_46]
  simp only [s₁, s₂, s₃]
  rfl

end Cert.ReferenceIdeal.Layers

end
-- ==== Proof.Words.lean ====
/-
  What the precondition says, read off its printed form: the words of `batch` and of the edge list, and that what feeds the
  node features is made of real numbers.
-/
module

public import proofs.«01_k».proof.Pre_graph_of_twelves
public import proofs.«01_k».proof.Proof.RefEdges
public import Idealize.ShloMosaic.Lib.Pointwise

@[expose] public section

set_option maxRecDepth 16384

noncomputable section

namespace Cert.Pre_graph_of_twelves

open Idealize.ShloMosaic Cert.ReferenceIdeal

/-- The shape relations the printed precondition states. -/
instance facts : Facts where
  shapeCasts_S2x33792_S2x256x12x11 := by decide
  shapeCasts_S3072_S256x12 := by decide
  slices_S2x256x12x11_S1x256x12x11_0_0_0_0 := by decide
  shapeCasts_S1x256x12x11_S256x12x11 := by decide
  bcast_S_S256x12x11 := by decide
  slices_S2x256x12x11_S1x256x12x11_1_0_0_0 := by decide
  bcast_S_S3072x1000 := by decide
  bcast_S_S64x1x7 := by decide
  bcast_S_S64 := by decide
  bcast_S_S64x64x3 := by decide
  bcast_S_S64x64 := by decide
  bcast_S_S3x64x128 := by decide
  bcast_S_S3x128 := by decide
  bcast_S_S3x384x128 := by decide

theorem eq_of_cmpi {w : ℕ} (x y : BitVec w) (h : IntOp.cmpi .eq x y = 1#1) : x = y := by
  by_contra q
  have n : (x == y) = false := by simpa using q
  simp only [IntOp.cmpi, n] at h
  exact absurd h (by decide)

/-- An extended real whose absolute value is below infinity is a real number. -/
theorem real_of (x : EReal) (h : BitVec.ofBool (decide (max x (-x) < Ideal.ofBits .f32 0x7F800000#32)) = 1#1) : ∃ r : ℝ, x = r := by
  have top : Ideal.ofBits .f32 0x7F800000#32 = ⊤ := by simp [Ideal.ofBits, Ideal.ieee]
  rw [top] at h
  have l : max x (-x) < ⊤ := by
    by_contra q
    simp [q] at h
  refine ⟨x.toReal, (EReal.coe_toReal (fun e => ?_) (fun e => ?_)).symm⟩
  · simp [e] at l
  · simp [e] at l

variable (arg0 : FVec Ideal S3072x1000 .f32) (arg1 : FVec Ideal S256x32 .f32) (arg2 : IVec S3072 32) (arg3 : IVec S2x33792 32) (arg4 : FVec Ideal S64x1x7 .f32) (arg5 : FVec Ideal S64 .f32) (arg6 : FVec Ideal S64x64x3 .f32) (arg7 : FVec Ideal S64 .f32) (arg8 : FVec Ideal S64x64x3 .f32) (arg9 : FVec Ideal S64 .f32) (arg10 : FVec Ideal S64x64 .f32) (arg11 : FVec Ideal S64 .f32) (arg12 : FVec Ideal S3x64x128 .f32) (arg13 : FVec Ideal S3x128 .f32) (arg14 : FVec Ideal S3x384x128 .f32) (arg15 : FVec Ideal S3x128 .f32) (arg16 : FVec Ideal S3x384x128 .f32) (arg17 : FVec Ideal S3x128 .f32) (arg18 : FVec Ideal S384 .f32) (arg19 : FVec Ideal S384 .f32) (arg20 : FVec Ideal S416x128 .f32) (arg21 : FVec Ideal S128 .f32) (arg22 : FVec Ideal S128x5 .f32) (arg23 : FVec Ideal S5 .f32)

/-- Node `n` is of graph `n / 12`. -/
theorem batch_words (h : (fn (F := Ideal) arg0 arg1 arg2 arg3 arg4 arg5 arg6 arg7 arg8 arg9 arg10 arg11 arg12 arg13 arg14 arg15 arg16 arg17 arg18 arg19 arg20 arg21 arg22 arg23).1 = fun _ => 1#1) (n : Fin 3072) :
    arg2 (ix1 n) = BitVec.ofNat 32 (n.val / 12) := by
  have e : (fn (F := Ideal) arg0 arg1 arg2 arg3 arg4 arg5 arg6 arg7 arg8 arg9 arg10 arg11 arg12 arg13 arg14 arg15 arg16 arg17 arg18 arg19 arg20 arg21 arg22 arg23).1 = cmpi .eq (shapeCast S256x12 arg2 Facts.shapeCasts_S3072_S256x12) (iotaInDim S256x12 32 0) := rfl
  rw [e] at h
  have q := congrFun h (ix2 ⟨n.val / 12, by omega⟩ ⟨n.val % 12, by omega⟩)
  pointwise at q
  exact eq_of_cmpi _ _ q

/-- Where an edge starts. -/
theorem source_words (h : (fn (F := Ideal) arg0 arg1 arg2 arg3 arg4 arg5 arg6 arg7 arg8 arg9 arg10 arg11 arg12 arg13 arg14 arg15 arg16 arg17 arg18 arg19 arg20 arg21 arg22 arg23).2.1 = fun _ => 1#1) (e : Fin 33792) :
    arg3 (ix2 0 e) = BitVec.ofNat 32 (Edges.source e).val := by
  have t : (fn (F := Ideal) arg0 arg1 arg2 arg3 arg4 arg5 arg6 arg7 arg8 arg9 arg10 arg11 arg12 arg13 arg14 arg15 arg16 arg17 arg18 arg19 arg20 arg21 arg22 arg23).2.1 = cmpi .eq (shapeCast S256x12x11 (extractStridedSlice S1x256x12x11 ![0, 0, 0, 0]
      (shapeCast S2x256x12x11 arg3 Facts.shapeCasts_S2x33792_S2x256x12x11) Facts.slices_S2x256x12x11_S1x256x12x11_0_0_0_0)
      Facts.shapeCasts_S1x256x12x11_S256x12x11) (addi (muli (broadcastInDim S256x12x11 ![] Facts.bcast_S_S256x12x11
      (constantI S_ 32 12#32)) (iotaInDim S256x12x11 32 0)) (iotaInDim S256x12x11 32 1)) := rfl
  rw [t] at h
  have q := congrFun h (ix3 ⟨e.val / 132, by omega⟩ ⟨e.val / 11 % 12, by omega⟩ ⟨e.val % 11, by omega⟩)
  pointwise at q
  have w := eq_of_cmpi _ _ q
  rw [w]
  apply BitVec.eq_of_toNat_eq
  simp only [IntOp.addi, IntOp.muli, BitVec.toNat_add, BitVec.toNat_mul, BitVec.toNat_ofNat, Edges.source]
  omega

/-- Where an edge ends. -/
theorem target_words (h : (fn (F := Ideal) arg0 arg1 arg2 arg3 arg4 arg5 arg6 arg7 arg8 arg9 arg10 arg11 arg12 arg13 arg14 arg15 arg16 arg17 arg18 arg19 arg20 arg21 arg22 arg23).2.2.1 = fun _ => 1#1) (e : Fin 33792) :
    arg3 (ix2 1 e) = BitVec.ofNat 32 (Edges.target e) := by
  have t : (fn (F := Ideal) arg0 arg1 arg2 arg3 arg4 arg5 arg6 arg7 arg8 arg9 arg10 arg11 arg12 arg13 arg14 arg15 arg16 arg17 arg18 arg19 arg20 arg21 arg22 arg23).2.2.1 = cmpi .eq (shapeCast S256x12x11 (extractStridedSlice S1x256x12x11 ![1, 0, 0, 0]
      (shapeCast S2x256x12x11 arg3 Facts.shapeCasts_S2x33792_S2x256x12x11) Facts.slices_S2x256x12x11_S1x256x12x11_1_0_0_0)
      Facts.shapeCasts_S1x256x12x11_S256x12x11) (addi (muli (broadcastInDim S256x12x11 ![] Facts.bcast_S_S256x12x11
      (constantI S_ 32 12#32)) (iotaInDim S256x12x11 32 0)) (select (cmpi .slt (iotaInDim S256x12x11 32 2)
      (iotaInDim S256x12x11 32 1)) (iotaInDim S256x12x11 32 2) (addi (iotaInDim S256x12x11 32 2)
      (broadcastInDim S256x12x11 ![] Facts.bcast_S_S256x12x11 (constantI S_ 32 1#32))))) := rfl
  rw [t] at h
  have q := congrFun h (ix3 ⟨e.val / 132, by omega⟩ ⟨e.val / 11 % 12, by omega⟩ ⟨e.val % 11, by omega⟩)
  pointwise at q
  have w := eq_of_cmpi _ _ q
  rw [w]
  have c : IntOp.cmpi .slt (BitVec.ofNat 32 (e.val % 11)) (BitVec.ofNat 32 (e.val / 11 % 12)) = if e.val % 11 < e.val / 11 % 12 then 1#1 else 0#1 := by
    unfold IntOp.cmpi
    simp only [BitVec.slt, Edges.toInt_small _ (show e.val % 11 < 2147483648 by omega), Edges.toInt_small _ (show e.val / 11 % 12 < 2147483648 by omega)]
    by_cases z : e.val % 11 < e.val / 11 % 12
    · rw [if_pos z]
      simp only [Int.ofNat_lt.mpr z, decide_true]
      rfl
    · rw [if_neg z]
      simp only [show ¬ ((e.val % 11 : ℕ) : Int) < ((e.val / 11 % 12 : ℕ) : Int) from fun y => z (Int.ofNat_lt.mp y), decide_false]
      rfl
  unfold Edges.target
  have d : e.val / 132 = e.val / 11 / 12 := by omega
  rw [d, c]
  by_cases z : e.val % 11 < e.val / 11 % 12
  · rw [if_pos z, if_pos z]
    show IntOp.addi _ (BitVec.ofNat 32 (e.val % 11)) = _
    apply BitVec.eq_of_toNat_eq
    simp only [IntOp.addi, IntOp.muli, BitVec.toNat_add, BitVec.toNat_mul, BitVec.toNat_ofNat]
    omega
  · rw [if_neg z, if_neg z]
    show IntOp.addi _ (IntOp.addi (BitVec.ofNat 32 (e.val % 11)) 1#32) = _
    apply BitVec.eq_of_toNat_eq
    simp only [IntOp.addi, IntOp.muli, BitVec.toNat_add, BitVec.toNat_mul, BitVec.toNat_ofNat]
    omega

theorem x_real (h : (fn (F := Ideal) arg0 arg1 arg2 arg3 arg4 arg5 arg6 arg7 arg8 arg9 arg10 arg11 arg12 arg13 arg14 arg15 arg16 arg17 arg18 arg19 arg20 arg21 arg22 arg23).2.2.2.1 = fun _ => 1#1) (i : Fin 3072) (j : Fin 1000) : ∃ r : ℝ, arg0 (ix2 i j) = r := by
  have t : (fn (F := Ideal) arg0 arg1 arg2 arg3 arg4 arg5 arg6 arg7 arg8 arg9 arg10 arg11 arg12 arg13 arg14 arg15 arg16 arg17 arg18 arg19 arg20 arg21 arg22 arg23).2.2.2.1 = cmpf .olt (Host.absf arg0) (broadcastInDim S3072x1000 ![] Facts.bcast_S_S3072x1000 (constant S_ .f32 0x7F800000#32)) := rfl
  rw [t] at h
  have q := congrFun h (ix2 i j)
  pointwise at q
  exact real_of _ q

theorem cw_real (h : (fn (F := Ideal) arg0 arg1 arg2 arg3 arg4 arg5 arg6 arg7 arg8 arg9 arg10 arg11 arg12 arg13 arg14 arg15 arg16 arg17 arg18 arg19 arg20 arg21 arg22 arg23).2.2.2.2.1 = fun _ => 1#1) (i : Fin 64) (j : Fin 1) (k : Fin 7) : ∃ r : ℝ, arg4 (ix3 i j k) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.1 = cmpf .olt (Host.absf arg4) (broadcastInDim S64x1x7 ![] Facts.bcast_S_S64x1x7 (constant S_ .f32 0x7F800000#32)) := rfl
  rw [t] at h
  have q := congrFun h (ix3 i j k)
  pointwise at q
  exact real_of _ q

theorem cb_real (h : (fn (F := Ideal) arg0 arg1 arg2 arg3 arg4 arg5 arg6 arg7 arg8 arg9 arg10 arg11 arg12 arg13 arg14 arg15 arg16 arg17 arg18 arg19 arg20 arg21 arg22 arg23).2.2.2.2.2.1 = fun _ => 1#1) (i : Fin 64) : ∃ r : ℝ, arg5 (ix1 i) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.1 = cmpf .olt (Host.absf arg5) (broadcastInDim S64 ![] Facts.bcast_S_S64 (constant S_ .f32 0x7F800000#32)) := rfl
  rw [t] at h
  have q := congrFun h (ix1 i)
  pointwise at q
  exact real_of _ q

theorem rw1_real (h : (fn (F := Ideal) arg0 arg1 arg2 arg3 arg4 arg5 arg6 arg7 arg8 arg9 arg10 arg11 arg12 arg13 arg14 arg15 arg16 arg17 arg18 arg19 arg20 arg21 arg22 arg23).2.2.2.2.2.2.1 = fun _ => 1#1) (i : Fin 64) (j : Fin 64) (k : Fin 3) : ∃ r : ℝ, arg6 (ix3 i j k) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.1 = cmpf .olt (Host.absf arg6) (broadcastInDim S64x64x3 ![] Facts.bcast_S_S64x64x3 (constant S_ .f32 0x7F800000#32)) := rfl
  rw [t] at h
  have q := congrFun h (ix3 i j k)
  pointwise at q
  exact real_of _ q

theorem rb1_real (h : (fn (F := Ideal) arg0 arg1 arg2 arg3 arg4 arg5 arg6 arg7 arg8 arg9 arg10 arg11 arg12 arg13 arg14 arg15 arg16 arg17 arg18 arg19 arg20 arg21 arg22 arg23).2.2.2.2.2.2.2.1 = fun _ => 1#1) (i : Fin 64) : ∃ r : ℝ, arg7 (ix1 i) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.2.1 = cmpf .olt (Host.absf arg7) (broadcastInDim S64 ![] Facts.bcast_S_S64 (constant S_ .f32 0x7F800000#32)) := rfl
  rw [t] at h
  have q := congrFun h (ix1 i)
  pointwise at q
  exact real_of _ q

theorem rw2_real (h : (fn (F := Ideal) arg0 arg1 arg2 arg3 arg4 arg5 arg6 arg7 arg8 arg9 arg10 arg11 arg12 arg13 arg14 arg15 arg16 arg17 arg18 arg19 arg20 arg21 arg22 arg23).2.2.2.2.2.2.2.2.1 = fun _ => 1#1) (i : Fin 64) (j : Fin 64) (k : Fin 3) : ∃ r : ℝ, arg8 (ix3 i j k) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.2.2.1 = cmpf .olt (Host.absf arg8) (broadcastInDim S64x64x3 ![] Facts.bcast_S_S64x64x3 (constant S_ .f32 0x7F800000#32)) := rfl
  rw [t] at h
  have q := congrFun h (ix3 i j k)
  pointwise at q
  exact real_of _ q

theorem rb2_real (h : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.1 = fun _ => 1#1) (i : Fin 64) : ∃ r : ℝ, arg9 (ix1 i) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.1 = cmpf .olt (Host.absf arg9) (broadcastInDim S64 ![] Facts.bcast_S_S64 (constant S_ .f32 0x7F800000#32)) := rfl
  rw [t] at h
  have q := congrFun h (ix1 i)
  pointwise at q
  exact real_of _ q

theorem hw_real (h : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.1 = fun _ => 1#1) (i : Fin 64) (j : Fin 64) : ∃ r : ℝ, arg10 (ix2 i j) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.1 = cmpf .olt (Host.absf arg10) (broadcastInDim S64x64 ![] Facts.bcast_S_S64x64 (constant S_ .f32 0x7F800000#32)) := rfl
  rw [t] at h
  have q := congrFun h (ix2 i j)
  pointwise at q
  exact real_of _ q

theorem hb_real (h : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.1 = fun _ => 1#1) (i : Fin 64) : ∃ r : ℝ, arg11 (ix1 i) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.1 = cmpf .olt (Host.absf arg11) (broadcastInDim S64 ![] Facts.bcast_S_S64 (constant S_ .f32 0x7F800000#32)) := rfl
  rw [t] at h
  have q := congrFun h (ix1 i)
  pointwise at q
  exact real_of _ q

theorem W1_real (h : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.2.1 = fun _ => 1#1) (i : Fin 3) (j : Fin 64) (k : Fin 128) : ∃ r : ℝ, arg12 (ix3 i j k) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.2.1 = cmpf .olt (Host.absf arg12) (broadcastInDim S3x64x128 ![] Facts.bcast_S_S3x64x128 (constant S_ .f32 0x7F800000#32)) := rfl
  rw [t] at h
  have q := congrFun h (ix3 i j k)
  pointwise at q
  exact real_of _ q

theorem B1_real (h : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.2.2.1 = fun _ => 1#1) (i : Fin 3) (j : Fin 128) : ∃ r : ℝ, arg13 (ix2 i j) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.2.2.1 = cmpf .olt (Host.absf arg13) (broadcastInDim S3x128 ![] Facts.bcast_S_S3x128 (constant S_ .f32 0x7F800000#32)) := rfl
  rw [t] at h
  have q := congrFun h (ix2 i j)
  pointwise at q
  exact real_of _ q

theorem W2_real (h : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.2.2.2.1 = fun _ => 1#1) (i : Fin 3) (j : Fin 384) (k : Fin 128) : ∃ r : ℝ, arg14 (ix3 i j k) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.2.2.2.1 = cmpf .olt (Host.absf arg14) (broadcastInDim S3x384x128 ![] Facts.bcast_S_S3x384x128 (constant S_ .f32 0x7F800000#32)) := rfl
  rw [t] at h
  have q := congrFun h (ix3 i j k)
  pointwise at q
  exact real_of _ q

theorem B2_real (h : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.2.2.2.2 = fun _ => 1#1) (i : Fin 3) (j : Fin 128) : ∃ r : ℝ, arg15 (ix2 i j) = r := by
  have t : (fn (F := Ideal) arg0 arg1 arg2 arg3 arg4 arg5 arg6 arg7 arg8 arg9 arg10 arg11 arg12 arg13 arg14 arg15 arg16 arg17 arg18 arg19 arg20 arg21 arg22 arg23).2.2.2.2.2.2.2.2.2.2.2.2.2.2.2 = cmpf .olt (Host.absf arg15) (broadcastInDim S3x128 ![] Facts.bcast_S_S3x128 (constant S_ .f32 0x7F800000#32)) := rfl
  rw [t] at h
  have q := congrFun h (ix2 i j)
  pointwise at q
  exact real_of _ q

end Cert.Pre_graph_of_twelves

end
-- ==== Proof.RefFinal.lean ====
/- What the reference computes, where its nodes come in graphs of twelve and its inputs are finite. -/
module

public import proofs.«01_k».proof.Proof.RefFeat
public import proofs.«01_k».proof.Proof.RefTail
public import proofs.«01_k».proof.Proof.RefLayers
public import proofs.«01_k».proof.Proof.Net
public import proofs.«01_k».proof.Proof.Words

@[expose] public section

set_option maxRecDepth 16384

noncomputable section

namespace Cert.ReferenceIdeal.Final

open Idealize.ShloMosaic Idealize.ShloMosaic.TcCoe Cert.ReferenceIdeal.Read Cert.Spec

variable (x0 : FVec Ideal S3072x1000 .f32) (x1 : FVec Ideal S256x32 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (x18 : FVec Ideal S384 .f32) (x19 : FVec Ideal S384 .f32) (x20 : FVec Ideal S416x128 .f32) (x21 : FVec Ideal S128 .f32) (x22 : FVec Ideal S128x5 .f32) (x23 : FVec Ideal S5 .f32)

/-- The network over the reference's arguments. -/
def net : Net where
  x := fun n t => x0 (ix2 n t)
  side := fun g k => x1 (ix2 g k)
  cw := fun o k => x4 (ix3 o 0 k)
  cb := fun o => x5 (ix1 o)
  rw1 := fun o i k => x6 (ix3 o i k)
  rb1 := fun o => x7 (ix1 o)
  rw2 := fun o i k => x8 (ix3 o i k)
  rb2 := fun o => x9 (ix1 o)
  hw := fun i o => x10 (ix2 i o)
  hb := fun o => x11 (ix1 o)
  W1 := fun p i q => x12 (ix3 p i q)
  B1 := fun p q => x13 (ix2 p q)
  W2 := fun p i q => x14 (ix3 p i q)
  B2 := fun p q => x15 (ix2 p q)
  W3 := fun p i q => x16 (ix3 p i q)
  B3 := fun p q => x17 (ix2 p q)
  γ := fun j => x18 (ix1 j)
  β := fun j => x19 (ix1 j)
  f1 := fun j q => x20 (ix2 j q)
  fb1 := fun q => x21 (ix1 q)
  f2 := fun q o => x22 (ix2 q o)
  fb2 := fun o => x23 (ix1 o)

/-- The node features are those of the network. -/
theorem features (F : (net x0 x1 x4 x5 x6 x7 x8 x9 x10 x11 x12 x13 x14 x15 x16 x17 x18 x19 x20 x21 x22 x23).Finite) (n : Fin 3072) (j : Fin 64) :
    val_main_v180 (F := Ideal) x0 x4 x5 x6 x7 x8 x9 x10 x11 (ix2 n j) = ((net x0 x1 x4 x5 x6 x7 x8 x9 x10 x11 x12 x13 x14 x15 x16 x17 x18 x19 x20 x21 x22 x23).h n j : EReal) :=
  (Conv.features x0 x4 x5 x6 x7 x8 x9 x10 x11 n j).trans (F.feature n j)

/-- The first layer is the network's. -/
theorem first (F : (net x0 x1 x4 x5 x6 x7 x8 x9 x10 x11 x12 x13 x14 x15 x16 x17 x18 x19 x20 x21 x22 x23).Finite) (hs : ∀ e : Fin 33792, x3 (ix2 0 e) = BitVec.ofNat 32 (Edges.source e).val)
    (hd : ∀ e : Fin 33792, x3 (ix2 1 e) = BitVec.ofNat 32 (Edges.target e)) (n : Fin 3072) (j : Fin 384) :
    val_main_v231 (F := Ideal) x0 x3 x4 x5 x6 x7 x8 x9 x10 x11 x12 x13 (ix2 n j) = ((net x0 x1 x4 x5 x6 x7 x8 x9 x10 x11 x12 x13 x14 x15 x16 x17 x18 x19 x20 x21 x22 x23).h1 n j : EReal) :=
  (Layers.layer_1 x0 x3 x4 x5 x6 x7 x8 x9 x10 x11 x12 x13 hs hd _ (features x0 x1 x4 x5 x6 x7 x8 x9 x10 x11 x12 x13 x14 x15 x16 x17 x18 x19 x20 x21 x22 x23 F) n j).trans (F.layer1 n j)

/-- The second layer is the network's. -/
theorem second (F : (net x0 x1 x4 x5 x6 x7 x8 x9 x10 x11 x12 x13 x14 x15 x16 x17 x18 x19 x20 x21 x22 x23).Finite) (hs : ∀ e : Fin 33792, x3 (ix2 0 e) = BitVec.ofNat 32 (Edges.source e).val)
    (hd : ∀ e : Fin 33792, x3 (ix2 1 e) = BitVec.ofNat 32 (Edges.target e)) (n : Fin 3072) (j : Fin 384) :
    val_main_v282 (F := Ideal) x0 x3 x4 x5 x6 x7 x8 x9 x10 x11 x12 x13 x14 x15 (ix2 n j) = ((net x0 x1 x4 x5 x6 x7 x8 x9 x10 x11 x12 x13 x14 x15 x16 x17 x18 x19 x20 x21 x22 x23).h2 n j : EReal) :=
  (Layers.layer_2 x0 x3 x4 x5 x6 x7 x8 x9 x10 x11 x12 x13 x14 x15 hs hd _ (first x0 x1 x3 x4 x5 x6 x7 x8 x9 x10 x11 x12 x13 x14 x15 x16 x17 x18 x19 x20 x21 x22 x23 F hs hd) n j).trans (F.layer2 n j)

/-- The third layer is the network's. -/
theorem third (F : (net x0 x1 x4 x5 x6 x7 x8 x9 x10 x11 x12 x13 x14 x15 x16 x17 x18 x19 x20 x21 x22 x23).Finite) (hs : ∀ e : Fin 33792, x3 (ix2 0 e) = BitVec.ofNat 32 (Edges.source e).val)
    (hd : ∀ e : Fin 33792, x3 (ix2 1 e) = BitVec.ofNat 32 (Edges.target e)) (n : Fin 3072) (j : Fin 384) :
    val_main_v333 (F := Ideal) x0 x3 x4 x5 x6 x7 x8 x9 x10 x11 x12 x13 x14 x15 x16 x17 (ix2 n j) = layer (net x0 x1 x4 x5 x6 x7 x8 x9 x10 x11 x12 x13 x14 x15 x16 x17 x18 x19 x20 x21 x22 x23).h2 (net x0 x1 x4 x5 x6 x7 x8 x9 x10 x11 x12 x13 x14 x15 x16 x17 x18 x19 x20 x21 x22 x23).W3 (net x0 x1 x4 x5 x6 x7 x8 x9 x10 x11 x12 x13 x14 x15 x16 x17 x18 x19 x20 x21 x22 x23).B3 n j :=
  Layers.layer_3 x0 x3 x4 x5 x6 x7 x8 x9 x10 x11 x12 x13 x14 x15 x16 x17 hs hd _ (second x0 x1 x3 x4 x5 x6 x7 x8 x9 x10 x11 x12 x13 x14 x15 x16 x17 x18 x19 x20 x21 x22 x23 F hs hd) n j

/-- The reference's result, word by word. -/
theorem answer (F : (net x0 x1 x4 x5 x6 x7 x8 x9 x10 x11 x12 x13 x14 x15 x16 x17 x18 x19 x20 x21 x22 x23).Finite) (hs : ∀ e : Fin 33792, x3 (ix2 0 e) = BitVec.ofNat 32 (Edges.source e).val)
    (hd : ∀ e : Fin 33792, x3 (ix2 1 e) = BitVec.ofNat 32 (Edges.target e))
    (hb : ∀ n : Fin 3072, x2 (ix1 n) = BitVec.ofNat 32 (n.val / 12)) (g : Fin 256) (o : Fin 5) :
    val_main_v375 (F := Ideal) x0 x1 x2 x3 x4 x5 x6 x7 x8 x9 x10 x11 x12 x13 x14 x15 x16 x17 x18 x19 x20 x21 x22 x23 (ix2 g o) = (net x0 x1 x4 x5 x6 x7 x8 x9 x10 x11 x12 x13 x14 x15 x16 x17 x18 x19 x20 x21 x22 x23).answer g o := by
  have t := funext fun n => funext fun j => third x0 x1 x3 x4 x5 x6 x7 x8 x9 x10 x11 x12 x13 x14 x15 x16 x17 x18 x19 x20 x21 x22 x23 F hs hd n j
  have p := funext fun g => funext fun j => Tail.means x0 x2 x3 x4 x5 x6 x7 x8 x9 x10 x11 x12 x13 x14 x15 x16 x17 hb g j
  have q := funext fun g => funext fun j => Tail.normal x0 x2 x3 x4 x5 x6 x7 x8 x9 x10 x11 x12 x13 x14 x15 x16 x17 x18 x19 g j
  rw [t] at p
  rw [p] at q
  rw [Tail.dense x0 x1 x2 x3 x4 x5 x6 x7 x8 x9 x10 x11 x12 x13 x14 x15 x16 x17 x18 x19 x20 x21 x22 x23, q]
  rfl

/-- What the precondition asks of the arguments. -/
def Meets : Prop :=
    (Cert.Pre_graph_of_twelves.fn (F := Ideal) x0 x1 x2 x3 x4 x5 x6 x7 x8 x9 x10 x11 x12 x13 x14 x15 x16 x17 x18 x19 x20 x21 x22 x23).1 = (fun _ => 1#1)
    ∧ (Cert.Pre_graph_of_twelves.fn (F := Ideal) x0 x1 x2 x3 x4 x5 x6 x7 x8 x9 x10 x11 x12 x13 x14 x15 x16 x17 x18 x19 x20 x21 x22 x23).2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.2.2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.2.2.2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.2.2.2.2.2.2.2.2.1 = (fun _ => 1#1)
    ∧ (Cert.Pre_graph_of_twelves.fn (F := Ideal) x0 x1 x2 x3 x4 x5 x6 x7 x8 x9 x10 x11 x12 x13 x14 x15 x16 x17 x18 x19 x20 x21 x22 x23).2.2.2.2.2.2.2.2.2.2.2.2.2.2.2 = (fun _ => 1#1)

/-- Under the precondition what feeds the node features is real. -/
theorem finite (h : Meets x0 x1 x2 x3 x4 x5 x6 x7 x8 x9 x10 x11 x12 x13 x14 x15 x16 x17 x18 x19 x20 x21 x22 x23) : (net x0 x1 x4 x5 x6 x7 x8 x9 x10 x11 x12 x13 x14 x15 x16 x17 x18 x19 x20 x21 x22 x23).Finite where
  x := Cert.Pre_graph_of_twelves.x_real x0 x1 x2 x3 x4 x5 x6 x7 x8 x9 x10 x11 x12 x13 x14 x15 x16 x17 x18 x19 x20 x21 x22 x23 (h.2.2.2.1)
  cw := fun i k => Cert.Pre_graph_of_twelves.cw_real x0 x1 x2 x3 x4 x5 x6 x7 x8 x9 x10 x11 x12 x13 x14 x15 x16 x17 x18 x19 x20 x21 x22 x23 (h.2.2.2.2.1) i 0 k
  cb := Cert.Pre_graph_of_twelves.cb_real x0 x1 x2 x3 x4 x5 x6 x7 x8 x9 x10 x11 x12 x13 x14 x15 x16 x17 x18 x19 x20 x21 x22 x23 (h.2.2.2.2.2.1)
  rw1 := Cert.Pre_graph_of_twelves.rw1_real x0 x1 x2 x3 x4 x5 x6 x7 x8 x9 x10 x11 x12 x13 x14 x15 x16 x17 x18 x19 x20 x21 x22 x23 (h.2.2.2.2.2.2.1)
  rb1 := Cert.Pre_graph_of_twelves.rb1_real x0 x1 x2 x3 x4 x5 x6 x7 x8 x9 x10 x11 x12 x13 x14 x15 x16 x17 x18 x19 x20 x21 x22 x23 (h.2.2.2.2.2.2.2.1)
  rw2 := Cert.Pre_graph_of_twelves.rw2_real x0 x1 x2 x3 x4 x5 x6 x7 x8 x9 x10 x11 x12 x13 x14 x15 x16 x17 x18 x19 x20 x21 x22 x23 (h.2.2.2.2.2.2.2.2.1)
  rb2 := Cert.Pre_graph_of_twelves.rb2_real x0 x1 x2 x3 x4 x5 x6 x7 x8 x9 x10 x11 x12 x13 x14 x15 x16 x17 x18 x19 x20 x21 x22 x23 (h.2.2.2.2.2.2.2.2.2.1)
  hw := Cert.Pre_graph_of_twelves.hw_real x0 x1 x2 x3 x4 x5 x6 x7 x8 x9 x10 x11 x12 x13 x14 x15 x16 x17 x18 x19 x20 x21 x22 x23 (h.2.2.2.2.2.2.2.2.2.2.1)
  hb := Cert.Pre_graph_of_twelves.hb_real x0 x1 x2 x3 x4 x5 x6 x7 x8 x9 x10 x11 x12 x13 x14 x15 x16 x17 x18 x19 x20 x21 x22 x23 (h.2.2.2.2.2.2.2.2.2.2.2.1)
  W1 := Cert.Pre_graph_of_twelves.W1_real x0 x1 x2 x3 x4 x5 x6 x7 x8 x9 x10 x11 x12 x13 x14 x15 x16 x17 x18 x19 x20 x21 x22 x23 (h.2.2.2.2.2.2.2.2.2.2.2.2.1)
  B1 := Cert.Pre_graph_of_twelves.B1_real x0 x1 x2 x3 x4 x5 x6 x7 x8 x9 x10 x11 x12 x13 x14 x15 x16 x17 x18 x19 x20 x21 x22 x23 (h.2.2.2.2.2.2.2.2.2.2.2.2.2.1)
  W2 := Cert.Pre_graph_of_twelves.W2_real x0 x1 x2 x3 x4 x5 x6 x7 x8 x9 x10 x11 x12 x13 x14 x15 x16 x17 x18 x19 x20 x21 x22 x23 (h.2.2.2.2.2.2.2.2.2.2.2.2.2.2.1)
  B2 := Cert.Pre_graph_of_twelves.B2_real x0 x1 x2 x3 x4 x5 x6 x7 x8 x9 x10 x11 x12 x13 x14 x15 x16 x17 x18 x19 x20 x21 x22 x23 (h.2.2.2.2.2.2.2.2.2.2.2.2.2.2.2)

/-- The whole result of the reference under the precondition. -/
theorem value (h : Meets x0 x1 x2 x3 x4 x5 x6 x7 x8 x9 x10 x11 x12 x13 x14 x15 x16 x17 x18 x19 x20 x21 x22 x23) :
    val_main_v375 (F := Ideal) x0 x1 x2 x3 x4 x5 x6 x7 x8 x9 x10 x11 x12 x13 x14 x15 x16 x17 x18 x19 x20 x21 x22 x23 = fun y => (net x0 x1 x4 x5 x6 x7 x8 x9 x10 x11 x12 x13 x14 x15 x16 x17 x18 x19 x20 x21 x22 x23).answer (y 0) (y 1) := by
  funext y
  idx_vars y
  exact answer x0 x1 x2 x3 x4 x5 x6 x7 x8 x9 x10 x11 x12 x13 x14 x15 x16 x17 x18 x19 x20 x21 x22 x23 (finite x0 x1 x2 x3 x4 x5 x6 x7 x8 x9 x10 x11 x12 x13 x14 x15 x16 x17 x18 x19 x20 x21 x22 x23 h) (Cert.Pre_graph_of_twelves.source_words x0 x1 x2 x3 x4 x5 x6 x7 x8 x9 x10 x11 x12 x13 x14 x15 x16 x17 x18 x19 x20 x21 x22 x23 h.2.1) (Cert.Pre_graph_of_twelves.target_words x0 x1 x2 x3 x4 x5 x6 x7 x8 x9 x10 x11 x12 x13 x14 x15 x16 x17 x18 x19 x20 x21 x22 x23 h.2.2.1)
    (Cert.Pre_graph_of_twelves.batch_words x0 x1 x2 x3 x4 x5 x6 x7 x8 x9 x10 x11 x12 x13 x14 x15 x16 x17 x18 x19 x20 x21 x22 x23 h.1) _ _

end Cert.ReferenceIdeal.Final
-- ==== Proof.RefRun.lean ====
/- The reference's run, its result named by the stages it is read in. -/
module

public import proofs.«01_k».proof.Proof.Gen.ReferenceIdeal
public import proofs.«01_k».proof.Proof.Gen.ReferenceIdeal.Run
public import proofs.«01_k».proof.Proof.RefFinal

@[expose] public section

set_option maxRecDepth 16384

noncomputable section

namespace Cert.ReferenceIdeal.Final

open Idealize.ShloMosaic Idealize.ShloMosaic.TcCoe Cert.ReferenceIdeal.Read Cert.Spec Idealize.SL.Sem

/-- The reference ends with the last stage at its arguments, which stand as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v375) = val_main_v375 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨(h c).1.trans (val_main_v375_eq (StableHlo.launchContents m c)), (h c).2⟩) (Value.run (F := Ideal) m ρ)

/-- Arrays equal to arrays under the precondition give the network of the latter. -/
theorem agree (x0 : FVec Ideal S3072x1000 .f32) (x1 : FVec Ideal S256x32 .f32) (x2 : IVec S3072 32) (x3 : IVec S2x33792 32) (x4 : FVec Ideal S64x1x7 .f32) (x5 : FVec Ideal S64 .f32) (x6 : FVec Ideal S64x64x3 .f32) (x7 : FVec Ideal S64 .f32) (x8 : FVec Ideal S64x64x3 .f32) (x9 : FVec Ideal S64 .f32) (x10 : FVec Ideal S64x64 .f32) (x11 : FVec Ideal S64 .f32) (x12 : FVec Ideal S3x64x128 .f32) (x13 : FVec Ideal S3x128 .f32) (x14 : FVec Ideal S3x384x128 .f32) (x15 : FVec Ideal S3x128 .f32) (x16 : FVec Ideal S3x384x128 .f32) (x17 : FVec Ideal S3x128 .f32) (x18 : FVec Ideal S384 .f32) (x19 : FVec Ideal S384 .f32) (x20 : FVec Ideal S416x128 .f32) (x21 : FVec Ideal S128 .f32) (x22 : FVec Ideal S128x5 .f32) (x23 : FVec Ideal S5 .f32) (y0 : FVec Ideal S3072x1000 .f32) (y1 : FVec Ideal S256x32 .f32) (y2 : IVec S3072 32) (y3 : IVec S2x33792 32) (y4 : FVec Ideal S64x1x7 .f32) (y5 : FVec Ideal S64 .f32) (y6 : FVec Ideal S64x64x3 .f32) (y7 : FVec Ideal S64 .f32) (y8 : FVec Ideal S64x64x3 .f32) (y9 : FVec Ideal S64 .f32) (y10 : FVec Ideal S64x64 .f32) (y11 : FVec Ideal S64 .f32) (y12 : FVec Ideal S3x64x128 .f32) (y13 : FVec Ideal S3x128 .f32) (y14 : FVec Ideal S3x384x128 .f32) (y15 : FVec Ideal S3x128 .f32) (y16 : FVec Ideal S3x384x128 .f32) (y17 : FVec Ideal S3x128 .f32) (y18 : FVec Ideal S384 .f32) (y19 : FVec Ideal S384 .f32) (y20 : FVec Ideal S416x128 .f32) (y21 : FVec Ideal S128 .f32) (y22 : FVec Ideal S128x5 .f32) (y23 : FVec Ideal S5 .f32)
    (e0 : x0 = y0)
    (e1 : x1 = y1)
    (e2 : x2 = y2)
    (e3 : x3 = y3)
    (e4 : x4 = y4)
    (e5 : x5 = y5)
    (e6 : x6 = y6)
    (e7 : x7 = y7)
    (e8 : x8 = y8)
    (e9 : x9 = y9)
    (e10 : x10 = y10)
    (e11 : x11 = y11)
    (e12 : x12 = y12)
    (e13 : x13 = y13)
    (e14 : x14 = y14)
    (e15 : x15 = y15)
    (e16 : x16 = y16)
    (e17 : x17 = y17)
    (e18 : x18 = y18)
    (e19 : x19 = y19)
    (e20 : x20 = y20)
    (e21 : x21 = y21)
    (e22 : x22 = y22)
    (e23 : x23 = y23)
    (h : Meets y0 y1 y2 y3 y4 y5 y6 y7 y8 y9 y10 y11 y12 y13 y14 y15 y16 y17 y18 y19 y20 y21 y22 y23) :
    val_main_v375 (F := Ideal) x0 x1 x2 x3 x4 x5 x6 x7 x8 x9 x10 x11 x12 x13 x14 x15 x16 x17 x18 x19 x20 x21 x22 x23 = fun y => (net y0 y1 y4 y5 y6 y7 y8 y9 y10 y11 y12 y13 y14 y15 y16 y17 y18 y19 y20 y21 y22 y23).answer (y 0) (y 1) := by
  subst e0 e1 e2 e3 e4 e5 e6 e7 e8 e9 e10 e11 e12 e13 e14 e15 e16 e17 e18 e19 e20 e21 e22 e23
  exact value x0 x1 x2 x3 x4 x5 x6 x7 x8 x9 x10 x11 x12 x13 x14 x15 x16 x17 x18 x19 x20 x21 x22 x23 h

end Cert.ReferenceIdeal.Final
-- ==== Proof.Joined.lean ====
/- The two programs end with the same result. -/
module

public import proofs.«01_k».proof.Proof.Final
public import proofs.«01_k».proof.Proof.RefRun

@[expose] public section

set_option maxRecDepth 16384

noncomputable section

namespace Cert.Joined

open Cert Idealize.ShloMosaic Idealize.ShloMosaic.TcCoe Cert.ReferenceIdeal.Read Cert.Spec

variable (m : (ℓ : Loc KernelIdeal.nD KernelIdeal.τ KernelIdeal.sig) → Buf (Elt Ideal) ℓ) (ρ : Dev KernelIdeal.nD → PrngReg)

/-- The kernel's network is the reference's at the kernel's arguments. -/
theorem same_net (c : Dev KernelIdeal.nD) : KernelIdeal.Final.net m c = ReferenceIdeal.Final.net (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) (m ((c.tc : Thread KernelIdeal.nD KernelIdeal.τ).loc KernelIdeal.main_arg11)) (m ((c.tc : Thread KernelIdeal.nD KernelIdeal.τ).loc KernelIdeal.main_arg12)) (m ((c.tc : Thread KernelIdeal.nD KernelIdeal.τ).loc KernelIdeal.main_arg13)) (m ((c.tc : Thread KernelIdeal.nD KernelIdeal.τ).loc KernelIdeal.main_arg14)) (m ((c.tc : Thread KernelIdeal.nD KernelIdeal.τ).loc KernelIdeal.main_arg15)) (m ((c.tc : Thread KernelIdeal.nD KernelIdeal.τ).loc KernelIdeal.main_arg16)) (m ((c.tc : Thread KernelIdeal.nD KernelIdeal.τ).loc KernelIdeal.main_arg17)) (m ((c.tc : Thread KernelIdeal.nD KernelIdeal.τ).loc KernelIdeal.main_arg18)) (m ((c.tc : Thread KernelIdeal.nD KernelIdeal.τ).loc KernelIdeal.main_arg19)) (m ((c.tc : Thread KernelIdeal.nD KernelIdeal.τ).loc KernelIdeal.main_arg20)) (m ((c.tc : Thread KernelIdeal.nD KernelIdeal.τ).loc KernelIdeal.main_arg21)) (m ((c.tc : Thread KernelIdeal.nD KernelIdeal.τ).loc KernelIdeal.main_arg22)) (m ((c.tc : Thread KernelIdeal.nD KernelIdeal.τ).loc KernelIdeal.main_arg23)) := rfl

/-- The kernel's result under the precondition, as the network of the reference at the kernel's arguments. -/
theorem kernel_value (c : Dev KernelIdeal.nD) (h : ReferenceIdeal.Final.Meets (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) (m ((c.tc : Thread KernelIdeal.nD KernelIdeal.τ).loc KernelIdeal.main_arg11)) (m ((c.tc : Thread KernelIdeal.nD KernelIdeal.τ).loc KernelIdeal.main_arg12)) (m ((c.tc : Thread KernelIdeal.nD KernelIdeal.τ).loc KernelIdeal.main_arg13)) (m ((c.tc : Thread KernelIdeal.nD KernelIdeal.τ).loc KernelIdeal.main_arg14)) (m ((c.tc : Thread KernelIdeal.nD KernelIdeal.τ).loc KernelIdeal.main_arg15)) (m ((c.tc : Thread KernelIdeal.nD KernelIdeal.τ).loc KernelIdeal.main_arg16)) (m ((c.tc : Thread KernelIdeal.nD KernelIdeal.τ).loc KernelIdeal.main_arg17)) (m ((c.tc : Thread KernelIdeal.nD KernelIdeal.τ).loc KernelIdeal.main_arg18)) (m ((c.tc : Thread KernelIdeal.nD KernelIdeal.τ).loc KernelIdeal.main_arg19)) (m ((c.tc : Thread KernelIdeal.nD KernelIdeal.τ).loc KernelIdeal.main_arg20)) (m ((c.tc : Thread KernelIdeal.nD KernelIdeal.τ).loc KernelIdeal.main_arg21)) (m ((c.tc : Thread KernelIdeal.nD KernelIdeal.τ).loc KernelIdeal.main_arg22)) (m ((c.tc : Thread KernelIdeal.nD KernelIdeal.τ).loc KernelIdeal.main_arg23))) :
    (KernelIdeal.Run.result m ρ c : FVec Ideal KernelIdeal.S256x5 .f32)
      = fun y => (ReferenceIdeal.Final.net (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) (m ((c.tc : Thread KernelIdeal.nD KernelIdeal.τ).loc KernelIdeal.main_arg11)) (m ((c.tc : Thread KernelIdeal.nD KernelIdeal.τ).loc KernelIdeal.main_arg12)) (m ((c.tc : Thread KernelIdeal.nD KernelIdeal.τ).loc KernelIdeal.main_arg13)) (m ((c.tc : Thread KernelIdeal.nD KernelIdeal.τ).loc KernelIdeal.main_arg14)) (m ((c.tc : Thread KernelIdeal.nD KernelIdeal.τ).loc KernelIdeal.main_arg15)) (m ((c.tc : Thread KernelIdeal.nD KernelIdeal.τ).loc KernelIdeal.main_arg16)) (m ((c.tc : Thread KernelIdeal.nD KernelIdeal.τ).loc KernelIdeal.main_arg17)) (m ((c.tc : Thread KernelIdeal.nD KernelIdeal.τ).loc KernelIdeal.main_arg18)) (m ((c.tc : Thread KernelIdeal.nD KernelIdeal.τ).loc KernelIdeal.main_arg19)) (m ((c.tc : Thread KernelIdeal.nD KernelIdeal.τ).loc KernelIdeal.main_arg20)) (m ((c.tc : Thread KernelIdeal.nD KernelIdeal.τ).loc KernelIdeal.main_arg21)) (m ((c.tc : Thread KernelIdeal.nD KernelIdeal.τ).loc KernelIdeal.main_arg22)) (m ((c.tc : Thread KernelIdeal.nD KernelIdeal.τ).loc KernelIdeal.main_arg23))).answer (y 0) (y 1) := by
  have F := ReferenceIdeal.Final.finite _ _ _ _ _ _ _ _ _ _ _ _ _ _ _ _ _ _ _ _ _ _ _ _ h
  rw [← same_net] at F ⊢
  exact KernelIdeal.Final.value m ρ c F (Pre_graph_of_twelves.batch_words _ _ _ _ _ _ _ _ _ _ _ _ _ _ _ _ _ _ _ _ _ _ _ _ h.1)

end Cert.Joined
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Joined
public import Idealize.ShloMosaic.Adequacy
public import Idealize.ShloMosaic.Init

@[expose] public section

set_option maxRecDepth 16384
set_option maxHeartbeats 40000000

noncomputable section

namespace Cert.Proof

open Idealize.ShloMosaic Idealize.SL.Sem

/-- The kernel runs, on words of bits, leaves its arguments and every semaphore as they were. -/
theorem frame_kernel : Cert.quiescent_Kernel := fun m ρ _ => Cert.Kernel.Gen.frame m ρ

/-- So does the idealized kernel, over the extended reals. -/
theorem frame_ideal : Cert.quiescent_KernelIdeal := fun m ρ _ => Cert.KernelIdeal.Gen.frame m ρ

/-- And under the precondition. -/
theorem frame_ideal_met : Cert.quiescent_KernelIdeal_pre_graph_of_twelves := fun m ρ _ => Cert.KernelIdeal.Gen.frame m ρ

/-- The reference runs and leaves its arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Final.run m ρ)

/-- And under the precondition. -/
theorem frame_reference_met : Cert.quiescent_ReferenceIdeal_pre_graph_of_twelves := fun m ρ _ =>
  frame_reference m ρ trivial

/-- The reciprocal the kernel multiplies by to take a mean over 62 positions is the constant named 1/62. -/
theorem preserves : Cert.preserves_Kernel_KernelIdeal :=
  IdealRules.named_const.statement Cert.KernelIdeal.κ "inv62" .f32 0x3C842108#32 ((1 / 62 : ℝ) : EReal) rfl

/-- Under the precondition both programs end with the network's answer. -/
theorem algebraic : Cert.algebraic_KernelIdeal_ReferenceIdeal_pre_graph_of_twelves := by
  intro m g m' g' met same
  refine ⟨fun c => Cert.KernelIdeal.Run.result m g c, Cert.KernelIdeal.Run.run m g,
    (θ_run Cert.ReferenceIdeal.defs _ _).mono (fun r h c => ⟨(h c).1.trans ?_, (h c).2⟩) (Cert.ReferenceIdeal.Final.run m' g')⟩
  obtain ⟨h0, h1, h2, h3, h4, h5, h6, h7, h8, h9, h10, h11, h12, h13, h14, h15, h16, h17, h18, h19, h20, h21, h22, h23⟩ := same c
  exact (Cert.ReferenceIdeal.Final.agree _ _ _ _ _ _ _ _ _ _ _ _ _ _ _ _ _ _ _ _ _ _ _ _ _ _ _ _ _ _ _ _ _ _ _ _ _ _ _ _ _ _ _ _ _ _ _ _
    h0 h1 h2 h3 h4 h5 h6 h7 h8 h9 h10 h11 h12 h13 h14 h15 h16 h17 h18 h19 h20 h21 h22 h23 (met c)).trans
    (Cert.Joined.kernel_value m g c (met c)).symm

theorem claim : Cert.Claim :=
  ⟨Cert.Kernel.Gen.facts, Cert.KernelIdeal.Gen.facts, Cert.ReferenceIdeal.Gen.facts, Cert.Pre_graph_of_twelves.facts,
    frame_kernel, frame_ideal, frame_ideal_met, frame_reference, frame_reference_met, preserves, algebraic⟩

end Cert.Proof

end
